-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Select (m : (ℓ : Loc Cert.Select.nD Cert.Select.τ Cert.Select.sig) → Buf (Elt Bits) ℓ) : Prop :=
  True

def Pre_SelectIdeal (m : (ℓ : Loc Cert.SelectIdeal.nD Cert.SelectIdeal.τ Cert.SelectIdeal.sig) → Buf (Elt Ideal) ℓ) : Prop :=
  True

def Pre_SelectRefIdeal (m : (ℓ : Loc Cert.SelectRefIdeal.nD Cert.SelectRefIdeal.τ Cert.SelectRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12))
      ∧ r.2.sem = fun _ => 0)

def quiescent_Select [hSelect : Cert.Select.Facts] : Prop :=
  ∀ (m : (ℓ : Loc Cert.Select.nD Cert.Select.τ Cert.Select.sig) → Buf (Elt Bits) ℓ) (g : Dev Cert.Select.nD → PrngReg), Pre_Select m →
    θ_run (Cert.Select.defs (F := Bits)) (onTc (τ := Cert.Select.τ) (Cert.Select.main (F := Bits))) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0)
      ∧ r.2.mem ((c.tc : Thread Cert.Select.nD Cert.Select.τ).loc Cert.Select.main_arg1) = m ((c.tc : Thread Cert.Select.nD Cert.Select.τ).loc Cert.Select.main_arg1)
      ∧ r.2.mem ((c.tc : Thread Cert.Select.nD Cert.Select.τ).loc Cert.Select.main_arg2) = m ((c.tc : Thread Cert.Select.nD Cert.Select.τ).loc Cert.Select.main_arg2))
      ∧ r.2.sem = fun _ => 0)

def quiescent_SelectIdeal [hSelectIdeal : Cert.SelectIdeal.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1)
      ∧ r.2.mem ((c.tc : Thread Cert.SelectIdeal.nD Cert.SelectIdeal.τ).loc Cert.SelectIdeal.main_arg2) = m ((c.tc : Thread Cert.SelectIdeal.nD Cert.SelectIdeal.τ).loc Cert.SelectIdeal.main_arg2))
      ∧ r.2.sem = fun _ => 0)

def quiescent_SelectRefIdeal [hSelectRefIdeal : Cert.SelectRefIdeal.Facts] : Prop :=
  ∀ (m : (ℓ : Loc Cert.SelectRefIdeal.nD Cert.SelectRefIdeal.τ Cert.SelectRefIdeal.sig) → Buf (Elt Ideal) ℓ) (g : Dev Cert.SelectRefIdeal.nD → PrngReg), Pre_SelectRefIdeal m →
    θ_run (Cert.SelectRefIdeal.defs (F := Ideal)) (onTc (τ := Cert.SelectRefIdeal.τ) (Cert.SelectRefIdeal.main (F := Ideal))) ⟨m, fun _ => 0, g⟩ (fun r => (∀ c : Dev Cert.SelectRefIdeal.nD,
      r.2.mem ((c.tc : Thread Cert.SelectRefIdeal.nD Cert.SelectRefIdeal.τ).loc Cert.SelectRefIdeal.main_arg0) = m ((c.tc : Thread Cert.SelectRefIdeal.nD Cert.SelectRefIdeal.τ).loc Cert.SelectRefIdeal.main_arg0)
      ∧ r.2.mem ((c.tc : Thread Cert.SelectRefIdeal.nD Cert.SelectRefIdeal.τ).loc Cert.SelectRefIdeal.main_arg1) = m ((c.tc : Thread Cert.SelectRefIdeal.nD Cert.SelectRefIdeal.τ).loc Cert.SelectRefIdeal.main_arg1)
      ∧ r.2.mem ((c.tc : Thread Cert.SelectRefIdeal.nD Cert.SelectRefIdeal.τ).loc Cert.SelectRefIdeal.main_arg2) = m ((c.tc : Thread Cert.SelectRefIdeal.nD Cert.SelectRefIdeal.τ).loc Cert.SelectRefIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Inproj_InprojIdeal : Prop :=
  True

def algebraic_InprojIdeal_InprojRefIdeal_on_finite_heads [hInprojIdeal : Cert.InprojIdeal.Facts] [hInprojRefIdeal : Cert.InprojRefIdeal.Facts] [hOn_finite_heads : Cert.On_finite_heads.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)) →
    ∃ (v0 : (c : Dev Cert.InprojIdeal.nD) → Buf (Elt Ideal) ((c.tc : Thread Cert.InprojIdeal.nD Cert.InprojIdeal.τ).loc Cert.InprojIdeal.main_v20_0)) (v1 : (c : Dev Cert.InprojIdeal.nD) → Buf (Elt Ideal) ((c.tc : Thread Cert.InprojIdeal.nD Cert.InprojIdeal.τ).loc Cert.InprojIdeal.main_v20_1)) (v2 : (c : Dev Cert.InprojIdeal.nD) → Buf (Elt Ideal) ((c.tc : Thread Cert.InprojIdeal.nD Cert.InprojIdeal.τ).loc Cert.InprojIdeal.main_v20_2)) (v3 : (c : Dev Cert.InprojIdeal.nD) → Buf (Elt Ideal) ((c.tc : Thread Cert.InprojIdeal.nD Cert.InprojIdeal.τ).loc Cert.InprojIdeal.main_v20_3)) (v4 : (c : Dev Cert.InprojIdeal.nD) → Buf (Elt Ideal) ((c.tc : Thread Cert.InprojIdeal.nD Cert.InprojIdeal.τ).loc Cert.InprojIdeal.main_v20_4)) (v5 : (c : Dev Cert.InprojIdeal.nD) → Buf (Elt Ideal) ((c.tc : Thread Cert.InprojIdeal.nD Cert.InprojIdeal.τ).loc Cert.InprojIdeal.main_v20_5)) (v6 : (c : Dev Cert.InprojIdeal.nD) → Buf (Elt Ideal) ((c.tc : Thread Cert.InprojIdeal.nD Cert.InprojIdeal.τ).loc Cert.InprojIdeal.main_v20_6)) (v7 : (c : Dev Cert.InprojIdeal.nD) → Buf (Elt Ideal) ((c.tc : Thread Cert.InprojIdeal.nD Cert.InprojIdeal.τ).loc Cert.InprojIdeal.main_v20_7)) (v8 : (c : Dev Cert.InprojIdeal.nD) → Buf (Elt Ideal) ((c.tc : Thread Cert.InprojIdeal.nD Cert.InprojIdeal.τ).loc Cert.InprojIdeal.main_v20_8)) (v9 : (c : Dev Cert.InprojIdeal.nD) → Buf (Elt Ideal) ((c.tc : Thread Cert.InprojIdeal.nD Cert.InprojIdeal.τ).loc Cert.InprojIdeal.main_v20_9)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          (∀ i : (⟨3, ![4, 8192, 512]⟩ : Shape).Idx, (Cert.On_finite_heads.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6))).1 i = 1#1 → r.2.mem ((c.tc : Thread Cert.InprojIdeal.nD Cert.InprojIdeal.τ).loc Cert.InprojIdeal.main_v20_0) i = v0 c i)
          ∧ (∀ i : (⟨3, ![4, 8192, 512]⟩ : Shape).Idx, (Cert.On_finite_heads.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6))).2.1 i = 1#1 → r.2.mem ((c.tc : Thread Cert.InprojIdeal.nD Cert.InprojIdeal.τ).loc Cert.InprojIdeal.main_v20_1) i = v1 c i)
          ∧ (∀ i : (⟨3, ![4, 8192, 512]⟩ : Shape).Idx, (Cert.On_finite_heads.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6))).2.2.1 i = 1#1 → r.2.mem ((c.tc : Thread Cert.InprojIdeal.nD Cert.InprojIdeal.τ).loc Cert.InprojIdeal.main_v20_2) i = v2 c i)
          ∧ (∀ i : (⟨3, ![4, 512, 8192]⟩ : Shape).Idx, (Cert.On_finite_heads.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6))).2.2.2.1 i = 1#1 → r.2.mem ((c.tc : Thread Cert.InprojIdeal.nD Cert.InprojIdeal.τ).loc Cert.InprojIdeal.main_v20_3) i = v3 c i)
          ∧ (∀ i : (⟨4, ![4, 32, 1, 512]⟩ : Shape).Idx, (Cert.On_finite_heads.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6))).2.2.2.2.1 i = 1#1 → r.2.mem ((c.tc : Thread Cert.InprojIdeal.nD Cert.InprojIdeal.τ).loc Cert.InprojIdeal.main_v20_4) i = v4 c i)
          ∧ (∀ i : (⟨3, ![4, 8192, 256]⟩ : Shape).Idx, (Cert.On_finite_heads.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6))).2.2.2.2.2.1 i = 1#1 → r.2.mem ((c.tc : Thread Cert.InprojIdeal.nD Cert.InprojIdeal.τ).loc Cert.InprojIdeal.main_v20_5) i = v5 c i)
          ∧ (∀ i : (⟨3, ![4, 8192, 256]⟩ : Shape).Idx, (Cert.On_finite_heads.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6))).2.2.2.2.2.2.1 i = 1#1 → r.2.mem ((c.tc : Thread Cert.InprojIdeal.nD Cert.InprojIdeal.τ).loc Cert.InprojIdeal.main_v20_6) i = v6 c i)
          ∧ (∀ i : (⟨3, ![4, 8192, 512]⟩ : Shape).Idx, (Cert.On_finite_heads.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6))).2.2.2.2.2.2.2.1 i = 1#1 → r.2.mem ((c.tc : Thread Cert.InprojIdeal.nD Cert.InprojIdeal.τ).loc Cert.InprojIdeal.main_v20_7) i = v7 c i)
          ∧ (∀ i : (⟨3, ![4, 8192, 512]⟩ : Shape).Idx, (Cert.On_finite_heads.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6))).2.2.2.2.2.2.2.2.1 i = 1#1 → r.2.mem ((c.tc : Thread Cert.InprojIdeal.nD Cert.InprojIdeal.τ).loc Cert.InprojIdeal.main_v20_8) i = v8 c i)
          ∧ (∀ i : (⟨3, ![4, 8192, 128]⟩ : Shape).Idx, (Cert.On_finite_heads.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6))).2.2.2.2.2.2.2.2.2 i = 1#1 → r.2.mem ((c.tc : Thread Cert.InprojIdeal.nD Cert.InprojIdeal.τ).loc Cert.InprojIdeal.main_v20_9) i = v9 c i)
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          (∀ i : (⟨3, ![4, 8192, 512]⟩ : Shape).Idx, (Cert.On_finite_heads.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6))).1 i = 1#1 → r.2.mem ((c.tc : Thread Cert.InprojRefIdeal.nD Cert.InprojRefIdeal.τ).loc Cert.InprojRefIdeal.main_v85) i = v0 c i)
          ∧ (∀ i : (⟨3, ![4, 8192, 512]⟩ : Shape).Idx, (Cert.On_finite_heads.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6))).2.1 i = 1#1 → r.2.mem ((c.tc : Thread Cert.InprojRefIdeal.nD Cert.InprojRefIdeal.τ).loc Cert.InprojRefIdeal.main_v87) i = v1 c i)
          ∧ (∀ i : (⟨3, ![4, 8192, 512]⟩ : Shape).Idx, (Cert.On_finite_heads.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6))).2.2.1 i = 1#1 → r.2.mem ((c.tc : Thread Cert.InprojRefIdeal.nD Cert.InprojRefIdeal.τ).loc Cert.InprojRefIdeal.main_v89) i = v2 c i)
          ∧ (∀ i : (⟨3, ![4, 512, 8192]⟩ : Shape).Idx, (Cert.On_finite_heads.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6))).2.2.2.1 i = 1#1 → r.2.mem ((c.tc : Thread Cert.InprojRefIdeal.nD Cert.InprojRefIdeal.τ).loc Cert.InprojRefIdeal.main_v91) i = v3 c i)
          ∧ (∀ i : (⟨4, ![4, 32, 1, 512]⟩ : Shape).Idx, (Cert.On_finite_heads.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6))).2.2.2.2.1 i = 1#1 → r.2.mem ((c.tc : Thread Cert.InprojRefIdeal.nD Cert.InprojRefIdeal.τ).loc Cert.InprojRefIdeal.main_v92) i = v4 c i)
          ∧ (∀ i : (⟨3, ![4, 8192, 256]⟩ : Shape).Idx, (Cert.On_finite_heads.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6))).2.2.2.2.2.1 i = 1#1 → r.2.mem ((c.tc : Thread Cert.InprojRefIdeal.nD Cert.InprojRefIdeal.τ).loc Cert.InprojRefIdeal.main_v20) i = v5 c i)
          ∧ (∀ i : (⟨3, ![4, 8192, 256]⟩ : Shape).Idx, (Cert.On_finite_heads.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6))).2.2.2.2.2.2.1 i = 1#1 → r.2.mem ((c.tc : Thread Cert.InprojRefIdeal.nD Cert.InprojRefIdeal.τ).loc Cert.InprojRefIdeal.main_v21) i = v6 c i)
          ∧ (∀ i : (⟨3, ![4, 8192, 512]⟩ : Shape).Idx, (Cert.On_finite_heads.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6))).2.2.2.2.2.2.2.1 i = 1#1 → r.2.mem ((c.tc : Thread Cert.InprojRefIdeal.nD Cert.InprojRefIdeal.τ).loc Cert.InprojRefIdeal.main_v22) i = v7 c i)
          ∧ (∀ i : (⟨3, ![4, 8192, 512]⟩ : Shape).Idx, (Cert.On_finite_heads.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6))).2.2.2.2.2.2.2.2.1 i = 1#1 → r.2.mem ((c.tc : Thread Cert.InprojRefIdeal.nD Cert.InprojRefIdeal.τ).loc Cert.InprojRefIdeal.main_v23) i = v8 c i)
          ∧ (∀ i : (⟨3, ![4, 8192, 128]⟩ : Shape).Idx, (Cert.On_finite_heads.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6))).2.2.2.2.2.2.2.2.2 i = 1#1 → r.2.mem ((c.tc : Thread Cert.InprojRefIdeal.nD Cert.InprojRefIdeal.τ).loc Cert.InprojRefIdeal.main_v93) i = v9 c i)
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)) →
    ∃ (v0 : (c : Dev Cert.MergeIdeal.nD) → Buf (Elt Ideal) ((c.tc : Thread Cert.MergeIdeal.nD Cert.MergeIdeal.τ).loc Cert.MergeIdeal.main_v14_0)) (v1 : (c : Dev Cert.MergeIdeal.nD) → Buf (Elt Ideal) ((c.tc : Thread Cert.MergeIdeal.nD Cert.MergeIdeal.τ).loc Cert.MergeIdeal.main_v14_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v14_0) = v0 c
          ∧ r.2.mem ((c.tc : Thread Cert.MergeIdeal.nD Cert.MergeIdeal.τ).loc Cert.MergeIdeal.main_v14_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v60) = v0 c
          ∧ r.2.mem ((c.tc : Thread Cert.MergeRefIdeal.nD Cert.MergeRefIdeal.τ).loc Cert.MergeRefIdeal.main_v74) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12))

def preserves_Select_SelectIdeal : Prop :=
  True

def algebraic_SelectIdeal_SelectRefIdeal [hSelectIdeal : Cert.SelectIdeal.Facts] [hSelectRefIdeal : Cert.SelectRefIdeal.Facts] : Prop :=
  ∀ (m : (ℓ : Loc Cert.SelectIdeal.nD Cert.SelectIdeal.τ Cert.SelectIdeal.sig) → Buf (Elt Ideal) ℓ) (g : Dev Cert.SelectIdeal.nD → PrngReg)
    (m' : (ℓ : Loc Cert.SelectRefIdeal.nD Cert.SelectRefIdeal.τ Cert.SelectRefIdeal.sig) → Buf (Elt Ideal) ℓ) (g' : Dev Cert.SelectRefIdeal.nD → PrngReg), Pre_SelectIdeal m →
    (∀ c : Dev Cert.SelectIdeal.nD,
      m' ((c.tc : Thread Cert.SelectRefIdeal.nD Cert.SelectRefIdeal.τ).loc Cert.SelectRefIdeal.main_arg0) = m ((c.tc : Thread Cert.SelectIdeal.nD Cert.SelectIdeal.τ).loc Cert.SelectIdeal.main_arg0)
      ∧ m' ((c.tc : Thread Cert.SelectRefIdeal.nD Cert.SelectRefIdeal.τ).loc Cert.SelectRefIdeal.main_arg1) = m ((c.tc : Thread Cert.SelectIdeal.nD Cert.SelectIdeal.τ).loc Cert.SelectIdeal.main_arg1)
      ∧ m' ((c.tc : Thread Cert.SelectRefIdeal.nD Cert.SelectRefIdeal.τ).loc Cert.SelectRefIdeal.main_arg2) = m ((c.tc : Thread Cert.SelectIdeal.nD Cert.SelectIdeal.τ).loc Cert.SelectIdeal.main_arg2)) →
    ∃ (v0 : (c : Dev Cert.SelectIdeal.nD) → Buf (Elt Ideal) ((c.tc : Thread Cert.SelectIdeal.nD Cert.SelectIdeal.τ).loc Cert.SelectIdeal.main_v0_1)),
      θ_run (Cert.SelectIdeal.defs (F := Ideal)) (onTc (τ := Cert.SelectIdeal.τ) (Cert.SelectIdeal.main (F := Ideal))) ⟨m, fun _ => 0, g⟩ (fun r => ∀ c : Dev Cert.SelectIdeal.nD,
          r.2.mem ((c.tc : Thread Cert.SelectIdeal.nD Cert.SelectIdeal.τ).loc Cert.SelectIdeal.main_v0_1) = v0 c
          ∧ r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
          ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1)
          ∧ r.2.mem ((c.tc : Thread Cert.SelectIdeal.nD Cert.SelectIdeal.τ).loc Cert.SelectIdeal.main_arg2) = m ((c.tc : Thread Cert.SelectIdeal.nD Cert.SelectIdeal.τ).loc Cert.SelectIdeal.main_arg2))
      ∧ θ_run (Cert.SelectRefIdeal.defs (F := Ideal)) (onTc (τ := Cert.SelectRefIdeal.τ) (Cert.SelectRefIdeal.main (F := Ideal))) ⟨m', fun _ => 0, g'⟩ (fun r => ∀ c : Dev Cert.SelectRefIdeal.nD,
          r.2.mem ((c.tc : Thread Cert.SelectRefIdeal.nD Cert.SelectRefIdeal.τ).loc Cert.SelectRefIdeal.main_v16) = v0 c
          ∧ r.2.mem ((c.tc : Thread Cert.SelectRefIdeal.nD Cert.SelectRefIdeal.τ).loc Cert.SelectRefIdeal.main_arg0) = m' ((c.tc : Thread Cert.SelectRefIdeal.nD Cert.SelectRefIdeal.τ).loc Cert.SelectRefIdeal.main_arg0)
          ∧ r.2.mem ((c.tc : Thread Cert.SelectRefIdeal.nD Cert.SelectRefIdeal.τ).loc Cert.SelectRefIdeal.main_arg1) = m' ((c.tc : Thread Cert.SelectRefIdeal.nD Cert.SelectRefIdeal.τ).loc Cert.SelectRefIdeal.main_arg1)
          ∧ r.2.mem ((c.tc : Thread Cert.SelectRefIdeal.nD Cert.SelectRefIdeal.τ).loc Cert.SelectRefIdeal.main_arg2) = m' ((c.tc : Thread Cert.SelectRefIdeal.nD Cert.SelectRefIdeal.τ).loc Cert.SelectRefIdeal.main_arg2))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hInprojRefIdeal : Cert.InprojRefIdeal.Facts) (hMerge : Cert.Merge.Facts) (hMergeIdeal : Cert.MergeIdeal.Facts) (hMergeRefIdeal : Cert.MergeRefIdeal.Facts) (hSelect : Cert.Select.Facts) (hSelectIdeal : Cert.SelectIdeal.Facts) (hSelectRefIdeal : Cert.SelectRefIdeal.Facts) (hOn_finite_heads : Cert.On_finite_heads.Facts),
    quiescent_Kernel (hKernel := hKernel)
    ∧ quiescent_KernelIdeal (hKernelIdeal := hKernelIdeal)
    ∧ quiescent_ReferenceIdeal (hReferenceIdeal := hReferenceIdeal)
    ∧ quiescent_Inproj (hInproj := hInproj)
    ∧ quiescent_InprojIdeal (hInprojIdeal := hInprojIdeal)
    ∧ quiescent_InprojRefIdeal (hInprojRefIdeal := hInprojRefIdeal)
    ∧ quiescent_Merge (hMerge := hMerge)
    ∧ quiescent_MergeIdeal (hMergeIdeal := hMergeIdeal)
    ∧ quiescent_MergeRefIdeal (hMergeRefIdeal := hMergeRefIdeal)
    ∧ quiescent_Select (hSelect := hSelect)
    ∧ quiescent_SelectIdeal (hSelectIdeal := hSelectIdeal)
    ∧ quiescent_SelectRefIdeal (hSelectRefIdeal := hSelectRefIdeal)
    ∧ preserves_Kernel_KernelIdeal
    ∧ algebraic_KernelIdeal_ReferenceIdeal (hKernelIdeal := hKernelIdeal) (hReferenceIdeal := hReferenceIdeal)
    ∧ preserves_Inproj_InprojIdeal
    ∧ algebraic_InprojIdeal_InprojRefIdeal_on_finite_heads (hInprojIdeal := hInprojIdeal) (hInprojRefIdeal := hInprojRefIdeal) (hOn_finite_heads := hOn_finite_heads)
    ∧ preserves_Merge_MergeIdeal
    ∧ algebraic_MergeIdeal_MergeRefIdeal (hMergeIdeal := hMergeIdeal) (hMergeRefIdeal := hMergeRefIdeal)
    ∧ preserves_Select_SelectIdeal
    ∧ algebraic_SelectIdeal_SelectRefIdeal (hSelectIdeal := hSelectIdeal) (hSelectRefIdeal := hSelectRefIdeal)
-- ==== On_finite_heads.lean ====
abbrev S4x8192x1024 : Shape := ⟨3, ![4, 8192, 1024]⟩
abbrev S1024 : Shape := ⟨1, ![1024]⟩
abbrev S1024x4624 : Shape := ⟨2, ![1024, 4624]⟩
abbrev S3x512 : Shape := ⟨2, ![3, 512]⟩
abbrev S512 : Shape := ⟨1, ![512]⟩
abbrev S64 : Shape := ⟨1, ![64]⟩
abbrev S_ : Shape := ⟨0, ![]⟩
abbrev S4x8192x512 : Shape := ⟨3, ![4, 8192, 512]⟩
abbrev S4x512x8192 : Shape := ⟨3, ![4, 512, 8192]⟩
abbrev S4x32x1x512 : Shape := ⟨4, ![4, 32, 1, 512]⟩
abbrev S4x8192x256 : Shape := ⟨3, ![4, 8192, 256]⟩
abbrev S4x8192x128 : Shape := ⟨3, ![4, 8192, 128]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x4624 : S_.BroadcastsInDim S1024x4624 (![] : Fin 0 → Fin S1024x4624.rank)
  reducesTo_S1024x4624_S_d0_1 : S1024x4624.ReducesTo [0, 1] S_
  bcast_S_S4x8192x512 : S_.BroadcastsInDim S4x8192x512 (![] : Fin 0 → Fin S4x8192x512.rank)
  bcast_S_S4x512x8192 : S_.BroadcastsInDim S4x512x8192 (![] : Fin 0 → Fin S4x512x8192.rank)
  bcast_S_S4x32x1x512 : S_.BroadcastsInDim S4x32x1x512 (![] : Fin 0 → Fin S4x32x1x512.rank)
  bcast_S_S4x8192x256 : S_.BroadcastsInDim S4x8192x256 (![] : Fin 0 → Fin S4x8192x256.rank)
  bcast_S_S4x8192x128 : S_.BroadcastsInDim S4x8192x128 (![] : Fin 0 → Fin S4x8192x128.rank)

variable [Facts]

def fn_part1 {F : FTy → Type} [FloatOps F] (main_v13 : IVec S_ 1) (main_v14 : IVec S4x8192x512 1) (main_v15 : IVec S4x8192x512 1) (main_v16 : IVec S4x8192x512 1) : IVec S4x8192x512 1 × IVec S4x8192x512 1 × IVec S4x8192x512 1 × IVec S4x512x8192 1 × IVec S4x32x1x512 1 × IVec S4x8192x256 1 × IVec S4x8192x256 1 × IVec S4x8192x512 1 × IVec S4x8192x512 1 × IVec S4x8192x128 1 :=
  let main_c_5 : IVec S_ 1 := constantI S_ 1 1#1
  let main_v17 : IVec S4x512x8192 1 := broadcastInDim S4x512x8192 ![] bcast_S_S4x512x8192 main_c_5
  let main_v18 : IVec S4x32x1x512 1 := broadcastInDim S4x32x1x512 ![] bcast_S_S4x32x1x512 main_v13
  let main_c_6 : IVec S_ 1 := constantI S_ 1 1#1
  let main_v19 : IVec S4x8192x256 1 := broadcastInDim S4x8192x256 ![] bcast_S_S4x8192x256 main_c_6
  let main_c_7 : IVec S_ 1 := constantI S_ 1 1#1
  let main_v20 : IVec S4x8192x256 1 := broadcastInDim S4x8192x256 ![] bcast_S_S4x8192x256 main_c_7
  let main_c_8 : IVec S_ 1 := constantI S_ 1 1#1
  let main_v21 : IVec S4x8192x512 1 := broadcastInDim S4x8192x512 ![] bcast_S_S4x8192x512 main_c_8
  let main_c_9 : IVec S_ 1 := constantI S_ 1 1#1
  let main_v22 : IVec S4x8192x512 1 := broadcastInDim S4x8192x512 ![] bcast_S_S4x8192x512 main_c_9
  let main_c_10 : IVec S_ 1 := constantI S_ 1 1#1
  let main_v23 : IVec S4x8192x128 1 := broadcastInDim S4x8192x128 ![] bcast_S_S4x8192x128 main_c_10
  (main_v14, main_v15, main_v16, main_v17, main_v18, main_v19, main_v20, main_v21, main_v22, main_v23)

def fn {F : FTy → Type} [FloatOps F] (main_arg0 : FVec F S4x8192x1024 .f32) (main_arg1 : FVec F S1024 .f32) (main_arg2 : FVec F S1024x4624 .f32) (main_arg3 : FVec F S3x512 .f32) (main_arg4 : FVec F S512 .f32) (main_arg5 : FVec F S64 .f32) (main_arg6 : FVec F S64 .f32) : IVec S4x8192x512 1 × IVec S4x8192x512 1 × IVec S4x8192x512 1 × IVec S4x512x8192 1 × IVec S4x32x1x512 1 × IVec S4x8192x256 1 × IVec S4x8192x256 1 × IVec S4x8192x512 1 × IVec S4x8192x512 1 × IVec S4x8192x128 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x4624 .f32 := Host.absf main_arg2
  let main_cst_2 : FVec F S_ .f32 := constant S_ .f32 0x7F800000#32
  let main_v10 : FVec F S1024x4624 .f32 := broadcastInDim S1024x4624 ![] bcast_S_S1024x4624 main_cst_2
  let main_v11 : IVec S1024x4624 1 := cmpf .olt main_v9 main_v10
  let main_c_3 : IVec S_ 1 := constantI S_ 1 1#1
  let main_v12 : IVec S_ 1 := (fun x v => Host.reduce IntOp.andi x v reducesTo_S1024x4624_S_d0_1 h_S_) main_v11 main_c_3
  let main_v13 : IVec S_ 1 := andi main_v8 main_v12
  let main_c_4 : IVec S_ 1 := constantI S_ 1 1#1
  let main_v14 : IVec S4x8192x512 1 := broadcastInDim S4x8192x512 ![] bcast_S_S4x8192x512 main_c_4
  let main_v15 : IVec S4x8192x512 1 := broadcastInDim S4x8192x512 ![] bcast_S_S4x8192x512 main_v13
  let main_v16 : IVec S4x8192x512 1 := broadcastInDim S4x8192x512 ![] bcast_S_S4x8192x512 main_v13
  fn_part1 (F := F) main_v13 main_v14 main_v15 main_v16
-- ==== Kernel.lean ====
abbrev S4x8192x256 : Shape := ⟨3, ![4, 8192, 256]⟩
abbrev S4x8192x512 : Shape := ⟨3, ![4, 8192, 512]⟩
abbrev S4x8192x128 : Shape := ⟨3, ![4, 8192, 128]⟩
abbrev S16x256 : Shape := ⟨2, ![16, 256]⟩
abbrev S256 : Shape := ⟨1, ![256]⟩
abbrev S128 : Shape := ⟨1, ![128]⟩
abbrev S_ : Shape := ⟨0, ![]⟩
abbrev S128x256 : Shape := ⟨2, ![128, 256]⟩
abbrev S1x256 : Shape := ⟨2, ![1, 256]⟩
abbrev S1x128 : Shape := ⟨2, ![1, 128]⟩
abbrev S1x256x256 : Shape := ⟨3, ![1, 256, 256]⟩
abbrev S1x256x512 : Shape := ⟨3, ![1, 256, 512]⟩
abbrev S1x256x128 : Shape := ⟨3, ![1, 256, 128]⟩
abbrev S4x128x64 : Shape := ⟨3, ![4, 128, 64]⟩
abbrev S256x128 : Shape := ⟨2, ![256, 128]⟩
abbrev S256x256 : Shape := ⟨2, ![256, 256]⟩
abbrev S64x64 : Shape := ⟨2, ![64, 64]⟩
abbrev S1x128x64 : Shape := ⟨3, ![1, 128, 64]⟩
abbrev S128x64 : Shape := ⟨2, ![128, 64]⟩
abbrev S1x64 : Shape := ⟨2, ![1, 64]⟩
abbrev S1x64x128 : Shape := ⟨3, ![1, 64, 128]⟩
abbrev S64x128 : Shape := ⟨2, ![64, 128]⟩
abbrev S64 : Shape := ⟨1, ![64]⟩
abbrev S64x1 : Shape := ⟨2, ![64, 1]⟩

abbrev nBuf : Space → Nat
  | .hbm => 15
  | .vmem => 16
  | .smem => 0
  | _ => 0

abbrev bufTy : (tb : Table) → Fin (tcTables nBuf tb) → BufTy
  | .hbm, ⟨0, _⟩ => ⟨S4x8192x256, .f32⟩
  | .hbm, ⟨1, _⟩ => ⟨S4x8192x256, .f32⟩
  | .hbm, ⟨2, _⟩ => ⟨S4x8192x512, .f32⟩
  | .hbm, ⟨3, _⟩ => ⟨S4x8192x512, .f32⟩
  | .hbm, ⟨4, _⟩ => ⟨S4x8192x128, .f32⟩
  | .hbm, ⟨5, _⟩ => ⟨S16x256, .f32⟩
  | .hbm, ⟨6, _⟩ => ⟨S256, .f32⟩
  | .hbm, ⟨7, _⟩ => ⟨S128, .f32⟩
  | .hbm, ⟨8, _⟩ => ⟨S16x256, .bf16⟩
  | .hbm, ⟨9, _⟩ => ⟨S_, .i32⟩
  | .hbm, ⟨10, _⟩ => ⟨S_, .bf16⟩
  | .hbm, ⟨11, _⟩ => ⟨S128x256, .bf16⟩
  | .hbm, ⟨12, _⟩ => ⟨S1x256, .f32⟩
  | .hbm, ⟨13, _⟩ => ⟨S1x128, .f32⟩
  | .hbm, ⟨14, _⟩ => ⟨S4x8192x512, .bf16⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x128, .f32⟩
  | .local _ .vmem, ⟨9, _⟩ => ⟨S1x256x128, .f32⟩
  | .local _ .vmem, ⟨10, _⟩ => ⟨S128x256, .bf16⟩
  | .local _ .vmem, ⟨11, _⟩ => ⟨S1x256, .f32⟩
  | .local _ .vmem, ⟨12, _⟩ => ⟨S1x128, .f32⟩
  | .local _ .vmem, ⟨13, _⟩ => ⟨S1x256x512, .bf16⟩
  | .local _ .vmem, ⟨14, _⟩ => ⟨S1x256x512, .bf16⟩
  | .local _ .vmem, ⟨15, _⟩ => ⟨S4x128x64, .f32⟩
  | _, _ => ⟨S4x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S4x8192x256 : Shape := ⟨3, ![4, 8192, 256]⟩
abbrev S4x8192x512 : Shape := ⟨3, ![4, 8192, 512]⟩
abbrev S4x8192x128 : Shape := ⟨3, ![4, 8192, 128]⟩
abbrev S16x256 : Shape := ⟨2, ![16, 256]⟩
abbrev S256 : Shape := ⟨1, ![256]⟩
abbrev S128 : Shape := ⟨1, ![128]⟩
abbrev S4x8192x16 : Shape := ⟨3, ![4, 8192, 16]⟩
abbrev S4x8192x4x64 : Shape := ⟨4, ![4, 8192, 4, 64]⟩
abbrev S_ : Shape := ⟨0, ![]⟩
abbrev S4x8192x4x128 : Shape := ⟨4, ![4, 8192, 4, 128]⟩
abbrev S1x1x256 : Shape := ⟨3, ![1, 1, 256]⟩
abbrev S4x128x64x4x64 : Shape := ⟨5, ![4, 128, 64, 4, 64]⟩
abbrev S4x4x128x64x64 : Shape := ⟨5, ![4, 4, 128, 64, 64]⟩
abbrev S4x128x64x4x128 : Shape := ⟨5, ![4, 128, 64, 4, 128]⟩
abbrev S4x4x128x64x128 : Shape := ⟨5, ![4, 4, 128, 64, 128]⟩
abbrev S4x4x128x1x64 : Shape := ⟨5, ![4, 4, 128, 1, 64]⟩
abbrev S64x64 : Shape := ⟨2, ![64, 64]⟩
abbrev S4x4x128x64 : Shape := ⟨4, ![4, 4, 128, 64]⟩
abbrev S4x4x64x128 : Shape := ⟨4, ![4, 4, 64, 128]⟩
abbrev S128x4x4x64x128 : Shape := ⟨5, ![128, 4, 4, 64, 128]⟩
abbrev S128x4x4x64 : Shape := ⟨4, ![128, 4, 4, 64]⟩
abbrev S128x4x4x64x64 : Shape := ⟨5, ![128, 4, 4, 64, 64]⟩
abbrev S1x4x4x64x128 : Shape := ⟨5, ![1, 4, 4, 64, 128]⟩
abbrev S1x4x4x64 : Shape := ⟨4, ![1, 4, 4, 64]⟩
abbrev S4x4x64 : Shape := ⟨3, ![4, 4, 64]⟩
abbrev S1x4x4x64x64 : Shape := ⟨5, ![1, 4, 4, 64, 64]⟩
abbrev S4x4x64x64 : Shape := ⟨4, ![4, 4, 64, 64]⟩
abbrev S4x4x64x1 : Shape := ⟨4, ![4, 4, 64, 1]⟩
abbrev S4x8192x4 : Shape := ⟨3, ![4, 8192, 4]⟩
abbrev S4x8192x4x1 : Shape := ⟨4, ![4, 8192, 4, 1]⟩
abbrev S1x1x1x128 : Shape := ⟨4, ![1, 1, 1, 128]⟩

abbrev nBuf : Space → Nat
  | .hbm => 167
  | .vmem => 0
  | .smem => 0
  | _ => 0

abbrev hbmTy0_0 (i : Nat) : BufTy := match i % 128 with
  | 0 => ⟨S4x8192x256, .f32⟩
  | 1 => ⟨S4x8192x256, .f32⟩
  | 2 => ⟨S4x8192x512, .f32⟩
  | 3 => ⟨S4x8192x512, .f32⟩
  | 4 => ⟨S4x8192x128, .f32⟩
  | 5 => ⟨S16x256, .f32⟩
  | 6 => ⟨S256, .f32⟩
  | 7 => ⟨S128, .f32⟩
  | 8 => ⟨S4x8192x16, .f32⟩
  | 9 => ⟨S4x8192x4x64, .f32⟩
  | 10 => ⟨S_, .f32⟩
  | 11 => ⟨S4x8192x4x64, .f32⟩
  | 12 => ⟨S4x8192x4x64, .f32⟩
  | 13 => ⟨S4x8192x4x64, .f32⟩
  | 14 => ⟨S4x8192x4x128, .f32⟩
  | 15 => ⟨S4x8192x256, .f32⟩
  | 16 => ⟨S1x1x256, .f32⟩
  | 17 => ⟨S4x8192x256, .f32⟩
  | 18 => ⟨S4x8192x256, .f32⟩
  | 19 => ⟨S4x8192x256, .f32⟩
  | 20 => ⟨S_, .f32⟩
  | 21 => ⟨S4x8192x256, .f32⟩
  | 22 => ⟨S4x8192x256, .f32⟩
  | 23 => ⟨S4x8192x256, .f32⟩
  | 24 => ⟨S4x8192x256, .f32⟩
  | 25 => ⟨S4x8192x256, .i1⟩
  | 26 => ⟨S4x8192x256, .f32⟩
  | 27 => ⟨S4x8192x256, .f32⟩
  | 28 => ⟨S4x8192x256, .f32⟩
  | 29 => ⟨S4x8192x256, .f32⟩
  | 30 => ⟨S4x8192x256, .f32⟩
  | 31 => ⟨S4x8192x256, .f32⟩
  | 32 => ⟨S4x8192x256, .f32⟩
  | 33 => ⟨S4x8192x256, .f32⟩
  | 34 => ⟨S4x8192x256, .f32⟩
  | 35 => ⟨S_, .f32⟩
  | 36 => ⟨S4x8192x256, .f32⟩
  | 37 => ⟨S4x8192x256, .f32⟩
  | 38 => ⟨S4x8192x4x64, .f32⟩
  | 39 => ⟨S4x128x64x4x64, .f32⟩
  | 40 => ⟨S4x4x128x64x64, .f32⟩
  | 41 => ⟨S4x128x64x4x64, .f32⟩
  | 42 => ⟨S4x4x128x64x64, .f32⟩
  | 43 => ⟨S4x128x64x4x128, .f32⟩
  | 44 => ⟨S4x4x128x64x128, .f32⟩
  | 45 => ⟨S4x128x64x4x64, .f32⟩
  | 46 => ⟨S4x4x128x64x64, .f32⟩
  | 47 => ⟨S_, .f32⟩
  | 48 => ⟨S_, .f32⟩
  | 49 => ⟨S4x4x128x64x64, .f32⟩
  | 50 => ⟨S4x4x128x1x64, .f32⟩
  | 51 => ⟨S4x4x128x64x64, .f32⟩
  | 52 => ⟨S4x4x128x64x64, .f32⟩
  | 53 => ⟨S4x4x128x64x64, .f32⟩
  | 54 => ⟨S4x4x128x64x64, .f32⟩
  | 55 => ⟨S4x4x128x64x64, .f32⟩
  | 56 => ⟨S4x4x128x64x64, .f32⟩
  | 57 => ⟨S4x4x128x64x64, .f32⟩
  | 58 => ⟨S4x4x128x64x64, .f32⟩
  | 59 => ⟨S4x4x128x64x64, .f32⟩
  | 60 => ⟨S_, .i1⟩
  | 61 => ⟨S64x64, .i1⟩
  | 62 => ⟨S64x64, .i32⟩
  | 63 => ⟨S_, .i32⟩
  | 64 => ⟨S64x64, .i32⟩
  | 65 => ⟨S64x64, .i32⟩
  | 66 => ⟨S64x64, .i32⟩
  | 67 => ⟨S64x64, .i1⟩
  | 68 => ⟨S_, .i1⟩
  | 69 => ⟨S64x64, .i1⟩
  | 70 => ⟨S64x64, .i1⟩
  | 71 => ⟨S4x4x128x64x64, .f32⟩
  | 72 => ⟨S_, .f32⟩
  | 73 => ⟨S_, .f32⟩
  | 74 => ⟨S4x4x128x64x64, .i1⟩
  | 75 => ⟨S4x4x128x64x64, .f32⟩
  | 76 => ⟨S4x4x128x64x64, .f32⟩
  | 77 => ⟨S4x4x128x64x128, .f32⟩
  | 78 => ⟨S4x4x128x64x128, .f32⟩
  | 79 => ⟨S4x4x128x64, .f32⟩
  | 80 => ⟨S4x4x128x64, .f32⟩
  | 81 => ⟨S_, .f32⟩
  | 82 => ⟨S4x4x64x128, .f32⟩
  | 83 => ⟨S128x4x4x64x128, .f32⟩
  | 84 => ⟨S128x4x4x64, .f32⟩
  | 85 => ⟨S128x4x4x64x64, .f32⟩
  | 86 => ⟨S128x4x4x64x128, .f32⟩
  | 87 => ⟨S_, .f32⟩
  | 88 => ⟨S128x4x4x64x128, .f32⟩
  | 89 => ⟨S_, .i32⟩
  | 90 => ⟨S128x4x4x64x128, .f32⟩
  | 91 => ⟨S128x4x4x64, .f32⟩
  | 92 => ⟨S128x4x4x64x64, .f32⟩
  | 93 => ⟨S128x4x4x64x128, .f32⟩
  | 94 => ⟨S_, .i32⟩
  | 95 => ⟨S4x4x64x128, .f32⟩
  | 96 => ⟨S128x4x4x64x128, .f32⟩
  | 97 => ⟨S_, .i32⟩
  | 98 => ⟨S_, .i1⟩
  | 99 => ⟨S_, .i32⟩
  | 100 => ⟨S_, .i32⟩
  | 101 => ⟨S_, .i32⟩
  | 102 => ⟨S_, .i32⟩
  | 103 => ⟨S1x4x4x64x128, .f32⟩
  | 104 => ⟨S4x4x64x128, .f32⟩
  | 105 => ⟨S_, .i32⟩
  | 106 => ⟨S_, .i32⟩
  | 107 => ⟨S_, .i32⟩
  | 108 => ⟨S1x4x4x64, .f32⟩
  | 109 => ⟨S4x4x64, .f32⟩
  | 110 => ⟨S_, .i32⟩
  | 111 => ⟨S_, .i32⟩
  | 112 => ⟨S_, .i32⟩
  | 113 => ⟨S_, .i32⟩
  | 114 => ⟨S1x4x4x64x64, .f32⟩
  | 115 => ⟨S4x4x64x64, .f32⟩
  | 116 => ⟨S_, .i32⟩
  | 117 => ⟨S_, .i32⟩
  | 118 => ⟨S_, .i32⟩
  | 119 => ⟨S_, .i32⟩
  | 120 => ⟨S1x4x4x64x128, .f32⟩
  | 121 => ⟨S4x4x64x128, .f32⟩
  | 122 => ⟨S4x4x64x1, .f32⟩
  | 123 => ⟨S4x4x64x128, .f32⟩
  | 124 => ⟨S4x4x64x128, .f32⟩
  | 125 => ⟨S4x4x64x128, .f32⟩
  | 126 => ⟨S4x4x64x128, .f32⟩
  | 127 => ⟨S4x4x64x128, .f32⟩
  | _ => ⟨S4x8192x256, .f32⟩

abbrev hbmTy0_1 (i : Nat) : BufTy := match i % 128 with
  | 0 => ⟨S1x4x4x64x128, .f32⟩
  | 1 => ⟨S_, .i32⟩
  | 2 => ⟨S_, .i32⟩
  | 3 => ⟨S_, .i32⟩
  | 4 => ⟨S_, .i32⟩
  | 5 => ⟨S128x4x4x64x128, .f32⟩
  | 6 => ⟨S_, .i32⟩
  | 7 => ⟨S_, .i32⟩
  | 8 => ⟨S4x4x128x64x128, .f32⟩
  | 9 => ⟨S4x128x64x4x128, .f32⟩
  | 10 => ⟨S4x8192x4x128, .f32⟩
  | 11 => ⟨S4x8192x4x128, .f32⟩
  | 12 => ⟨S_, .f32⟩
  | 13 => ⟨S4x8192x4, .f32⟩
  | 14 => ⟨S4x8192x4x1, .f32⟩
  | 15 => ⟨S_, .f32⟩
  | 16 => ⟨S4x8192x4x1, .f32⟩
  | 17 => ⟨S4x8192x4x1, .f32⟩
  | 18 => ⟨S_, .f32⟩
  | 19 => ⟨S4x8192x4x1, .f32⟩
  | 20 => ⟨S4x8192x4x1, .f32⟩
  | 21 => ⟨S4x8192x4x1, .f32⟩
  | 22 => ⟨S4x8192x4x128, .f32⟩
  | 23 => ⟨S4x8192x4x128, .f32⟩
  | 24 => ⟨S1x1x1x128, .f32⟩
  | 25 => ⟨S4x8192x4x128, .f32⟩
  | 26 => ⟨S4x8192x4x128, .f32⟩
  | 27 => ⟨S4x8192x512, .f32⟩
  | 28 => ⟨S4x8192x512, .f32⟩
  | 29 => ⟨S4x8192x512, .f32⟩
  | 30 => ⟨S_, .f32⟩
  | 31 => ⟨S4x8192x512, .f32⟩
  | 32 => ⟨S4x8192x512, .f32⟩
  | 33 => ⟨S_, .f32⟩
  | 34 => ⟨S4x8192x512, .f32⟩
  | 35 => ⟨S4x8192x512, .f32⟩
  | 36 => ⟨S4x8192x512, .f32⟩
  | 37 => ⟨S4x8192x512, .f32⟩
  | 38 => ⟨S4x8192x512, .bf16⟩
  | _ => ⟨S4x8192x256, .f32⟩

abbrev hbmTy (i : Nat) : BufTy := match i / 128 with
  | 0 => hbmTy0_0 i
  | 1 => hbmTy0_1 i
  | _ => ⟨S4x8192x256, .f32⟩

abbrev bufTy : (tb : Table) → Fin (tcTables nBuf tb) → BufTy
  | .hbm, ⟨i, _⟩ => hbmTy i
  | _, _ => ⟨S4x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v11 : Ref sig .tc := ⟨.hbm, 33, rfl⟩
abbrev main_v12 : Ref sig .tc := ⟨.hbm, 34, rfl⟩
abbrev main_cst_0 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_call1_call0_cst : Ref sig .tc := ⟨.hbm, 47, rfl⟩
abbrev main_call1_call0_v0 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c : Ref sig .tc := ⟨.hbm, 60, rfl⟩
abbrev main_v35 : Ref sig .tc := ⟨.hbm, 61, rfl⟩
abbrev main_call2_v0 : Ref sig .tc := ⟨.hbm, 62, rfl⟩
abbrev main_call2_c : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_c_0 : Ref sig .tc := ⟨.hbm, 68, rfl⟩
abbrev main_call2_v5 : Ref sig .tc := ⟨.hbm, 69, rfl⟩
abbrev main_v36 : Ref sig .tc := ⟨.hbm, 70, rfl⟩
abbrev main_v37 : Ref sig .tc := ⟨.hbm, 71, rfl⟩
abbrev main_cst_1 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_cst_2 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_3 : Ref sig .tc := ⟨.hbm, 87, rfl⟩
abbrev main_v48 : Ref sig .tc := ⟨.hbm, 88, rfl⟩
abbrev main_c_4 : Ref sig .tc := ⟨.hbm, 89, rfl⟩
abbrev main_v49_0 : Ref sig .tc := ⟨.hbm, 90, rfl⟩
abbrev main_v49_1 : Ref sig .tc := ⟨.hbm, 91, rfl⟩
abbrev main_v49_2 : Ref sig .tc := ⟨.hbm, 92, rfl⟩
abbrev main_v49_3 : Ref sig .tc := ⟨.hbm, 93, rfl⟩
abbrev main_v49_4 : Ref sig .tc := ⟨.hbm, 94, rfl⟩
abbrev main_v49_5 : Ref sig .tc := ⟨.hbm, 95, rfl⟩
abbrev main_v49_6 : Ref sig .tc := ⟨.hbm, 96, rfl⟩
abbrev main_while0c_c_14 : Ref sig .tc := ⟨.hbm, 97, rfl⟩
abbrev main_while0c_v70 : Ref sig .tc := ⟨.hbm, 98, rfl⟩
abbrev main_while0b_call4_c : Ref sig .tc := ⟨.hbm, 99, rfl⟩
abbrev main_while0b_call4_c_0 : Ref sig .tc := ⟨.hbm, 100, rfl⟩
abbrev main_while0b_call4_c_1 : Ref sig .tc := ⟨.hbm, 101, rfl⟩
abbrev main_while0b_call4_c_2 : Ref sig .tc := ⟨.hbm, 102, rfl⟩
abbrev main_while0b_call4_v0 : Ref sig .tc := ⟨.hbm, 103, rfl⟩
abbrev main_while0b_v70 : Ref sig .tc := ⟨.hbm, 104, rfl⟩
abbrev main_while0b_call5_c : Ref sig .tc := ⟨.hbm, 105, rfl⟩
abbrev main_while0b_call5_c_0 : Ref sig .tc := ⟨.hbm, 106, rfl⟩
abbrev main_while0b_call5_c_1 : Ref sig .tc := ⟨.hbm, 107, rfl⟩
abbrev main_while0b_call5_v0 : Ref sig .tc := ⟨.hbm, 108, rfl⟩
abbrev main_while0b_v71 : Ref sig .tc := ⟨.hbm, 109, rfl⟩
abbrev main_while0b_call6_c : Ref sig .tc := ⟨.hbm, 110, rfl⟩
abbrev main_while0b_call6_c_0 : Ref sig .tc := ⟨.hbm, 111, rfl⟩
abbrev main_while0b_call6_c_1 : Ref sig .tc := ⟨.hbm, 112, rfl⟩
abbrev main_while0b_call6_c_2 : Ref sig .tc := ⟨.hbm, 113, rfl⟩
abbrev main_while0b_call6_v0 : Ref sig .tc := ⟨.hbm, 114, rfl⟩
abbrev main_while0b_v72 : Ref sig .tc := ⟨.hbm, 115, rfl⟩
abbrev main_while0b_call7_c : Ref sig .tc := ⟨.hbm, 116, rfl⟩
abbrev main_while0b_call7_c_0 : Ref sig .tc := ⟨.hbm, 117, rfl⟩
abbrev main_while0b_call7_c_1 : Ref sig .tc := ⟨.hbm, 118, rfl⟩
abbrev main_while0b_call7_c_2 : Ref sig .tc := ⟨.hbm, 119, rfl⟩
abbrev main_while0b_call7_v0 : Ref sig .tc := ⟨.hbm, 120, rfl⟩
abbrev main_while0b_v73 : Ref sig .tc := ⟨.hbm, 121, rfl⟩
abbrev main_while0b_v74 : Ref sig .tc := ⟨.hbm, 122, rfl⟩
abbrev main_while0b_v75 : Ref sig .tc := ⟨.hbm, 123, rfl⟩
abbrev main_while0b_v76 : Ref sig .tc := ⟨.hbm, 124, rfl⟩
abbrev main_while0b_v77 : Ref sig .tc := ⟨.hbm, 125, rfl⟩
abbrev main_while0b_v78 : Ref sig .tc := ⟨.hbm, 126, rfl⟩
abbrev main_while0b_v79 : Ref sig .tc := ⟨.hbm, 127, rfl⟩
abbrev main_while0b_call8_v0 : Ref sig .tc := ⟨.hbm, 128, rfl⟩
abbrev main_while0b_call8_c : Ref sig .tc := ⟨.hbm, 129, rfl⟩
abbrev main_while0b_call8_c_0 : Ref sig .tc := ⟨.hbm, 130, rfl⟩
abbrev main_while0b_call8_c_1 : Ref sig .tc := ⟨.hbm, 131, rfl⟩
abbrev main_while0b_call8_c_2 : Ref sig .tc := ⟨.hbm, 132, rfl⟩
abbrev main_while0b_v80 : Ref sig .tc := ⟨.hbm, 133, rfl⟩
abbrev main_while0b_c_14 : Ref sig .tc := ⟨.hbm, 134, rfl⟩
abbrev main_while0b_v81 : Ref sig .tc := ⟨.hbm, 135, rfl⟩
abbrev main_v50 : Ref sig .tc := ⟨.hbm, 136, rfl⟩
abbrev main_v51 : Ref sig .tc := ⟨.hbm, 137, rfl⟩
abbrev main_v52 : Ref sig .tc := ⟨.hbm, 138, rfl⟩
abbrev main_v53 : Ref sig .tc := ⟨.hbm, 139, rfl⟩
abbrev main_cst_5 : Ref sig .tc := ⟨.hbm, 140, rfl⟩
abbrev main_v54 : Ref sig .tc := ⟨.hbm, 141, rfl⟩
abbrev main_v55 : Ref sig .tc := ⟨.hbm, 142, rfl⟩
abbrev main_cst_6 : Ref sig .tc := ⟨.hbm, 143, rfl⟩
abbrev main_v56 : Ref sig .tc := ⟨.hbm, 144, rfl⟩
abbrev main_v57 : Ref sig .tc := ⟨.hbm, 145, rfl⟩
abbrev main_cst_7 : Ref sig .tc := ⟨.hbm, 146, rfl⟩
abbrev main_v58 : Ref sig .tc := ⟨.hbm, 147, rfl⟩
abbrev main_v59 : Ref sig .tc := ⟨.hbm, 148, rfl⟩
abbrev main_v60 : Ref sig .tc := ⟨.hbm, 149, rfl⟩
abbrev main_v61 : Ref sig .tc := ⟨.hbm, 150, rfl⟩
abbrev main_v62 : Ref sig .tc := ⟨.hbm, 151, rfl⟩
abbrev main_v63 : Ref sig .tc := ⟨.hbm, 152, rfl⟩
abbrev main_v64 : Ref sig .tc := ⟨.hbm, 153, rfl⟩
abbrev main_v65 : Ref sig .tc := ⟨.hbm, 154, rfl⟩
abbrev main_v66 : Ref sig .tc := ⟨.hbm, 155, rfl⟩
abbrev main_call9_v0 : Ref sig .tc := ⟨.hbm, 156, rfl⟩
abbrev main_call9_v1 : Ref sig .tc := ⟨.hbm, 157, rfl⟩
abbrev main_call9_cst : Ref sig .tc := ⟨.hbm, 158, rfl⟩
abbrev main_call9_v2 : Ref sig .tc := ⟨.hbm, 159, rfl⟩
abbrev main_call9_v3 : Ref sig .tc := ⟨.hbm, 160, rfl⟩
abbrev main_call9_cst_0 : Ref sig .tc := ⟨.hbm, 161, rfl⟩
abbrev main_call9_v4 : Ref sig .tc := ⟨.hbm, 162, rfl⟩
abbrev main_call9_v5 : Ref sig .tc := ⟨.hbm, 163, rfl⟩
abbrev main_v67 : Ref sig .tc := ⟨.hbm, 164, rfl⟩
abbrev main_v68 : Ref sig .tc := ⟨.hbm, 165, rfl⟩
abbrev main_v69 : Ref sig .tc := ⟨.hbm, 166, rfl⟩

abbrev nD : Nat := 1
abbrev τ : Topo := Topo.v7x

variable {F : FTy → Type} [FloatOps F]

abbrev main_while0_count : Scf.Loop 32 := ⟨0#32, 128#32, 1#32⟩
-- ==== Inproj.lean ====
abbrev S4x8192x1024 : Shape := ⟨3, ![4, 8192, 1024]⟩
abbrev S1024 : Shape := ⟨1, ![1024]⟩
abbrev S1024x4624 : Shape := ⟨2, ![1024, 4624]⟩
abbrev S3x512 : Shape := ⟨2, ![3, 512]⟩
abbrev S512 : Shape := ⟨1, ![512]⟩
abbrev S64 : Shape := ⟨1, ![64]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S1024x4736 : Shape := ⟨2, ![1024, 4736]⟩
abbrev S1x1024 : Shape := ⟨2, ![1, 1024]⟩
abbrev S1x64 : Shape := ⟨2, ![1, 64]⟩
abbrev S8x64 : Shape := ⟨2, ![8, 64]⟩
abbrev S4x8192x512 : Shape := ⟨3, ![4, 8192, 512]⟩
abbrev S4x512x8192 : Shape := ⟨3, ![4, 512, 8192]⟩
abbrev S4x32x1x512 : Shape := ⟨4, ![4, 32, 1, 512]⟩
abbrev S4x8192x256 : Shape := ⟨3, ![4, 8192, 256]⟩
abbrev S4x8192x128 : Shape := ⟨3, ![4, 8192, 128]⟩
abbrev S1x512x1024 : Shape := ⟨3, ![1, 512, 1024]⟩
abbrev S1x512x512 : Shape := ⟨3, ![1, 512, 512]⟩
abbrev S1x2x1x512 : Shape := ⟨4, ![1, 2, 1, 512]⟩
abbrev S1x512x256 : Shape := ⟨3, ![1, 512, 256]⟩
abbrev S1x512x128 : Shape := ⟨3, ![1, 512, 128]⟩
abbrev S8x512 : Shape := ⟨2, ![8, 512]⟩
abbrev S512x1024 : Shape := ⟨2, ![512, 1024]⟩
abbrev S1024x1536 : Shape := ⟨2, ![1024, 1536]⟩
abbrev S512x1536 : Shape := ⟨2, ![512, 1536]⟩
abbrev S256x512 : Shape := ⟨2, ![256, 512]⟩
abbrev S1x1x1x512 : Shape := ⟨4, ![1, 1, 1, 512]⟩
abbrev S512x256 : Shape := ⟨2, ![512, 256]⟩
abbrev S1024x128 : Shape := ⟨2, ![1024, 128]⟩
abbrev S512x128 : Shape := ⟨2, ![512, 128]⟩

abbrev nBuf : Space → Nat
  | .hbm => 56
  | .vmem => 30
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x4624, .f32⟩
  | .hbm, ⟨3, _⟩ => ⟨S3x512, .f32⟩
  | .hbm, ⟨4, _⟩ => ⟨S512, .f32⟩
  | .hbm, ⟨5, _⟩ => ⟨S64, .f32⟩
  | .hbm, ⟨6, _⟩ => ⟨S64, .f32⟩
  | .hbm, ⟨7, _⟩ => ⟨S512, .i32⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i1⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S512, .i1⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S512x1, .i32⟩
  | .hbm, ⟨27, _⟩ => ⟨S1x512, .i32⟩
  | .hbm, ⟨28, _⟩ => ⟨S512x512, .i32⟩
  | .hbm, ⟨29, _⟩ => ⟨S512x512, .i32⟩
  | .hbm, ⟨30, _⟩ => ⟨S512x512, .i1⟩
  | .hbm, ⟨31, _⟩ => ⟨S512x512, .bf16⟩
  | .hbm, ⟨32, _⟩ => ⟨S1024x4624, .bf16⟩
  | .hbm, ⟨33, _⟩ => ⟨S_, .i32⟩
  | .hbm, ⟨34, _⟩ => ⟨S_, .bf16⟩
  | .hbm, ⟨35, _⟩ => ⟨S1024x4736, .bf16⟩
  | .hbm, ⟨36, _⟩ => ⟨S1x1024, .f32⟩
  | .hbm, ⟨37, _⟩ => ⟨S1x512, .f32⟩
  | .hbm, ⟨38, _⟩ => ⟨S1x64, .f32⟩
  | .hbm, ⟨39, _⟩ => ⟨S8x64, .f32⟩
  | .hbm, ⟨40, _⟩ => ⟨S512, .f32⟩
  | .hbm, ⟨41, _⟩ => ⟨S1x512, .f32⟩
  | .hbm, ⟨42, _⟩ => ⟨S1x64, .f32⟩
  | .hbm, ⟨43, _⟩ => ⟨S8x64, .f32⟩
  | .hbm, ⟨44, _⟩ => ⟨S512, .f32⟩
  | .hbm, ⟨45, _⟩ => ⟨S1x512, .f32⟩
  | .hbm, ⟨46, _⟩ => ⟨S4x8192x512, .bf16⟩
  | .hbm, ⟨47, _⟩ => ⟨S4x8192x512, .bf16⟩
  | .hbm, ⟨48, _⟩ => ⟨S4x8192x512, .bf16⟩
  | .hbm, ⟨49, _⟩ => ⟨S4x512x8192, .bf16⟩
  | .hbm, ⟨50, _⟩ => ⟨S4x32x1x512, .f32⟩
  | .hbm, ⟨51, _⟩ => ⟨S4x8192x256, .f32⟩
  | .hbm, ⟨52, _⟩ => ⟨S4x8192x256, .f32⟩
  | .hbm, ⟨53, _⟩ => ⟨S4x8192x512, .f32⟩
  | .hbm, ⟨54, _⟩ => ⟨S4x8192x512, .f32⟩
  | .hbm, ⟨55, _⟩ => ⟨S4x8192x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x4736, .bf16⟩
  | .local _ .vmem, ⟨4, _⟩ => ⟨S3x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x2x1x512, .f32⟩
  | .local _ .vmem, ⟨18, _⟩ => ⟨S1x2x1x512, .f32⟩
  | .local _ .vmem, ⟨19, _⟩ => ⟨S1x512x256, .f32⟩
  | .local _ .vmem, ⟨20, _⟩ => ⟨S1x512x256, .f32⟩
  | .local _ .vmem, ⟨21, _⟩ => ⟨S1x512x256, .f32⟩
  | .local _ .vmem, ⟨22, _⟩ => ⟨S1x512x256, .f32⟩
  | .local _ .vmem, ⟨23, _⟩ => ⟨S1x512x512, .f32⟩
  | .local _ .vmem, ⟨24, _⟩ => ⟨S1x512x512, .f32⟩
  | .local _ .vmem, ⟨25, _⟩ => ⟨S1x512x512, .f32⟩
  | .local _ .vmem, ⟨26, _⟩ => ⟨S1x512x512, .f32⟩
  | .local _ .vmem, ⟨27, _⟩ => ⟨S1x512x128, .f32⟩
  | .local _ .vmem, ⟨28, _⟩ => ⟨S1x512x128, .f32⟩
  | .local _ .vmem, ⟨29, _⟩ => ⟨S8x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_c_0 : Ref sig .tc := ⟨.hbm, 33, rfl⟩
abbrev main_call1_v0 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20_0 : Ref sig .tc := ⟨.hbm, 46, rfl⟩
abbrev main_v20_1 : Ref sig .tc := ⟨.hbm, 47, rfl⟩
abbrev main_v20_2 : Ref sig .tc := ⟨.hbm, 48, rfl⟩
abbrev main_v20_3 : Ref sig .tc := ⟨.hbm, 49, rfl⟩
abbrev main_v20_4 : Ref sig .tc := ⟨.hbm, 50, rfl⟩
abbrev main_v20_5 : Ref sig .tc := ⟨.hbm, 51, rfl⟩
abbrev main_v20_6 : Ref sig .tc := ⟨.hbm, 52, rfl⟩
abbrev main_v20_7 : Ref sig .tc := ⟨.hbm, 53, rfl⟩
abbrev main_v20_8 : Ref sig .tc := ⟨.hbm, 54, rfl⟩
abbrev main_v20_9 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4736 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== InprojRefIdeal.lean ====
abbrev S4x8192x1024 : Shape := ⟨3, ![4, 8192, 1024]⟩
abbrev S1024 : Shape := ⟨1, ![1024]⟩
abbrev S1024x4624 : Shape := ⟨2, ![1024, 4624]⟩
abbrev S3x512 : Shape := ⟨2, ![3, 512]⟩
abbrev S512 : Shape := ⟨1, ![512]⟩
abbrev S64 : Shape := ⟨1, ![64]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4624 : Shape := ⟨3, ![4, 8192, 4624]⟩
abbrev S4x8192x512 : Shape := ⟨3, ![4, 8192, 512]⟩
abbrev S4x8192x256 : Shape := ⟨3, ![4, 8192, 256]⟩
abbrev S4x8192x16 : Shape := ⟨3, ![4, 8192, 16]⟩
abbrev S4x8194x512 : Shape := ⟨3, ![4, 8194, 512]⟩
abbrev S1x512 : Shape := ⟨2, ![1, 512]⟩
abbrev S1x1x512 : Shape := ⟨3, ![1, 1, 512]⟩
abbrev S4x8192x8x64 : Shape := ⟨4, ![4, 8192, 8, 64]⟩
abbrev S4x8192x8 : Shape := ⟨3, ![4, 8192, 8]⟩
abbrev S4x8192x8x1 : Shape := ⟨4, ![4, 8192, 8, 1]⟩
abbrev S1x1x1x64 : Shape := ⟨4, ![1, 1, 1, 64]⟩
abbrev S4x32x256x8x64 : Shape := ⟨5, ![4, 32, 256, 8, 64]⟩
abbrev S4x32x8x64 : Shape := ⟨4, ![4, 32, 8, 64]⟩
abbrev S4x512x8192 : Shape := ⟨3, ![4, 512, 8192]⟩
abbrev S4x32x1x512 : Shape := ⟨4, ![4, 32, 1, 512]⟩
abbrev S4x8192x128 : Shape := ⟨3, ![4, 8192, 128]⟩

abbrev nBuf : Space → Nat
  | .hbm => 117
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x4624, .f32⟩
  | .hbm, ⟨3, _⟩ => ⟨S3x512, .f32⟩
  | .hbm, ⟨4, _⟩ => ⟨S512, .f32⟩
  | .hbm, ⟨5, _⟩ => ⟨S64, .f32⟩
  | .hbm, ⟨6, _⟩ => ⟨S64, .f32⟩
  | .hbm, ⟨7, _⟩ => ⟨S4x8192x1024, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S1x1x1024, .f32⟩
  | .hbm, ⟨21, _⟩ => ⟨S4x8192x1024, .f32⟩
  | .hbm, ⟨22, _⟩ => ⟨S4x8192x1024, .f32⟩
  | .hbm, ⟨23, _⟩ => ⟨S4x8192x4624, .f32⟩
  | .hbm, ⟨24, _⟩ => ⟨S4x8192x512, .f32⟩
  | .hbm, ⟨25, _⟩ => ⟨S4x8192x512, .f32⟩
  | .hbm, ⟨26, _⟩ => ⟨S4x8192x512, .f32⟩
  | .hbm, ⟨27, _⟩ => ⟨S4x8192x512, .f32⟩
  | .hbm, ⟨28, _⟩ => ⟨S4x8192x512, .f32⟩
  | .hbm, ⟨29, _⟩ => ⟨S4x8192x512, .f32⟩
  | .hbm, ⟨30, _⟩ => ⟨S4x8192x256, .f32⟩
  | .hbm, ⟨31, _⟩ => ⟨S4x8192x256, .f32⟩
  | .hbm, ⟨32, _⟩ => ⟨S4x8192x512, .f32⟩
  | .hbm, ⟨33, _⟩ => ⟨S4x8192x512, .f32⟩
  | .hbm, ⟨34, _⟩ => ⟨S4x8192x16, .f32⟩
  | .hbm, ⟨35, _⟩ => ⟨S4x8192x512, .f32⟩
  | .hbm, ⟨36, _⟩ => ⟨S_, .i32⟩
  | .hbm, ⟨37, _⟩ => ⟨S_, .f32⟩
  | .hbm, ⟨38, _⟩ => ⟨S4x8194x512, .f32⟩
  | .hbm, ⟨39, _⟩ => ⟨S1x512, .f32⟩
  | .hbm, ⟨40, _⟩ => ⟨S512, .f32⟩
  | .hbm, ⟨41, _⟩ => ⟨S4x8192x512, .f32⟩
  | .hbm, ⟨42, _⟩ => ⟨S1x1x512, .f32⟩
  | .hbm, ⟨43, _⟩ => ⟨S4x8192x512, .f32⟩
  | .hbm, ⟨44, _⟩ => ⟨S4x8192x512, .f32⟩
  | .hbm, ⟨45, _⟩ => ⟨S1x1x512, .f32⟩
  | .hbm, ⟨46, _⟩ => ⟨S4x8192x512, .f32⟩
  | .hbm, ⟨47, _⟩ => ⟨S4x8192x512, .f32⟩
  | .hbm, ⟨48, _⟩ => ⟨S1x512, .f32⟩
  | .hbm, ⟨49, _⟩ => ⟨S512, .f32⟩
  | .hbm, ⟨50, _⟩ => ⟨S4x8192x512, .f32⟩
  | .hbm, ⟨51, _⟩ => ⟨S1x1x512, .f32⟩
  | .hbm, ⟨52, _⟩ => ⟨S4x8192x512, .f32⟩
  | .hbm, ⟨53, _⟩ => ⟨S4x8192x512, .f32⟩
  | .hbm, ⟨54, _⟩ => ⟨S4x8192x512, .f32⟩
  | .hbm, ⟨55, _⟩ => ⟨S1x512, .f32⟩
  | .hbm, ⟨56, _⟩ => ⟨S512, .f32⟩
  | .hbm, ⟨57, _⟩ => ⟨S4x8192x512, .f32⟩
  | .hbm, ⟨58, _⟩ => ⟨S1x1x512, .f32⟩
  | .hbm, ⟨59, _⟩ => ⟨S4x8192x512, .f32⟩
  | .hbm, ⟨60, _⟩ => ⟨S4x8192x512, .f32⟩
  | .hbm, ⟨61, _⟩ => ⟨S4x8192x512, .f32⟩
  | .hbm, ⟨62, _⟩ => ⟨S4x8192x512, .f32⟩
  | .hbm, ⟨63, _⟩ => ⟨S4x8192x8x64, .f32⟩
  | .hbm, ⟨64, _⟩ => ⟨S4x8192x8x64, .f32⟩
  | .hbm, ⟨65, _⟩ => ⟨S_, .f32⟩
  | .hbm, ⟨66, _⟩ => ⟨S4x8192x8, .f32⟩
  | .hbm, ⟨67, _⟩ => ⟨S4x8192x8x1, .f32⟩
  | .hbm, ⟨68, _⟩ => ⟨S_, .f32⟩
  | .hbm, ⟨69, _⟩ => ⟨S4x8192x8x1, .f32⟩
  | .hbm, ⟨70, _⟩ => ⟨S4x8192x8x1, .f32⟩
  | .hbm, ⟨71, _⟩ => ⟨S_, .f32⟩
  | .hbm, ⟨72, _⟩ => ⟨S4x8192x8x1, .f32⟩
  | .hbm, ⟨73, _⟩ => ⟨S4x8192x8x1, .f32⟩
  | .hbm, ⟨74, _⟩ => ⟨S4x8192x8x1, .f32⟩
  | .hbm, ⟨75, _⟩ => ⟨S4x8192x8x64, .f32⟩
  | .hbm, ⟨76, _⟩ => ⟨S4x8192x8x64, .f32⟩
  | .hbm, ⟨77, _⟩ => ⟨S1x1x1x64, .f32⟩
  | .hbm, ⟨78, _⟩ => ⟨S4x8192x8x64, .f32⟩
  | .hbm, ⟨79, _⟩ => ⟨S4x8192x8x64, .f32⟩
  | .hbm, ⟨80, _⟩ => ⟨S_, .f32⟩
  | .hbm, ⟨81, _⟩ => ⟨S4x8192x8x64, .f32⟩
  | .hbm, ⟨82, _⟩ => ⟨S4x8192x8x64, .f32⟩
  | .hbm, ⟨83, _⟩ => ⟨S4x8192x8x64, .f32⟩
  | .hbm, ⟨84, _⟩ => ⟨S4x8192x8x64, .f32⟩
  | .hbm, ⟨85, _⟩ => ⟨S_, .f32⟩
  | .hbm, ⟨86, _⟩ => ⟨S4x8192x8, .f32⟩
  | .hbm, ⟨87, _⟩ => ⟨S4x8192x8x1, .f32⟩
  | .hbm, ⟨88, _⟩ => ⟨S_, .f32⟩
  | .hbm, ⟨89, _⟩ => ⟨S4x8192x8x1, .f32⟩
  | .hbm, ⟨90, _⟩ => ⟨S4x8192x8x1, .f32⟩
  | .hbm, ⟨91, _⟩ => ⟨S_, .f32⟩
  | .hbm, ⟨92, _⟩ => ⟨S4x8192x8x1, .f32⟩
  | .hbm, ⟨93, _⟩ => ⟨S4x8192x8x1, .f32⟩
  | .hbm, ⟨94, _⟩ => ⟨S4x8192x8x1, .f32⟩
  | .hbm, ⟨95, _⟩ => ⟨S4x8192x8x64, .f32⟩
  | .hbm, ⟨96, _⟩ => ⟨S4x8192x8x64, .f32⟩
  | .hbm, ⟨97, _⟩ => ⟨S1x1x1x64, .f32⟩
  | .hbm, ⟨98, _⟩ => ⟨S4x8192x8x64, .f32⟩
  | .hbm, ⟨99, _⟩ => ⟨S4x8192x8x64, .f32⟩
  | .hbm, ⟨100, _⟩ => ⟨S4x32x256x8x64, .f32⟩
  | .hbm, ⟨101, _⟩ => ⟨S_, .f32⟩
  | .hbm, ⟨102, _⟩ => ⟨S4x32x8x64, .f32⟩
  | .hbm, ⟨103, _⟩ => ⟨S_, .f32⟩
  | .hbm, ⟨104, _⟩ => ⟨S4x32x8x64, .f32⟩
  | .hbm, ⟨105, _⟩ => ⟨S4x32x8x64, .f32⟩
  | .hbm, ⟨106, _⟩ => ⟨S4x8192x512, .bf16⟩
  | .hbm, ⟨107, _⟩ => ⟨S4x8192x512, .f32⟩
  | .hbm, ⟨108, _⟩ => ⟨S4x8192x512, .bf16⟩
  | .hbm, ⟨109, _⟩ => ⟨S4x8192x512, .f32⟩
  | .hbm, ⟨110, _⟩ => ⟨S4x8192x512, .bf16⟩
  | .hbm, ⟨111, _⟩ => ⟨S4x512x8192, .f32⟩
  | .hbm, ⟨112, _⟩ => ⟨S4x512x8192, .bf16⟩
  | .hbm, ⟨113, _⟩ => ⟨S4x32x1x512, .f32⟩
  | .hbm, ⟨114, _⟩ => ⟨S_, .i32⟩
  | .hbm, ⟨115, _⟩ => ⟨S_, .f32⟩
  | .hbm, ⟨116, _⟩ => ⟨S4x8192x128, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c : Ref sig .tc := ⟨.hbm, 36, rfl⟩
abbrev main_call0_v0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_2 : Ref sig .tc := ⟨.hbm, 65, rfl⟩
abbrev main_v53 : Ref sig .tc := ⟨.hbm, 66, rfl⟩
abbrev main_v54 : Ref sig .tc := ⟨.hbm, 67, rfl⟩
abbrev main_cst_3 : Ref sig .tc := ⟨.hbm, 68, rfl⟩
abbrev main_v55 : Ref sig .tc := ⟨.hbm, 69, rfl⟩
abbrev main_v56 : Ref sig .tc := ⟨.hbm, 70, rfl⟩
abbrev main_cst_4 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_5 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_6 : Ref sig .tc := ⟨.hbm, 85, rfl⟩
abbrev main_v69 : Ref sig .tc := ⟨.hbm, 86, rfl⟩
abbrev main_v70 : Ref sig .tc := ⟨.hbm, 87, rfl⟩
abbrev main_cst_7 : Ref sig .tc := ⟨.hbm, 88, rfl⟩
abbrev main_v71 : Ref sig .tc := ⟨.hbm, 89, rfl⟩
abbrev main_v72 : Ref sig .tc := ⟨.hbm, 90, rfl⟩
abbrev main_cst_8 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_cst_9 : Ref sig .tc := ⟨.hbm, 101, rfl⟩
abbrev main_v82 : Ref sig .tc := ⟨.hbm, 102, rfl⟩
abbrev main_cst_10 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_c_11 : Ref sig .tc := ⟨.hbm, 114, rfl⟩
abbrev main_call1_v0 : Ref sig .tc := ⟨.hbm, 115, rfl⟩
abbrev main_v93 : Ref sig .tc := ⟨.hbm, 116, rfl⟩

abbrev nD : Nat := 1
abbrev τ : Topo := Topo.v7x

variable {F : FTy → Type} [FloatOps F]
-- ==== Merge.lean ====
abbrev S32768x1024 : Shape := ⟨2, ![32768, 1024]⟩
abbrev S32768x512 : Shape := ⟨2, ![32768, 512]⟩
abbrev S1024 : Shape := ⟨1, ![1024]⟩
abbrev S3x1024x1024 : Shape := ⟨3, ![3, 1024, 1024]⟩
abbrev S3x512x1024 : Shape := ⟨3, ![3, 512, 1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S1024x36 : Shape := ⟨2, ![1024, 36]⟩
abbrev S_ : Shape := ⟨0, ![]⟩
abbrev S1024x128 : Shape := ⟨2, ![1024, 128]⟩
abbrev S36 : Shape := ⟨1, ![36]⟩
abbrev S128 : Shape := ⟨1, ![128]⟩
abbrev S1x128 : Shape := ⟨2, ![1, 128]⟩
abbrev S1x1024 : Shape := ⟨2, ![1, 1024]⟩
abbrev S262144x128 : Shape := ⟨2, ![262144, 128]⟩
abbrev S32768x8 : Shape := ⟨2, ![32768, 8]⟩
abbrev S512x1024 : Shape := ⟨2, ![512, 1024]⟩
abbrev S512x512 : Shape := ⟨2, ![512, 512]⟩
abbrev S4096x128 : Shape := ⟨2, ![4096, 128]⟩
abbrev S512x8 : Shape := ⟨2, ![512, 8]⟩
abbrev S512 : Shape := ⟨1, ![512]⟩
abbrev S512x1 : Shape := ⟨2, ![512, 1]⟩
abbrev S1x1024x1024 : Shape := ⟨3, ![1, 1024, 1024]⟩
abbrev S1x512x1024 : Shape := ⟨3, ![1, 512, 1024]⟩
abbrev S512x128 : Shape := ⟨2, ![512, 128]⟩

abbrev nBuf : Space → Nat
  | .hbm => 35
  | .vmem => 24
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S1024, .f32⟩
  | .hbm, ⟨5, _⟩ => ⟨S3x1024x1024, .f32⟩
  | .hbm, ⟨6, _⟩ => ⟨S3x512x1024, .f32⟩
  | .hbm, ⟨7, _⟩ => ⟨S1024x1024, .f32⟩
  | .hbm, ⟨8, _⟩ => ⟨S1024, .f32⟩
  | .hbm, ⟨9, _⟩ => ⟨S1024x4, .f32⟩
  | .hbm, ⟨10, _⟩ => ⟨S4, .f32⟩
  | .hbm, ⟨11, _⟩ => ⟨S1024x32, .f32⟩
  | .hbm, ⟨12, _⟩ => ⟨S32, .f32⟩
  | .hbm, ⟨13, _⟩ => ⟨S1024x36, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S36, .f32⟩
  | .hbm, ⟨18, _⟩ => ⟨S_, .i32⟩
  | .hbm, ⟨19, _⟩ => ⟨S_, .f32⟩
  | .hbm, ⟨20, _⟩ => ⟨S128, .f32⟩
  | .hbm, ⟨21, _⟩ => ⟨S1x128, .f32⟩
  | .hbm, ⟨22, _⟩ => ⟨S1024x128, .bf16⟩
  | .hbm, ⟨23, _⟩ => ⟨S1024x128, .f32⟩
  | .hbm, ⟨24, _⟩ => ⟨S1024x128, .f32⟩
  | .hbm, ⟨25, _⟩ => ⟨S1024x128, .bf16⟩
  | .hbm, ⟨26, _⟩ => ⟨S1x1024, .f32⟩
  | .hbm, ⟨27, _⟩ => ⟨S3x1024x1024, .bf16⟩
  | .hbm, ⟨28, _⟩ => ⟨S3x512x1024, .bf16⟩
  | .hbm, ⟨29, _⟩ => ⟨S1024x1024, .bf16⟩
  | .hbm, ⟨30, _⟩ => ⟨S1x1024, .f32⟩
  | .hbm, ⟨31, _⟩ => ⟨S32768x1024, .f32⟩
  | .hbm, ⟨32, _⟩ => ⟨S262144x128, .f32⟩
  | .hbm, ⟨33, _⟩ => ⟨S32768x8, .f32⟩
  | .hbm, ⟨34, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x1024, .f32⟩
  | .local _ .vmem, ⟨9, _⟩ => ⟨S3x1024x1024, .bf16⟩
  | .local _ .vmem, ⟨10, _⟩ => ⟨S3x512x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x128, .bf16⟩
  | .local _ .vmem, ⟨14, _⟩ => ⟨S1024x128, .bf16⟩
  | .local _ .vmem, ⟨15, _⟩ => ⟨S1x128, .f32⟩
  | .local _ .vmem, ⟨16, _⟩ => ⟨S512x1024, .f32⟩
  | .local _ .vmem, ⟨17, _⟩ => ⟨S512x1024, .f32⟩
  | .local _ .vmem, ⟨18, _⟩ => ⟨S4096x128, .f32⟩
  | .local _ .vmem, ⟨19, _⟩ => ⟨S4096x128, .f32⟩
  | .local _ .vmem, ⟨20, _⟩ => ⟨S512x8, .f32⟩
  | .local _ .vmem, ⟨21, _⟩ => ⟨S512x8, .f32⟩
  | .local _ .vmem, ⟨22, _⟩ => ⟨S1x128, .f32⟩
  | .local _ .vmem, ⟨23, _⟩ => ⟨S1x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_call1_v0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14_0 : Ref sig .tc := ⟨.hbm, 31, rfl⟩
abbrev main_v14_1 : Ref sig .tc := ⟨.hbm, 32, rfl⟩
abbrev main_v14_2 : Ref sig .tc := ⟨.hbm, 33, rfl⟩
abbrev main_v14_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4096x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x8 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== MergeRefIdeal.lean ====
abbrev S32768x1024 : Shape := ⟨2, ![32768, 1024]⟩
abbrev S32768x512 : Shape := ⟨2, ![32768, 512]⟩
abbrev S1024 : Shape := ⟨1, ![1024]⟩
abbrev S3x1024x1024 : Shape := ⟨3, ![3, 1024, 1024]⟩
abbrev S3x512x1024 : Shape := ⟨3, ![3, 512, 1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1x1024x1024 : Shape := ⟨3, ![1, 1024, 1024]⟩
abbrev S1x512x1024 : Shape := ⟨3, ![1, 512, 1024]⟩
abbrev S512x1024 : Shape := ⟨2, ![512, 1024]⟩
abbrev S262144x128 : Shape := ⟨2, ![262144, 128]⟩

abbrev nBuf : Space → Nat
  | .hbm => 101
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S1024, .f32⟩
  | .hbm, ⟨5, _⟩ => ⟨S3x1024x1024, .f32⟩
  | .hbm, ⟨6, _⟩ => ⟨S3x512x1024, .f32⟩
  | .hbm, ⟨7, _⟩ => ⟨S1024x1024, .f32⟩
  | .hbm, ⟨8, _⟩ => ⟨S1024, .f32⟩
  | .hbm, ⟨9, _⟩ => ⟨S1024x4, .f32⟩
  | .hbm, ⟨10, _⟩ => ⟨S4, .f32⟩
  | .hbm, ⟨11, _⟩ => ⟨S1024x32, .f32⟩
  | .hbm, ⟨12, _⟩ => ⟨S32, .f32⟩
  | .hbm, ⟨13, _⟩ => ⟨S32768x1024, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x1024, .f32⟩
  | .hbm, ⟨25, _⟩ => ⟨S32768x1024, .f32⟩
  | .hbm, ⟨26, _⟩ => ⟨S1x1024, .f32⟩
  | .hbm, ⟨27, _⟩ => ⟨S32768x1024, .f32⟩
  | .hbm, ⟨28, _⟩ => ⟨S32768x1024, .f32⟩
  | .hbm, ⟨29, _⟩ => ⟨S_, .f32⟩
  | .hbm, ⟨30, _⟩ => ⟨S32768x1024, .f32⟩
  | .hbm, ⟨31, _⟩ => ⟨S1x1024x1024, .f32⟩
  | .hbm, ⟨32, _⟩ => ⟨S1024x1024, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S_, .f32⟩
  | .hbm, ⟨37, _⟩ => ⟨S32768x1024, .f32⟩
  | .hbm, ⟨38, _⟩ => ⟨S32768x1024, .f32⟩
  | .hbm, ⟨39, _⟩ => ⟨S_, .f32⟩
  | .hbm, ⟨40, _⟩ => ⟨S32768x1024, .f32⟩
  | .hbm, ⟨41, _⟩ => ⟨S32768x1024, .f32⟩
  | .hbm, ⟨42, _⟩ => ⟨S32768x512, .f32⟩
  | .hbm, ⟨43, _⟩ => ⟨S1x512x1024, .f32⟩
  | .hbm, ⟨44, _⟩ => ⟨S512x1024, .f32⟩
  | .hbm, ⟨45, _⟩ => ⟨S32768x1024, .f32⟩
  | .hbm, ⟨46, _⟩ => ⟨S32768x1024, .f32⟩
  | .hbm, ⟨47, _⟩ => ⟨S32768x1024, .f32⟩
  | .hbm, ⟨48, _⟩ => ⟨S1x1024x1024, .f32⟩
  | .hbm, ⟨49, _⟩ => ⟨S1024x1024, .f32⟩
  | .hbm, ⟨50, _⟩ => ⟨S32768x1024, .f32⟩
  | .hbm, ⟨51, _⟩ => ⟨S32768x1024, .f32⟩
  | .hbm, ⟨52, _⟩ => ⟨S32768x1024, .f32⟩
  | .hbm, ⟨53, _⟩ => ⟨S_, .f32⟩
  | .hbm, ⟨54, _⟩ => ⟨S32768x1024, .f32⟩
  | .hbm, ⟨55, _⟩ => ⟨S32768x1024, .f32⟩
  | .hbm, ⟨56, _⟩ => ⟨S_, .f32⟩
  | .hbm, ⟨57, _⟩ => ⟨S32768x1024, .f32⟩
  | .hbm, ⟨58, _⟩ => ⟨S32768x1024, .f32⟩
  | .hbm, ⟨59, _⟩ => ⟨S32768x512, .f32⟩
  | .hbm, ⟨60, _⟩ => ⟨S1x512x1024, .f32⟩
  | .hbm, ⟨61, _⟩ => ⟨S512x1024, .f32⟩
  | .hbm, ⟨62, _⟩ => ⟨S32768x1024, .f32⟩
  | .hbm, ⟨63, _⟩ => ⟨S32768x1024, .f32⟩
  | .hbm, ⟨64, _⟩ => ⟨S32768x1024, .f32⟩
  | .hbm, ⟨65, _⟩ => ⟨S1x1024x1024, .f32⟩
  | .hbm, ⟨66, _⟩ => ⟨S1024x1024, .f32⟩
  | .hbm, ⟨67, _⟩ => ⟨S32768x1024, .f32⟩
  | .hbm, ⟨68, _⟩ => ⟨S32768x1024, .f32⟩
  | .hbm, ⟨69, _⟩ => ⟨S32768x1024, .f32⟩
  | .hbm, ⟨70, _⟩ => ⟨S_, .f32⟩
  | .hbm, ⟨71, _⟩ => ⟨S32768x1024, .f32⟩
  | .hbm, ⟨72, _⟩ => ⟨S32768x1024, .f32⟩
  | .hbm, ⟨73, _⟩ => ⟨S_, .f32⟩
  | .hbm, ⟨74, _⟩ => ⟨S32768x1024, .f32⟩
  | .hbm, ⟨75, _⟩ => ⟨S32768x1024, .f32⟩
  | .hbm, ⟨76, _⟩ => ⟨S32768x512, .f32⟩
  | .hbm, ⟨77, _⟩ => ⟨S1x512x1024, .f32⟩
  | .hbm, ⟨78, _⟩ => ⟨S512x1024, .f32⟩
  | .hbm, ⟨79, _⟩ => ⟨S32768x1024, .f32⟩
  | .hbm, ⟨80, _⟩ => ⟨S32768x1024, .f32⟩
  | .hbm, ⟨81, _⟩ => ⟨S32768x1024, .f32⟩
  | .hbm, ⟨82, _⟩ => ⟨S32768x1024, .f32⟩
  | .hbm, ⟨83, _⟩ => ⟨S32768x1024, .f32⟩
  | .hbm, ⟨84, _⟩ => ⟨S32768x1024, .f32⟩
  | .hbm, ⟨85, _⟩ => ⟨S_, .f32⟩
  | .hbm, ⟨86, _⟩ => ⟨S32768, .f32⟩
  | .hbm, ⟨87, _⟩ => ⟨S32768x1, .f32⟩
  | .hbm, ⟨88, _⟩ => ⟨S_, .f32⟩
  | .hbm, ⟨89, _⟩ => ⟨S32768x1, .f32⟩
  | .hbm, ⟨90, _⟩ => ⟨S32768x1, .f32⟩
  | .hbm, ⟨91, _⟩ => ⟨S_, .f32⟩
  | .hbm, ⟨92, _⟩ => ⟨S32768x1, .f32⟩
  | .hbm, ⟨93, _⟩ => ⟨S32768x1, .f32⟩
  | .hbm, ⟨94, _⟩ => ⟨S32768x1, .f32⟩
  | .hbm, ⟨95, _⟩ => ⟨S32768x1024, .f32⟩
  | .hbm, ⟨96, _⟩ => ⟨S32768x1024, .f32⟩
  | .hbm, ⟨97, _⟩ => ⟨S1x1024, .f32⟩
  | .hbm, ⟨98, _⟩ => ⟨S32768x1024, .f32⟩
  | .hbm, ⟨99, _⟩ => ⟨S32768x1024, .f32⟩
  | .hbm, ⟨100, _⟩ => ⟨S262144x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_7 : Ref sig .tc := ⟨.hbm, 70, rfl⟩
abbrev main_v49 : Ref sig .tc := ⟨.hbm, 71, rfl⟩
abbrev main_v50 : Ref sig .tc := ⟨.hbm, 72, rfl⟩
abbrev main_cst_8 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_9 : Ref sig .tc := ⟨.hbm, 85, rfl⟩
abbrev main_v62 : Ref sig .tc := ⟨.hbm, 86, rfl⟩
abbrev main_v63 : Ref sig .tc := ⟨.hbm, 87, rfl⟩
abbrev main_cst_10 : Ref sig .tc := ⟨.hbm, 88, rfl⟩
abbrev main_v64 : Ref sig .tc := ⟨.hbm, 89, rfl⟩
abbrev main_v65 : Ref sig .tc := ⟨.hbm, 90, rfl⟩
abbrev main_cst_11 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩

abbrev nD : Nat := 1
abbrev τ : Topo := Topo.v7x

variable {F : FTy → Type} [FloatOps F]
-- ==== Select.lean ====
abbrev S4x8192x512 : Shape := ⟨3, ![4, 8192, 512]⟩
abbrev S4x32x512 : Shape := ⟨3, ![4, 32, 512]⟩
abbrev S4x8x8192x128 : Shape := ⟨4, ![4, 8, 8192, 128]⟩
abbrev S1x256x512 : Shape := ⟨3, ![1, 256, 512]⟩
abbrev S1x32x512 : Shape := ⟨3, ![1, 32, 512]⟩
abbrev S1x8x256x128 : Shape := ⟨4, ![1, 8, 256, 128]⟩
abbrev S256x128 : Shape := ⟨2, ![256, 128]⟩
abbrev S32x256 : Shape := ⟨2, ![32, 256]⟩
abbrev S32x512 : Shape := ⟨2, ![32, 512]⟩
abbrev S1x256x128 : Shape := ⟨3, ![1, 256, 128]⟩
abbrev S32x128 : Shape := ⟨2, ![32, 128]⟩
abbrev S256 : Shape := ⟨1, ![256]⟩
abbrev S1x256 : Shape := ⟨2, ![1, 256]⟩
abbrev S96x256 : Shape := ⟨2, ![96, 256]⟩
abbrev S128x256 : Shape := ⟨2, ![128, 256]⟩
abbrev S1x1x256x128 : Shape := ⟨4, ![1, 1, 256, 128]⟩

abbrev nBuf : Space → Nat
  | .hbm => 5
  | .vmem => 10
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x32x512, .f32⟩
  | .hbm, ⟨3, _⟩ => ⟨S4x8x8192x128, .bf16⟩
  | .hbm, ⟨4, _⟩ => ⟨S4x8x8192x128, .bf16⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x32x512, .f32⟩
  | .local _ .vmem, ⟨5, _⟩ => ⟨S1x32x512, .f32⟩
  | .local _ .vmem, ⟨6, _⟩ => ⟨S1x8x256x128, .bf16⟩
  | .local _ .vmem, ⟨7, _⟩ => ⟨S1x8x256x128, .bf16⟩
  | .local _ .vmem, ⟨8, _⟩ => ⟨S1x8x256x128, .bf16⟩
  | .local _ .vmem, ⟨9, _⟩ => ⟨S1x8x256x128, .bf16⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SelectRefIdeal.lean ====
abbrev S4x8192x512 : Shape := ⟨3, ![4, 8192, 512]⟩
abbrev S4x32x512 : Shape := ⟨3, ![4, 32, 512]⟩
abbrev S4x8192x8x64 : Shape := ⟨4, ![4, 8192, 8, 64]⟩
abbrev S4x8x8192x64 : Shape := ⟨4, ![4, 8, 8192, 64]⟩
abbrev S8192 : Shape := ⟨1, ![8192]⟩
abbrev S_ : Shape := ⟨0, ![]⟩
abbrev S8192x1 : Shape := ⟨2, ![8192, 1]⟩
abbrev S32 : Shape := ⟨1, ![32]⟩
abbrev S1x32 : Shape := ⟨2, ![1, 32]⟩
abbrev S8192x32 : Shape := ⟨2, ![8192, 32]⟩
abbrev S4x8x8192x32 : Shape := ⟨4, ![4, 8, 8192, 32]⟩
abbrev S4x8x8192x128 : Shape := ⟨4, ![4, 8, 8192, 128]⟩

abbrev nBuf : Space → Nat
  | .hbm => 42
  | .vmem => 0
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x32x512, .f32⟩
  | .hbm, ⟨3, _⟩ => ⟨S4x8192x512, .f32⟩
  | .hbm, ⟨4, _⟩ => ⟨S4x8192x8x64, .f32⟩
  | .hbm, ⟨5, _⟩ => ⟨S4x8x8192x64, .f32⟩
  | .hbm, ⟨6, _⟩ => ⟨S8192, .i32⟩
  | .hbm, ⟨7, _⟩ => ⟨S_, .i32⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S_, .i32⟩
  | .hbm, ⟨13, _⟩ => ⟨S8192, .i32⟩
  | .hbm, ⟨14, _⟩ => ⟨S8192, .i1⟩
  | .hbm, ⟨15, _⟩ => ⟨S8192, .i32⟩
  | .hbm, ⟨16, _⟩ => ⟨S8192, .i32⟩
  | .hbm, ⟨17, _⟩ => ⟨S_, .i32⟩
  | .hbm, ⟨18, _⟩ => ⟨S8192, .i32⟩
  | .hbm, ⟨19, _⟩ => ⟨S8192, .i1⟩
  | .hbm, ⟨20, _⟩ => ⟨S8192, .i1⟩
  | .hbm, ⟨21, _⟩ => ⟨S_, .i32⟩
  | .hbm, ⟨22, _⟩ => ⟨S8192, .i32⟩
  | .hbm, ⟨23, _⟩ => ⟨S8192, .i32⟩
  | .hbm, ⟨24, _⟩ => ⟨S8192, .i32⟩
  | .hbm, ⟨25, _⟩ => ⟨S8192x1, .i32⟩
  | .hbm, ⟨26, _⟩ => ⟨S32, .i32⟩
  | .hbm, ⟨27, _⟩ => ⟨S1x32, .i32⟩
  | .hbm, ⟨28, _⟩ => ⟨S8192x32, .i32⟩
  | .hbm, ⟨29, _⟩ => ⟨S8192x32, .i32⟩
  | .hbm, ⟨30, _⟩ => ⟨S8192x32, .i1⟩
  | .hbm, ⟨31, _⟩ => ⟨S_, .f32⟩
  | .hbm, ⟨32, _⟩ => ⟨S_, .f32⟩
  | .hbm, ⟨33, _⟩ => ⟨S8192x32, .f32⟩
  | .hbm, ⟨34, _⟩ => ⟨S8192x32, .f32⟩
  | .hbm, ⟨35, _⟩ => ⟨S8192x32, .f32⟩
  | .hbm, ⟨36, _⟩ => ⟨S4x8x8192x32, .f32⟩
  | .hbm, ⟨37, _⟩ => ⟨S_, .f32⟩
  | .hbm, ⟨38, _⟩ => ⟨S4x8x8192x32, .f32⟩
  | .hbm, ⟨39, _⟩ => ⟨S4x8x8192x32, .f32⟩
  | .hbm, ⟨40, _⟩ => ⟨S4x8x8192x128, .f32⟩
  | .hbm, ⟨41, _⟩ => ⟨S4x8x8192x128, .bf16⟩
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_v11 : Ref sig .tc := ⟨.hbm, 35, rfl⟩
abbrev main_v12 : Ref sig .tc := ⟨.hbm, 36, rfl⟩
abbrev main_cst_1 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩

abbrev nD : Nat := 1
abbrev τ : Topo := Topo.v7x

variable {F : FTy → Type} [FloatOps F]
-- ==== Proof.GlaSpec.lean ====
module

public import Idealize.ShloMosaic.Lib.Pointwise

/-! The mixer as plain formulas over the extended reals, read at natural-number coordinates: both programs are shown to compute
`Args.out`. A position is `64 * n + i` (chunk `n`, row `i`), a query or key channel `64 * h + d` and a value channel
`128 * h + e` (head `h`). -/

@[expose] public section

noncomputable section

namespace Gla

open Idealize.ShloMosaic

/-- A rank-3 array at natural-number coordinates, 0 outside. -/
def at3 {a b c : ℕ} (X : (⟨3, ![a, b, c]⟩ : Shape).Idx → EReal) (i j k : ℕ) : EReal :=
  if h : i < a ∧ j < b ∧ k < c then X (ix3 ⟨i, h.1⟩ ⟨j, h.2.1⟩ ⟨k, h.2.2⟩) else 0

/-- A rank-2 array at natural-number coordinates, 0 outside. -/
def at2 {a b : ℕ} (X : (⟨2, ![a, b]⟩ : Shape).Idx → EReal) (i j : ℕ) : EReal :=
  if h : i < a ∧ j < b then X (ix2 ⟨i, h.1⟩ ⟨j, h.2⟩) else 0

/-- A vector at a natural-number coordinate, 0 outside. -/
def at1 {a : ℕ} (X : (⟨1, ![a]⟩ : Shape).Idx → EReal) (i : ℕ) : EReal := if h : i < a then X (ix1 ⟨i, h⟩) else 0

theorem at3_of {a b c : ℕ} (X : (⟨3, ![a, b, c]⟩ : Shape).Idx → EReal) (i : Fin a) (j : Fin b) (k : Fin c) :
    at3 X i.val j.val k.val = X (ix3 i j k) := dif_pos ⟨i.isLt, j.isLt, k.isLt⟩

theorem at2_of {a b : ℕ} (X : (⟨2, ![a, b]⟩ : Shape).Idx → EReal) (i : Fin a) (j : Fin b) :
    at2 X i.val j.val = X (ix2 i j) := dif_pos ⟨i.isLt, j.isLt⟩

theorem at1_of {a : ℕ} (X : (⟨1, ![a]⟩ : Shape).Idx → EReal) (i : Fin a) : at1 X i.val = X (ix1 i) := dif_pos i.isLt

theorem at3_eq {a b c : ℕ} (X : (⟨3, ![a, b, c]⟩ : Shape).Idx → EReal) (i : Fin a) (j : Fin b) (k : Fin c) {j' k' : ℕ}
    (hj : j.val = j') (hk : k.val = k') : X (ix3 i j k) = at3 X i.val j' k' := by
  rw [← hj, ← hk, at3_of]

theorem at1_eq {a : ℕ} (X : (⟨1, ![a]⟩ : Shape).Idx → EReal) (i : Fin a) {i' : ℕ} (hi : i.val = i') : X (ix1 i) = at1 X i' := by
  rw [← hi, at1_of]

/-- The mixer's arguments, read at natural-number coordinates. -/
structure Args where
  q : ℕ → ℕ → ℕ → EReal
  k : ℕ → ℕ → ℕ → EReal
  v : ℕ → ℕ → ℕ → EReal
  r : ℕ → ℕ → ℕ → EReal
  z : ℕ → ℕ → ℕ → EReal
  w : ℕ → ℕ → EReal
  bias : ℕ → EReal
  norm : ℕ → EReal

variable (A : Args)

/-- The negated argument of the gate. -/
def Args.neg (b s c : ℕ) : EReal := 0 - (∑ i : Fin 16, A.z b s i.val * A.w i.val c + A.bias c)

/-- The log of the gate. -/
def Args.gate (b s c : ℕ) : EReal :=
  Ideal.div (0 - (max (A.neg b s c) 0 + Ideal.log1p (Ideal.exp (0 - FloatOps.absf (F := Ideal) (φ := .f32) (A.neg b s c)))))
    (Ideal.ofBits .f32 0x41800000#32)

/-- The running sum of the log gates within a chunk. -/
def Args.cum (b h n i d : ℕ) : EReal := ∑ j ∈ Finset.range (i + 1), A.gate b (64 * n + j) (64 * h + d)

/-- A scaled query with the decay since its chunk's start. -/
def Args.qe (b h n i d : ℕ) : EReal :=
  A.q b (64 * n + i) (64 * h + d) * Ideal.ofBits .f32 0x3E000000#32 * Ideal.exp (A.cum b h n i d)

/-- The state of a head before chunk `n`. -/
def Args.st (b h : ℕ) : ℕ → ℕ → ℕ → EReal
  | 0, _, _ => 0
  | n + 1, e, d => Args.st b h n e d * Ideal.exp (A.cum b h n 63 d) +
      ∑ j : Fin 64, A.v b (64 * n + j.val) (128 * h + e) *
        (A.k b (64 * n + j.val) (64 * h + d) * Ideal.exp (A.cum b h n 63 d - A.cum b h n j.val d))

/-- A masked score of two rows of a chunk. -/
def Args.score (b h n i j : ℕ) : EReal :=
  if j ≤ i then ∑ d : Fin 64, A.qe b h n i d.val *
    (A.k b (64 * n + j) (64 * h + d.val) * Ideal.exp (0 - A.cum b h n j d.val)) else 0

/-- What a query reads: its own chunk, and the state before it. -/
def Args.read (b h n i e : ℕ) : EReal :=
  ∑ j : Fin 64, A.score b h n i j.val * A.v b (64 * n + j.val) (128 * h + e) +
    ∑ d : Fin 64, A.qe b h n i d.val * A.st b h n e d.val

/-- The result at a chunk's row and a head's channel. -/
def Args.out (b h n i e : ℕ) : EReal :=
  A.read b h n i e *
        Ideal.rsqrt (Ideal.div (∑ x : Fin 128, A.read b h n i x.val * A.read b h n i x.val) (Ideal.ofBits .f32 0x43000000#32) +
          Ideal.ofBits .f32 0x358637BD#32) *
      A.norm e *
    (A.r b (64 * n + i) (128 * h + e) * Ideal.logistic (A.r b (64 * n + i) (128 * h + e)))

end Gla
-- ==== Proof.GlaRefCum.lean ====
module

public import proofs.«01_k».proof.Proof.GlaSpec
public import proofs.«01_k».proof.Proof.Gen.ReferenceIdeal.Step

/-! The reference's running sum along the 64 rows of a chunk, read at an index. -/

@[expose] public section

set_option maxRecDepth 16384

noncomputable section

namespace Cert.ReferenceIdeal.Gla

open Idealize.ShloMosaic Idealize.ShloMosaic.TcCoe Idealize.SL.Sem
open Cert.ReferenceIdeal Cert.ReferenceIdeal.Gen

/-- A left fold of additions is a sum. -/
theorem foldl_sum {n : ℕ} (g : Fin n → EReal) : (List.finRange n).foldl (fun r k => r + g k) 0 = ∑ k, g k := by
  have h : ∀ (l : List (Fin n)) (v : EReal), l.foldl (fun r k => r + g k) v = v + (l.map g).sum := by
    intro l
    induction l with
    | nil => intro v; simp
    | cons a l ih => intro v; rw [List.foldl_cons, ih, List.map_cons, List.sum_cons, add_assoc]
  rw [h, zero_add, Fin.sum_univ_def]

/-- A window of 64 that starts 63 before row `i` sums the rows up to `i`. -/
theorem window_sum (f : ℕ → EReal) (i : ℕ) (hi : i < 64) :
    ∑ k : Fin 64, (if 63 ≤ i + k.val then f (i + k.val - 63) else 0) = ∑ j ∈ Finset.range (i + 1), f j := by
  rw [Fin.sum_univ_eq_sum_range (fun k => if 63 ≤ i + k then f (i + k - 63) else 0) 64, ← Finset.sum_range_reflect,
    ← Finset.sum_range_reflect f (i + 1)]
  rw [← Finset.sum_subset (Finset.range_subset_range.mpr (by omega : i + 1 ≤ 64))]
  · refine Finset.sum_congr rfl fun k hk => ?_
    have := Finset.mem_range.mp hk
    rw [if_pos (by omega)]
    congr 1
    omega
  · intro k hk hk'
    have := Finset.mem_range.mp hk
    have hk' : ¬k < i + 1 := fun h => hk' (Finset.mem_range.mpr h)
    rw [if_neg (by omega)]

/-- The window's shape. -/
abbrev win : Shape := ⟨5, ![1, 1, 1, 64, 1]⟩

theorem win_row : ∀ n : Fin win.numel, (win.rowMajor.symm n 3).val = n.val := by decide +kernel

theorem win_one (n : Fin win.numel) : (win.rowMajor.symm n 0).val = 0 ∧ (win.rowMajor.symm n 1).val = 0 ∧
    (win.rowMajor.symm n 2).val = 0 ∧ (win.rowMajor.symm n 4).val = 0 :=
  ⟨Nat.lt_one_iff.mp (win.rowMajor.symm n 0).isLt, Nat.lt_one_iff.mp (win.rowMajor.symm n 1).isLt,
    Nat.lt_one_iff.mp (win.rowMajor.symm n 2).isLt, Nat.lt_one_iff.mp (win.rowMajor.symm n 4).isLt⟩

/-- The running sum, where the rows hold `f`. -/
theorem running_at (x : FVec Ideal S4x4x128x64x64 .f32) (z : FVec Ideal S_ .f32) (hz : z (Shape.Idx.first h_S_) = (0 : EReal))
    (b h : Fin 4) (n : Fin 128) (d : Fin 64) (f : ℕ → EReal) (hx : ∀ j : Fin 64, x (ix5 b h n j d) = f j.val) (i : Fin 64) :
    Host.reduceWindowAdd ![1, 1, 1, 64, 1] ![1, 1, 1, 1, 1] ![0, 0, 0, 63, 0] ![0, 0, 0, 0, 0] x z
      reduceWindows_S4x4x128x64x64_S4x4x128x64x64_w1s1p0_0_w1s1p0_0_w1s1p0_0_w64s1p63_0_w1s1p0_0 h_S_ (ix5 b h n i d) =
      ∑ j ∈ Finset.range (i.val + 1), f j := by
  rw [← window_sum f i.val i.isLt]
  unfold Host.reduceWindowAdd
  rw [hz]
  rw [Ideal.hostReduceWindowAdd_def]
  unfold Ideal.hostReduceWindowAdd Host.reduceWindow
  dsimp only
  refine (foldl_sum (n := win.numel) _).trans ?_
  change (∑ k : Fin win.numel, _) = ∑ k : Fin win.numel, _
  refine Finset.sum_congr rfl fun k _ => ?_
  have e3 := win_row k
  obtain ⟨e0, e1, e2, e4⟩ := win_one k
  have hk : k.val < 64 := k.isLt
  by_cases hle : 63 ≤ i.val + k.val
  · rw [if_pos hle, ← hx ⟨i.val + k.val - 63, by omega⟩]
    have hin : ∀ a : Fin 5, (![0, 0, 0, 63, 0] : Fin 5 → ℕ) a ≤
        ((ix5 b h n i d : S4x4x128x64x64.Idx) a).val * (![1, 1, 1, 1, 1] : Fin 5 → ℕ) a + (win.rowMajor.symm k a).val ∧
        ((ix5 b h n i d : S4x4x128x64x64.Idx) a).val * (![1, 1, 1, 1, 1] : Fin 5 → ℕ) a + (win.rowMajor.symm k a).val -
          (![0, 0, 0, 63, 0] : Fin 5 → ℕ) a < (![4, 4, 128, 64, 64] : Fin 5 → ℕ) a := by
      intro a
      match a with
      | ⟨0, _⟩ => exact ⟨Nat.zero_le _, by change b.val * 1 + (win.rowMajor.symm k 0).val - 0 < 4; omega⟩
      | ⟨1, _⟩ => exact ⟨Nat.zero_le _, by change h.val * 1 + (win.rowMajor.symm k 1).val - 0 < 4; omega⟩
      | ⟨2, _⟩ => exact ⟨Nat.zero_le _, by change n.val * 1 + (win.rowMajor.symm k 2).val - 0 < 128; omega⟩
      | ⟨3, _⟩ => exact ⟨by change 63 ≤ i.val * 1 + (win.rowMajor.symm k 3).val; omega,
          by change i.val * 1 + (win.rowMajor.symm k 3).val - 63 < 64; omega⟩
      | ⟨4, _⟩ => exact ⟨Nat.zero_le _, by change d.val * 1 + (win.rowMajor.symm k 4).val - 0 < 64; omega⟩
    refine (dif_pos hin).trans (congrArg x (funext fun a => Fin.ext ?_))
    match a with
    | ⟨0, _⟩ => change b.val * 1 + (win.rowMajor.symm k 0).val - 0 = b.val; omega
    | ⟨1, _⟩ => change h.val * 1 + (win.rowMajor.symm k 1).val - 0 = h.val; omega
    | ⟨2, _⟩ => change n.val * 1 + (win.rowMajor.symm k 2).val - 0 = n.val; omega
    | ⟨3, _⟩ => change i.val * 1 + (win.rowMajor.symm k 3).val - 63 = i.val + k.val - 63; omega
    | ⟨4, _⟩ => change d.val * 1 + (win.rowMajor.symm k 4).val - 0 = d.val; omega
  · rw [if_neg hle]
    refine dif_neg fun hin => hle ?_
    have h3 := (hin 3).1
    change 63 ≤ i.val * 1 + (win.rowMajor.symm k 3).val at h3
    omega

end Cert.ReferenceIdeal.Gla
-- ==== Proof.GlaRefVal.lean ====
module

public import proofs.«01_k».proof.Proof.Gen.ReferenceIdeal.Step
public import proofs.«01_k».proof.Proof.GlaRefCum
public import Idealize.ShloMosaic.Lib.WordCmp

/-! What the reference computes before its loop, in the formulas of `Gla.Args`. -/

@[expose] public section

set_option maxRecDepth 16384

noncomputable section

namespace Cert.ReferenceIdeal.Gla

open Idealize.ShloMosaic Idealize.ShloMosaic.TcCoe Idealize.SL.Sem
open Cert.ReferenceIdeal Cert.ReferenceIdeal.Gen Cert.ReferenceIdeal.Step
open _root_.Gla (Args at1 at2 at3 at1_of at2_of at3_of at3_eq)

/-- The mixer's arguments, of the arrays. -/
def ofArrays (a0 a1 : FVec Ideal S4x8192x256 .f32) (a2 a3 : FVec Ideal S4x8192x512 .f32) (a4 : FVec Ideal S4x8192x128 .f32)
    (a5 : FVec Ideal S16x256 .f32) (a6 : FVec Ideal S256 .f32) (a7 : FVec Ideal S128 .f32) : Args where
  q := at3 (a := 4) (b := 8192) (c := 256) a0
  k := at3 (a := 4) (b := 8192) (c := 256) a1
  v := at3 (a := 4) (b := 8192) (c := 512) a2
  r := at3 (a := 4) (b := 8192) (c := 512) a3
  z := at3 (a := 4) (b := 8192) (c := 128) a4
  w := at2 (a := 16) (b := 256) a5
  bias := at1 (a := 256) a6
  norm := at1 (a := 128) a7

variable (a0 a1 : FVec Ideal S4x8192x256 .f32) (a2 a3 : FVec Ideal S4x8192x512 .f32) (a4 : FVec Ideal S4x8192x128 .f32)
    (a5 : FVec Ideal S16x256 .f32) (a6 : FVec Ideal S256 .f32) (a7 : FVec Ideal S128 .f32)

/-- The negated argument of the gate. -/
theorem neg_at (b : Fin 4) (s : Fin 8192) (x : Fin 256) : (A_main_v10 (F := Ideal) a0 a1 a2 a4 a5 a6 : FVec Ideal S4x8192x256 .f32) (ix3 b s x) =
    (ofArrays a0 a1 a2 a3 a4 a5 a6 a7).neg b.val s.val x.val := by
  pointwise [A_main_v10, A_main_v9, A_main_v8, A_main_v7, A_main_v6, A_main_v0]
  unfold Args.neg
  rw [zero_sub]
  exact congrArg Neg.neg (congrArg₂ (· + ·) (Finset.sum_congr rfl fun i _ => congrArg₂ (· * ·)
    (at3_of (a := 4) (b := 8192) (c := 128) a4 b s ⟨i.val, by omega⟩).symm (at2_of (a := 16) (b := 256) a5 i x).symm)
    (at1_of (a := 256) a6 x).symm)

/-- The log of the gate. -/
theorem gate_at (b : Fin 4) (s : Fin 8192) (x : Fin 256) : (A_main_v14 (F := Ideal) a0 a1 a2 a4 a5 a6 : FVec Ideal S4x8192x256 .f32) (ix3 b s x) =
    (ofArrays a0 a1 a2 a3 a4 a5 a6 a7).gate b.val s.val x.val := by
  have h := neg_at a0 a1 a2 a3 a4 a5 a6 a7 b s x
  pointwise [A_main_v14, A_main_v12, A_main_v11, A_main_call0_v11, A_main_call0_v10, A_main_call0_v9, A_main_call0_v8,
    A_main_call0_v7, A_main_call0_v6, A_main_call0_v4, A_main_call0_v3, A_main_call0_v1, K_main_v13, K_main_cst_0,
    K_main_call0_v5, K_main_call0_v2, K_main_call0_v0, K_main_call0_cst, h]
  unfold Args.gate
  rw [if_neg (fun h => h rfl), zero_sub, zero_sub]

/-- The log gates, by chunk and head. -/
theorem gates_at (b h : Fin 4) (n : Fin 128) (i d : Fin 64) : (A_main_v23 (F := Ideal) a0 a1 a2 a4 a5 a6 : FVec Ideal S4x4x128x64x64 .f32) (ix5 b h n i d) =
    (ofArrays a0 a1 a2 a3 a4 a5 a6 a7).gate b.val (64 * n.val + i.val) (64 * h.val + d.val) := by
  pointwise [A_main_v23, A_main_v22, A_main_v15]
  refine (gate_at a0 a1 a2 a3 a4 a5 a6 a7 _ _ _).trans ?_
  exact congrArg₂ (Args.gate _ b.val) (show n.val * 64 + i.val = 64 * n.val + i.val by omega)
    (show h.val * 64 + d.val = 64 * h.val + d.val by omega)

/-- The running sum of the log gates within a chunk. -/
theorem cum_at (b h : Fin 4) (n : Fin 128) (i d : Fin 64) : (A_main_v24 (F := Ideal) a0 a1 a2 a4 a5 a6 : FVec Ideal S4x4x128x64x64 .f32) (ix5 b h n i d) =
    (ofArrays a0 a1 a2 a3 a4 a5 a6 a7).cum b.val h.val n.val i.val d.val := by
  refine (running_at _ _ ?_ b h n d (fun j => (ofArrays a0 a1 a2 a3 a4 a5 a6 a7).gate b.val (64 * n.val + j) (64 * h.val + d.val))
    (fun j => gates_at a0 a1 a2 a3 a4 a5 a6 a7 b h n j d) i).trans rfl
  unfold K_main_call1_call0_v0 K_main_call1_call0_cst
  pointwise

theorem q_at (b h : Fin 4) (n : Fin 128) (i d : Fin 64) : (A_main_v17 (F := Ideal) a0 a1 a2 a4 a5 a6 : FVec Ideal S4x4x128x64x64 .f32) (ix5 b h n i d) =
    (ofArrays a0 a1 a2 a3 a4 a5 a6 a7).q b.val (64 * n.val + i.val) (64 * h.val + d.val) * Ideal.ofBits .f32 0x3E000000#32 := by
  pointwise [A_main_v17, A_main_v16, A_main_v3, A_main_v1, K_main_v2, K_main_cst]
  exact congrArg (· * _) (at3_eq (a := 4) (b := 8192) (c := 256) a0 b _ _ (by dsimp only; omega) (by dsimp only; omega))

theorem k_at (b h : Fin 4) (n : Fin 128) (i d : Fin 64) : (A_main_v19 (F := Ideal) a0 a1 a2 a4 a5 a6 : FVec Ideal S4x4x128x64x64 .f32) (ix5 b h n i d) =
    (ofArrays a0 a1 a2 a3 a4 a5 a6 a7).k b.val (64 * n.val + i.val) (64 * h.val + d.val) := by
  pointwise [A_main_v19, A_main_v18, A_main_v4]
  exact at3_eq (a := 4) (b := 8192) (c := 256) a1 b _ _ (by dsimp only; omega) (by dsimp only; omega)

theorem v_at (b h : Fin 4) (n : Fin 128) (i : Fin 64) (e : Fin 128) : (A_main_v21 (F := Ideal) a0 a1 a2 a4 a5 a6 : FVec Ideal S4x4x128x64x128 .f32) (ix5 b h n i e) =
    (ofArrays a0 a1 a2 a3 a4 a5 a6 a7).v b.val (64 * n.val + i.val) (128 * h.val + e.val) := by
  pointwise [A_main_v21, A_main_v20, A_main_v5]
  exact at3_eq (a := 4) (b := 8192) (c := 512) a2 b _ _ (by dsimp only; omega) (by dsimp only; omega)

theorem qe_at (b h : Fin 4) (n : Fin 128) (i d : Fin 64) : (A_main_v27 (F := Ideal) a0 a1 a2 a4 a5 a6 : FVec Ideal S4x4x128x64x64 .f32) (ix5 b h n i d) =
    (ofArrays a0 a1 a2 a3 a4 a5 a6 a7).qe b.val h.val n.val i.val d.val := by
  have h1 := q_at a0 a1 a2 a3 a4 a5 a6 a7 b h n i d
  have h2 := cum_at a0 a1 a2 a3 a4 a5 a6 a7 b h n i d
  pointwise [A_main_v27, A_main_v26, h1, h2]
  rfl

theorem kd_at (b h : Fin 4) (n : Fin 128) (i d : Fin 64) : (A_main_v34 (F := Ideal) a0 a1 a2 a4 a5 a6 : FVec Ideal S4x4x128x64x64 .f32) (ix5 b h n i d) =
    (ofArrays a0 a1 a2 a3 a4 a5 a6 a7).k b.val (64 * n.val + i.val) (64 * h.val + d.val) *
      Ideal.exp ((ofArrays a0 a1 a2 a3 a4 a5 a6 a7).cum b.val h.val n.val 63 d.val - (ofArrays a0 a1 a2 a3 a4 a5 a6 a7).cum b.val h.val n.val i.val d.val) := by
  have h1 := k_at a0 a1 a2 a3 a4 a5 a6 a7 b h n i d
  have h2 := cum_at a0 a1 a2 a3 a4 a5 a6 a7 b h n
  pointwise [A_main_v34, A_main_v33, A_main_v32, A_main_v31, A_main_v25, h1, h2]

theorem score_at (b h : Fin 4) (n : Fin 128) (i j : Fin 64) : (A_main_v38 (F := Ideal) a0 a1 a2 a4 a5 a6 : FVec Ideal S4x4x128x64x64 .f32) (ix5 b h n i j) =
    (ofArrays a0 a1 a2 a3 a4 a5 a6 a7).score b.val h.val n.val i.val j.val := by
  have hc : IntOp.cmpi CmpIPredicate.sge (BitVec.ofNat 32 i.val) (BitVec.ofNat 32 j.val) =
      BitVec.ofBool (decide (j.val ≤ i.val)) := WordCmp.cmpi_sge_ofNat (by omega) (by omega)
  have h1 := qe_at a0 a1 a2 a3 a4 a5 a6 a7 b h n i
  have h2 := k_at a0 a1 a2 a3 a4 a5 a6 a7 b h n j
  have h3 := cum_at a0 a1 a2 a3 a4 a5 a6 a7 b h n j
  pointwise [A_main_v38, A_main_v37, A_main_v30, A_main_v29, A_main_v28, K_main_call3_v1, K_main_call3_v2, K_main_call3_v0,
    K_main_cst_1, K_main_v36, K_main_v35, K_main_c, K_main_call2_v5, K_main_call2_c_0, K_main_call2_v4, K_main_call2_v3,
    K_main_call2_v2, K_main_call2_v1, K_main_call2_c, K_main_call2_v0, h1, h2, h3, hc]
  unfold Args.score
  have hz : ∀ w : BitVec 32, IntOp.addi w 0#32 = w := fun w => BitVec.add_zero w
  rw [hz, hc]
  simp only [zero_sub]
  by_cases hle : j.val ≤ i.val
  · simp [hle, Scalar.select]
  · simp only [hle, decide_false, if_false]
    exact Ideal.ofBits_zero_f32

theorem o_at (b h : Fin 4) (n : Fin 128) (i : Fin 64) (e : Fin 128) : (A_main_v39 (F := Ideal) a0 a1 a2 a4 a5 a6 : FVec Ideal S4x4x128x64x128 .f32) (ix5 b h n i e) =
    ∑ j : Fin 64, (ofArrays a0 a1 a2 a3 a4 a5 a6 a7).score b.val h.val n.val i.val j.val *
      (ofArrays a0 a1 a2 a3 a4 a5 a6 a7).v b.val (64 * n.val + j.val) (128 * h.val + e.val) := by
  have h1 := score_at a0 a1 a2 a3 a4 a5 a6 a7 b h n i
  have h2 := v_at a0 a1 a2 a3 a4 a5 a6 a7 b h n
  pointwise [A_main_v39, h1, h2]

theorem kv_at (b h : Fin 4) (n : Fin 128) (d : Fin 64) (e : Fin 128) : (A_main_v40 (F := Ideal) a0 a1 a2 a4 a5 a6 : FVec Ideal S4x4x128x64x128 .f32) (ix5 b h n d e) =
    ∑ j : Fin 64, (ofArrays a0 a1 a2 a3 a4 a5 a6 a7).v b.val (64 * n.val + j.val) (128 * h.val + e.val) *
      ((ofArrays a0 a1 a2 a3 a4 a5 a6 a7).k b.val (64 * n.val + j.val) (64 * h.val + d.val) *
        Ideal.exp ((ofArrays a0 a1 a2 a3 a4 a5 a6 a7).cum b.val h.val n.val 63 d.val - (ofArrays a0 a1 a2 a3 a4 a5 a6 a7).cum b.val h.val n.val j.val d.val)) := by
  have h1 := kd_at a0 a1 a2 a3 a4 a5 a6 a7 b h n
  have h2 := v_at a0 a1 a2 a3 a4 a5 a6 a7 b h n
  pointwise [A_main_v40, h1, h2]
  exact Finset.sum_congr rfl fun j _ => mul_comm _ _

theorem dec_at (b h : Fin 4) (n : Fin 128) (d : Fin 64) : (A_main_v42 (F := Ideal) a0 a1 a2 a4 a5 a6 : FVec Ideal S4x4x128x64 .f32) (ix4 b h n d) =
    Ideal.exp ((ofArrays a0 a1 a2 a3 a4 a5 a6 a7).cum b.val h.val n.val 63 d.val) := by
  have h2 := cum_at a0 a1 a2 a3 a4 a5 a6 a7 b h n
  pointwise [A_main_v42, A_main_v41, A_main_v25, h2]

end Cert.ReferenceIdeal.Gla
-- ==== Proof.GlaRefRun.lean ====
module

public import proofs.«01_k».proof.Proof.Gen.ReferenceIdeal.Run
public import proofs.«01_k».proof.Proof.Gen.ReferenceIdeal.Step

/-! The reference's loop over the 128 chunks: before trip `j` its buffers hold state number `j` of the sequence that `step`
makes, so its result is read off state 128. -/

@[expose] public section

set_option maxRecDepth 16384

noncomputable section

namespace Cert.ReferenceIdeal.Gla

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init b26 b34 R_main_v69)

variable {F : FTy → Type} [FloatOps F]
variable (m : (ℓ : Loc nD τ sig) → Buf (Elt F) ℓ) (c : Dev nD)

/-- The loop's buffers hold the state `s`, and its counter the number `j`. -/
structure At (V0 : Valuation τ sig (Elt F)) (s : State F) (j : ℕ) : Prop where
  kv : V0 (Proc.devRef .tc main_v49_0) = s.main_v49_0
  dec : V0 (Proc.devRef .tc main_v49_1) = s.main_v49_1
  qe : V0 (Proc.devRef .tc main_v49_2) = s.main_v49_2
  o : V0 (Proc.devRef .tc main_v49_3) = s.main_v49_3
  cnt : V0 (Proc.devRef .tc main_v49_4) = constantI S_ 32 (BitVec.ofNat 32 j)
  st : V0 (Proc.devRef .tc main_v49_5) = s.main_v49_5
  out : V0 (Proc.devRef .tc main_v49_6) = s.main_v49_6

theorem trip_state {V0 : Valuation τ sig (Elt F)} {s : State F} {j : ℕ} (h : At V0 s j) : step_main_v49_5 V0 = b26 j s := by
  unfold step_main_v49_5
  rw [h.dec, h.st, h.kv, h.cnt]
  rfl

theorem trip_out {V0 : Valuation τ sig (Elt F)} {s : State F} {j : ℕ} (h : At V0 s j) : step_main_v49_6 V0 = b34 j s := by
  unfold step_main_v49_6
  rw [h.out, h.o, h.qe, h.st, h.cnt]
  rfl

theorem trip_cnt {V0 : Valuation τ sig (Elt F)} {s : State F} {j : ℕ} (h : At V0 s j) :
    step_main_v49_4 V0 = constantI S_ 32 (BitVec.ofNat 32 (j + 1)) := by
  unfold step_main_v49_4
  rw [h.cnt]
  funext i
  change BitVec.ofNat 32 j + BitVec.ofNat 32 1 = _
  exact (BitVec.ofNat_add j 1).symm

/-- One trip goes from a state to the next. -/
theorem At.next {V0 : Valuation τ sig (Elt F)} {s : State F} {j : ℕ} (h : At V0 s j) : At (STEP V0) (step j s) (j + 1) :=
  ⟨(STEP_main_v49_0 V0).trans h.kv, (STEP_main_v49_1 V0).trans h.dec, (STEP_main_v49_2 V0).trans h.qe,
    (STEP_main_v49_3 V0).trans h.o, (STEP_main_v49_4 V0).trans (trip_cnt h), (STEP_main_v49_5 V0).trans (trip_state h),
    (STEP_main_v49_6 V0).trans (trip_out h)⟩

/-- State number `n` of the loop. -/
def stateAt : ℕ → State F
  | 0 => init (m ((c.tc : Thread nD τ).loc main_arg0)) (m ((c.tc : Thread nD τ).loc main_arg1))
      (m ((c.tc : Thread nD τ).loc main_arg2)) (m ((c.tc : Thread nD τ).loc main_arg4))
      (m ((c.tc : Thread nD τ).loc main_arg5)) (m ((c.tc : Thread nD τ).loc main_arg6))
  | n + 1 => step n (stateAt n)

set_option maxRecDepth 65536 in
set_option maxHeartbeats 1000000 in
/-- The operations before the loop leave state number 0. -/
theorem before : At (entryContents preI m c) (stateAt m c 0) 0 := by
  refine ⟨?_, ?_, ?_, ?_, ?_, ?_, ?_⟩ <;>
    (simp only [entryContents, afterL_cons, afterL_nil]; after_reads_simp; rfl)

theorem after : ∀ n, At (STEP^[n] (entryContents preI m c)) (stateAt m c n) n
  | 0 => before m c
  | n + 1 => by
    rw [Function.iterate_succ_apply']
    exact (after n).next

/-- The result, read off the last state and the two arguments that the operations after the loop read. -/
theorem result (m : (ℓ : Loc nD τ sig) → Buf (Elt F) ℓ) (c : Dev nD) :
    out_main_v69 (STEP^[128] (entryContents preI m c)) = R_main_v69 (stateAt m c 128)
      (m ((c.tc : Thread nD τ).loc main_arg3)) (m ((c.tc : Thread nD τ).loc main_arg7)) := by
  unfold out_main_v69
  rw [(after m c 128).out, iter_main_arg3 m c 128, iter_main_arg7 m c 128]
  rfl

end Cert.ReferenceIdeal.Gla
-- ==== Proof.GlaRefLoop.lean ====
module

public import proofs.«01_k».proof.Proof.GlaRefVal
public import proofs.«01_k».proof.Proof.GlaRefRun
public import Idealize.ShloMosaic.Lib.DynamicIndex

/-! The reference's loop, chunk by chunk: its state, and the chunks' rows it has stored; and its result at an index. -/

@[expose] public section

set_option maxRecDepth 16384

noncomputable section

namespace Cert.ReferenceIdeal.Gla

open Idealize.ShloMosaic Idealize.ShloMosaic.TcCoe Idealize.SL.Sem
open Cert.ReferenceIdeal Cert.ReferenceIdeal.Gen Cert.ReferenceIdeal.Step
open _root_.Gla (Args at1 at2 at3 at1_of at2_of at3_of at3_eq at1_eq)

/-- The word of a trip's number, read signed, is the number. -/
theorem word_toInt {j : ℕ} (hj : j < 128) : (BitVec.ofNat 32 j).toInt = (j : Int) := by
  rw [BitVec.toInt_eq_toNat_of_lt] <;> rw [BitVec.toNat_ofNat] <;> omega

theorem fits_4_128 (j : Fin 128) : S128x4x4x64x128.Slices ![j.val, 0, 0, 0, 0] S1x4x4x64x128 := ⟨rfl, fun a => by
  match a with
  | ⟨0, _⟩ => change j.val + 1 ≤ 128; omega
  | ⟨1, _⟩ => change 0 + 4 ≤ 4; omega
  | ⟨2, _⟩ => change 0 + 4 ≤ 4; omega
  | ⟨3, _⟩ => change 0 + 64 ≤ 64; omega
  | ⟨4, _⟩ => change 0 + 128 ≤ 128; omega⟩

theorem b5_at (j : Fin 128) (s : State Ideal) (b h : Fin 4) (i : Fin 64) (e : Fin 128) :
    (b5 j.val s : FVec Ideal S4x4x64x128 .f32) (ix4 b h i e) = s.main_v49_0 (ix5 j b h i e) := by
  unfold b5 b4
  rw [Host.dynamicSlice_eq_extractStridedSlice _ _ _ _ _ (fits_4_128 j) (fun a => by
    match a with
    | ⟨0, _⟩ => exact word_toInt j.isLt
    | ⟨1, _⟩ => rfl
    | ⟨2, _⟩ => rfl
    | ⟨3, _⟩ => rfl
    | ⟨4, _⟩ => rfl)]
  pointwise

theorem fits_3_64 (j : Fin 128) : S128x4x4x64.Slices ![j.val, 0, 0, 0] S1x4x4x64 := ⟨rfl, fun a => by
  match a with
  | ⟨0, _⟩ => change j.val + 1 ≤ 128; omega
  | ⟨1, _⟩ => change 0 + 4 ≤ 4; omega
  | ⟨2, _⟩ => change 0 + 4 ≤ 4; omega
  | ⟨3, _⟩ => change 0 + 64 ≤ 64; omega⟩

theorem b10_at (j : Fin 128) (s : State Ideal) (b h : Fin 4) (i : Fin 64) :
    (b10 j.val s : FVec Ideal S4x4x64 .f32) (ix3 b h i) = s.main_v49_1 (ix4 j b h i) := by
  unfold b10 b9
  rw [Host.dynamicSlice_eq_extractStridedSlice _ _ _ _ _ (fits_3_64 j) (fun a => by
    match a with
    | ⟨0, _⟩ => exact word_toInt j.isLt
    | ⟨1, _⟩ => rfl
    | ⟨2, _⟩ => rfl
    | ⟨3, _⟩ => rfl)]
  pointwise

theorem fits_4_64 (j : Fin 128) : S128x4x4x64x64.Slices ![j.val, 0, 0, 0, 0] S1x4x4x64x64 := ⟨rfl, fun a => by
  match a with
  | ⟨0, _⟩ => change j.val + 1 ≤ 128; omega
  | ⟨1, _⟩ => change 0 + 4 ≤ 4; omega
  | ⟨2, _⟩ => change 0 + 4 ≤ 4; omega
  | ⟨3, _⟩ => change 0 + 64 ≤ 64; omega
  | ⟨4, _⟩ => change 0 + 64 ≤ 64; omega⟩

theorem b16_at (j : Fin 128) (s : State Ideal) (b h : Fin 4) (i : Fin 64) (e : Fin 64) :
    (b16 j.val s : FVec Ideal S4x4x64x64 .f32) (ix4 b h i e) = s.main_v49_2 (ix5 j b h i e) := by
  unfold b16 b15
  rw [Host.dynamicSlice_eq_extractStridedSlice _ _ _ _ _ (fits_4_64 j) (fun a => by
    match a with
    | ⟨0, _⟩ => exact word_toInt j.isLt
    | ⟨1, _⟩ => rfl
    | ⟨2, _⟩ => rfl
    | ⟨3, _⟩ => rfl
    | ⟨4, _⟩ => rfl)]
  pointwise

theorem b22_at (j : Fin 128) (s : State Ideal) (b h : Fin 4) (i : Fin 64) (e : Fin 128) :
    (b22 j.val s : FVec Ideal S4x4x64x128 .f32) (ix4 b h i e) = s.main_v49_3 (ix5 j b h i e) := by
  unfold b22 b21
  rw [Host.dynamicSlice_eq_extractStridedSlice _ _ _ _ _ (fits_4_128 j) (fun a => by
    match a with
    | ⟨0, _⟩ => exact word_toInt j.isLt
    | ⟨1, _⟩ => rfl
    | ⟨2, _⟩ => rfl
    | ⟨3, _⟩ => rfl
    | ⟨4, _⟩ => rfl)]
  pointwise

/-- The state after one trip. -/
theorem b26_at (j : Fin 128) (s : State Ideal) (b h : Fin 4) (d : Fin 64) (e : Fin 128) :
    (b26 j.val s : FVec Ideal S4x4x64x128 .f32) (ix4 b h d e) =
      (s.main_v49_1 : FVec Ideal S128x4x4x64 .f32) (ix4 j b h d) * (s.main_v49_5 : FVec Ideal S4x4x64x128 .f32) (ix4 b h d e) +
        (s.main_v49_0 : FVec Ideal S128x4x4x64x128 .f32) (ix5 j b h d e) := by
  have h1 := b10_at j s
  have h2 := b5_at j s
  pointwise [b26, b25, b24, b23, h1, h2]

/-- The rows one trip stores. -/
theorem b28_at (j : Fin 128) (s : State Ideal) (b h : Fin 4) (i : Fin 64) (e : Fin 128) :
    (b28 j.val s : FVec Ideal S4x4x64x128 .f32) (ix4 b h i e) =
      (s.main_v49_3 : FVec Ideal S128x4x4x64x128 .f32) (ix5 j b h i e) +
        ∑ d : Fin 64, (s.main_v49_2 : FVec Ideal S128x4x4x64x64 .f32) (ix5 j b h i d) *
          (s.main_v49_5 : FVec Ideal S4x4x64x128 .f32) (ix4 b h d e) := by
  have h1 := b16_at j s
  have h2 := b22_at j s
  pointwise [b28, b27, h1, h2]

/-- The stored rows after one trip: the trip's chunk, and the earlier ones as they were. -/
theorem b34_at (j : Fin 128) (s : State Ideal) (n : Fin 128) (b h : Fin 4) (i : Fin 64) (e : Fin 128) :
    (b34 j.val s : FVec Ideal S128x4x4x64x128 .f32) (ix5 n b h i e) =
      if n = j then (b28 j.val s : FVec Ideal S4x4x64x128 .f32) (ix4 b h i e) else
        (s.main_v49_6 : FVec Ideal S128x4x4x64x128 .f32) (ix5 n b h i e) := by
  unfold b34 b29
  rw [WordCmp.dynamicUpdateSlice_eq_update _ _ _ _ _ (fits_4_128 j) (fun a => by
    match a with
    | ⟨0, _⟩ => exact word_toInt j.isLt
    | ⟨1, _⟩ => rfl
    | ⟨2, _⟩ => rfl
    | ⟨3, _⟩ => rfl
    | ⟨4, _⟩ => rfl)]
  pointwise
  by_cases hn : n = j
  · subst hn
    rw [dif_pos ⟨le_refl _, Nat.lt_succ_self _⟩, if_pos rfl]
  · rw [dif_neg (fun h => hn (Fin.ext (by omega))), if_neg hn]

variable (a0 a1 : FVec Ideal S4x8192x256 .f32) (a2 a3 : FVec Ideal S4x8192x512 .f32) (a4 : FVec Ideal S4x8192x128 .f32)
    (a5 : FVec Ideal S16x256 .f32) (a6 : FVec Ideal S256 .f32) (a7 : FVec Ideal S128 .f32)

/-- The state before trip `n`. -/
def st : ℕ → State Ideal
  | 0 => init a0 a1 a2 a4 a5 a6
  | n + 1 => step n (st n)

/-- What the trips read and leave. -/
theorem st_const (n : ℕ) : (st a0 a1 a2 a4 a5 a6 n).main_v49_0 = A_main_v44 a0 a1 a2 a4 a5 a6 ∧
    (st a0 a1 a2 a4 a5 a6 n).main_v49_1 = A_main_v45 a0 a1 a2 a4 a5 a6 ∧
    (st a0 a1 a2 a4 a5 a6 n).main_v49_2 = A_main_v46 a0 a1 a2 a4 a5 a6 ∧
    (st a0 a1 a2 a4 a5 a6 n).main_v49_3 = A_main_v47 a0 a1 a2 a4 a5 a6 := by
  induction n with
  | zero => exact ⟨rfl, rfl, rfl, rfl⟩
  | succ n ih => exact ih

theorem v44_at (b h : Fin 4) (n : Fin 128) (d : Fin 64) (e : Fin 128) : (A_main_v44 (F := Ideal) a0 a1 a2 a4 a5 a6 : FVec Ideal S128x4x4x64x128 .f32) (ix5 n b h d e) =
    (A_main_v40 (F := Ideal) a0 a1 a2 a4 a5 a6 : FVec Ideal S4x4x128x64x128 .f32) (ix5 b h n d e) := by
  pointwise [A_main_v44]

theorem v45_at (b h : Fin 4) (n : Fin 128) (d : Fin 64) : (A_main_v45 (F := Ideal) a0 a1 a2 a4 a5 a6 : FVec Ideal S128x4x4x64 .f32) (ix4 n b h d) =
    (A_main_v42 (F := Ideal) a0 a1 a2 a4 a5 a6 : FVec Ideal S4x4x128x64 .f32) (ix4 b h n d) := by
  pointwise [A_main_v45]

theorem v46_at (b h : Fin 4) (n : Fin 128) (i d : Fin 64) : (A_main_v46 (F := Ideal) a0 a1 a2 a4 a5 a6 : FVec Ideal S128x4x4x64x64 .f32) (ix5 n b h i d) =
    (A_main_v27 (F := Ideal) a0 a1 a2 a4 a5 a6 : FVec Ideal S4x4x128x64x64 .f32) (ix5 b h n i d) := by
  pointwise [A_main_v46]

theorem v47_at (b h : Fin 4) (n : Fin 128) (i : Fin 64) (e : Fin 128) : (A_main_v47 (F := Ideal) a0 a1 a2 a4 a5 a6 : FVec Ideal S128x4x4x64x128 .f32) (ix5 n b h i e) =
    (A_main_v39 (F := Ideal) a0 a1 a2 a4 a5 a6 : FVec Ideal S4x4x128x64x128 .f32) (ix5 b h n i e) := by
  pointwise [A_main_v47]

/-- The state of a head before trip `n`. -/
theorem st_at (b h : Fin 4) (d : Fin 64) (e : Fin 128) : ∀ n ≤ 128,
    ((st a0 a1 a2 a4 a5 a6 n).main_v49_5 : FVec Ideal S4x4x64x128 .f32) (ix4 b h d e) =
      (ofArrays a0 a1 a2 a3 a4 a5 a6 a7).st b.val h.val n e.val d.val
  | 0, _ => by
    change (K_main_v43 (F := Ideal) : FVec Ideal S4x4x64x128 .f32) (ix4 b h d e) = 0
    unfold K_main_v43 K_main_cst_2
    pointwise
  | n + 1, hn => by
    have h1 := b26_at ⟨n, hn⟩ (st a0 a1 a2 a4 a5 a6 n) b h d e
    rw [st_at b h d e n (by omega), (st_const a0 a1 a2 a4 a5 a6 n).1, (st_const a0 a1 a2 a4 a5 a6 n).2.1, v44_at, v45_at,
      dec_at a0 a1 a2 a3 a4 a5 a6 a7, kv_at a0 a1 a2 a3 a4 a5 a6 a7] at h1
    refine h1.trans ?_
    rw [mul_comm]
    rfl

/-- The rows stored by a trip. -/
theorem row_at (b h : Fin 4) (n : Fin 128) (i : Fin 64) (e : Fin 128) :
    (b28 n.val (st a0 a1 a2 a4 a5 a6 n.val) : FVec Ideal S4x4x64x128 .f32) (ix4 b h i e) =
      (ofArrays a0 a1 a2 a3 a4 a5 a6 a7).read b.val h.val n.val i.val e.val := by
  rw [b28_at, (st_const a0 a1 a2 a4 a5 a6 n.val).2.2.1, (st_const a0 a1 a2 a4 a5 a6 n.val).2.2.2, v47_at, o_at a0 a1 a2 a3 a4 a5 a6 a7]
  refine congrArg (_ + ·) (Finset.sum_congr rfl fun d _ => ?_)
  rw [v46_at, qe_at a0 a1 a2 a3 a4 a5 a6 a7, st_at a0 a1 a2 a3 a4 a5 a6 a7 b h d e n.val (by omega)]

/-- The chunks stored before trip `n`. -/
theorem rows_at (b h : Fin 4) (k : Fin 128) (i : Fin 64) (e : Fin 128) : ∀ n ≤ 128, k.val < n →
    ((st a0 a1 a2 a4 a5 a6 n).main_v49_6 : FVec Ideal S128x4x4x64x128 .f32) (ix5 k b h i e) =
      (ofArrays a0 a1 a2 a3 a4 a5 a6 a7).read b.val h.val k.val i.val e.val
  | 0, _, hk => absurd hk (Nat.not_lt_zero _)
  | n + 1, hn, hk => by
    have h1 := b34_at ⟨n, hn⟩ (st a0 a1 a2 a4 a5 a6 n) k b h i e
    refine h1.trans ?_
    by_cases hkn : k.val = n
    · subst hkn
      rw [if_pos rfl]
      exact row_at a0 a1 a2 a3 a4 a5 a6 a7 b h k i e
    · rw [if_neg (fun h => hkn (congrArg Fin.val h))]
      exact rows_at b h k i e n (by omega) (by omega)

/-- The reference's result at an index, of a loop's last state that holds what the queries read. -/
theorem out_of (S : State Ideal)
    (h1 : ∀ (b h : Fin 4) (n : Fin 128) (i : Fin 64) (e : Fin 128),
      (S.main_v49_6 : FVec Ideal S128x4x4x64x128 .f32) (ix5 n b h i e) = (ofArrays a0 a1 a2 a3 a4 a5 a6 a7).read b.val h.val n.val i.val e.val)
    (b : Fin 4) (s : Fin 8192) (x : Fin 512) :
    (R_main_v69 S a3 a7 : FVec Ideal S4x8192x512 .bf16) (ix3 b s x) =
      (ofArrays a0 a1 a2 a3 a4 a5 a6 a7).out b.val (x.val / 128) (s.val / 64) (s.val % 64) (x.val % 128) := by
  have hr : a3 (ix3 b s x) = (ofArrays a0 a1 a2 a3 a4 a5 a6 a7).r b.val (64 * (s.val / 64) + s.val % 64) (128 * (x.val / 128) + x.val % 128) :=
    at3_eq (a := 4) (b := 8192) (c := 512) a3 b s x (by omega) (by omega)
  pointwise [R_main_v69, h1]
  unfold Args.out Ideal.logistic
  rw [hr]
  exact congrArg (· * _) (congrArg (_ * ·) (at1_eq (a := 128) a7 _ rfl))

/-- The reference's result at an index. -/
theorem out_at (b : Fin 4) (s : Fin 8192) (x : Fin 512) (N : ℕ) (hN : N = 128) :
    (R_main_v69 (st a0 a1 a2 a4 a5 a6 N) a3 a7 : FVec Ideal S4x8192x512 .bf16) (ix3 b s x) =
      (ofArrays a0 a1 a2 a3 a4 a5 a6 a7).out b.val (x.val / 128) (s.val / 64) (s.val % 64) (x.val % 128) :=
  out_of a0 a1 a2 a3 a4 a5 a6 a7 _ (fun b h n i e => rows_at a0 a1 a2 a3 a4 a5 a6 a7 b h n i e N (le_of_eq hN) (hN ▸ n.isLt)) b s x

end Cert.ReferenceIdeal.Gla
-- ==== Proof.GlaTiles.lean ====
module

public import proofs.«01_k».proof.Proof.Gen.KernelIdeal.Skeleton
public import Idealize.ShloMosaic.Lib.Pointwise

/-! The kernel treats a block of 256 positions as sixteen tiles (4 chunks of 64 positions, 4 heads). Its printed text cuts the
tiles' operations at different places. Here the two things a tile computes are named once, and each printed combination is
one of them. -/

@[expose] public section

set_option maxRecDepth 16384

noncomputable section

namespace Cert.KernelIdeal.Gla

open Cert.KernelIdeal Cert.KernelIdeal.Gen Idealize.ShloMosaic Idealize.ShloMosaic.TcCoe Idealize.SL.Sem

variable {F : FTy → Type} [FloatOps F]

/-- The last row of a tile's running sums. -/
def lastRow (bc : FVec F S64x64 .f32) : FVec F S1x64 .f32 := extractStridedSlice S1x64 ![63, 0] bc slices_S64x64_o63_0_S1x64

/-- The values of a tile. -/
def vals (V : Vec F S1x64x128 .f32) : FVec F S64x128 .bf16 :=
  truncf .bf16 (shapeCast S64x128 V shapeCasts_S1x64x128_S64x128) bitsLt_bf16_f32

/-- The state after a tile: the state before it decayed over the tile, plus the tile's keys and values. -/
def tileS (bc kc : FVec F S64x64 .f32) (S : FVec F S128x64 .f32) (V : Vec F S1x64x128 .f32) : FVec F S128x64 .f32 :=
  addf (mulf S (broadcastTo S128x64 (exp (lastRow bc)) broadcasts_S1x64_S128x64))
    (matmul dot_S64x128_S64x64_S128x64_0_0_1_1_n_n none (vals V)
      (truncf .bf16 (mulf kc (exp (subf (broadcastTo S64x64 (lastRow bc) broadcasts_S1x64_S64x64) bc))) bitsLt_bf16_f32)
      (constant S128x64 .f32 0x00000000#32))

/-- The queries of a tile with their decay. -/
def tileQ (bc qc : FVec F S64x64 .f32) : FVec F S64x64 .bf16 := truncf .bf16 (mulf qc (exp bc)) bitsLt_bf16_f32

/-- The masked scores within a tile. -/
def tileA (bc qc kc : FVec F S64x64 .f32) : FVec F S64x64 .bf16 :=
  truncf .bf16 (select k0_pay9
    (matmul dot_S64x64_S64x64_S64x64_1_1_0_0_n_n none (tileQ bc qc)
      (truncf .bf16 (mulf kc (exp (subf (broadcast S64x64 (Scalar.ofBits .f32 0x00000000#32)) bc))) bitsLt_bf16_f32)
      (constant S64x64 .f32 0x00000000#32))
    (broadcast S64x64 (Scalar.ofBits .f32 0x00000000#32))) bitsLt_bf16_f32

/-- What a tile's queries read: the tile's own positions, and the state before the tile. -/
def tileR (bc qc kc : FVec F S64x64 .f32) (S : FVec F S128x64 .f32) (V : Vec F S1x64x128 .f32) : FVec F S64x128 .f32 :=
  addf (matmul dot_S64x64_S64x128_S64x128_1_0_0_1_n_n none (tileA bc qc kc) (vals V) (constant S64x128 .f32 0x00000000#32))
    (matmul dot_S64x64_S128x64_S64x128_1_1_0_0_n_n none (tileQ bc qc) (truncf .bf16 S bitsLt_bf16_f32)
      (constant S64x128 .f32 0x00000000#32))

/-- The norm of a tile's rows, its weight and the output gate. -/
def tileN (o : FVec F S64x128 .f32) (N : Vec F S1x128 .f32) (R : Vec F S1x64x128 .f32) : FVec F S1x64x128 .bf16 :=
  shapeCast S1x64x128 (truncf .bf16
    (mulf
      (mulf
        (mulf o (broadcastTo S64x128
          (rsqrt (addf
            (divf (shapeCast S64x1 (multiReduction .add [1] S64 (mulf o o) 0x00000000#32 reduces_S64x128_S64 (.inl rfl) rfl) shapeCasts_S64_S64x1)
              (broadcast S64x1 (Scalar.ofBits .f32 0x43000000#32)))
            (broadcast S64x1 (Scalar.ofBits .f32 0x358637BD#32)))) broadcasts_S64x1_S64x128))
        (broadcastTo S64x128 (shapeCast S1x128 N shapeCasts_S1x128_S1x128) broadcasts_S1x128_S64x128))
      (mulf (shapeCast S64x128 R shapeCasts_S1x64x128_S64x128) (logistic (shapeCast S64x128 R shapeCasts_S1x64x128_S64x128))))
    bitsLt_bf16_f32) shapeCasts_S64x128_S1x64x128

/-- What a tile stores. -/
def tileO (bc qc kc : FVec F S64x64 .f32) (S : FVec F S128x64 .f32) (V : Vec F S1x64x128 .f32) (N : Vec F S1x128 .f32)
    (R : Vec F S1x64x128 .f32) : FVec F S1x64x128 .bf16 := tileN (tileR bc qc kc S V) N R

/-! The printed combinations, tile by tile (first the chunk, then the head). -/

theorem state_0_0 (B4 : IVec S256x256 32) (B5 : FVec F S256x256 .f32) (X1 : Vec F S1x256x256 .f32) (S : FVec F S128x64 .f32) (V : Vec F S1x64x128 .f32) :
    k0_pay21 S (k0_pay15 B4 B5 32#32) (k0_pay18 X1) (k0_pay19 B4 B5 32#32) V =
    tileS (extractStridedSlice S64x64 ![0, 0] (k0_pay6 B4 B5 32#32) slices_S256x256_o0_0_S64x64)
      (extractStridedSlice S64x64 ![0, 0] (k0_pay8 X1) slices_S256x256_o0_0_S64x64) S V := rfl

theorem state_0_1 (B : FVec F S256x256 .f32) (X1 : Vec F S1x256x256 .f32) (S : FVec F S128x64 .f32) (V : Vec F S1x64x128 .f32) :
    k0_pay27 B (k0_pay8 X1) S V =
    tileS (extractStridedSlice S64x64 ![0, 64] B slices_S256x256_o0_64_S64x64)
      (extractStridedSlice S64x64 ![0, 64] (k0_pay8 X1) slices_S256x256_o0_64_S64x64) S V := rfl

theorem state_0_2 (B : FVec F S256x256 .f32) (X1 : Vec F S1x256x256 .f32) (S : FVec F S128x64 .f32) (V : Vec F S1x64x128 .f32) :
    k0_pay37 (k0_pay33 B (k0_pay8 X1)) (k0_pay34 V) (k0_pay36 B S) =
    tileS (extractStridedSlice S64x64 ![0, 128] B slices_S256x256_o0_128_S64x64)
      (extractStridedSlice S64x64 ![0, 128] (k0_pay8 X1) slices_S256x256_o0_128_S64x64) S V := rfl

theorem state_0_3 (B : FVec F S256x256 .f32) (X1 : Vec F S1x256x256 .f32) (S : FVec F S128x64 .f32) (V : Vec F S1x64x128 .f32) :
    k0_pay45 S (k0_pay40 B) (k0_pay43 B (k0_pay8 X1)) V =
    tileS (extractStridedSlice S64x64 ![0, 192] B slices_S256x256_o0_192_S64x64)
      (extractStridedSlice S64x64 ![0, 192] (k0_pay8 X1) slices_S256x256_o0_192_S64x64) S V := rfl

theorem state_1_0 (B : FVec F S256x256 .f32) (X1 : Vec F S1x256x256 .f32) (S : FVec F S128x64 .f32) (V : Vec F S1x64x128 .f32) :
    k0_pay52 (k0_pay8 X1) S (k0_pay47 B) (k0_pay48 B) V =
    tileS (extractStridedSlice S64x64 ![64, 0] B slices_S256x256_o64_0_S64x64)
      (extractStridedSlice S64x64 ![64, 0] (k0_pay8 X1) slices_S256x256_o64_0_S64x64) S V := rfl

theorem state_1_1 (B : FVec F S256x256 .f32) (X1 : Vec F S1x256x256 .f32) (S : FVec F S128x64 .f32) (V : Vec F S1x64x128 .f32) :
    k0_pay58 B (k0_pay8 X1) S V =
    tileS (extractStridedSlice S64x64 ![64, 64] B slices_S256x256_o64_64_S64x64)
      (extractStridedSlice S64x64 ![64, 64] (k0_pay8 X1) slices_S256x256_o64_64_S64x64) S V := rfl

theorem state_1_2 (B : FVec F S256x256 .f32) (X1 : Vec F S1x256x256 .f32) (S : FVec F S128x64 .f32) (V : Vec F S1x64x128 .f32) :
    k0_pay66 S (k0_pay61 B) (k0_pay63 B (k0_pay8 X1)) (k0_pay64 V) =
    tileS (extractStridedSlice S64x64 ![64, 128] B slices_S256x256_o64_128_S64x64)
      (extractStridedSlice S64x64 ![64, 128] (k0_pay8 X1) slices_S256x256_o64_128_S64x64) S V := rfl

theorem state_1_3 (B : FVec F S256x256 .f32) (X1 : Vec F S1x256x256 .f32) (S : FVec F S128x64 .f32) (V : Vec F S1x64x128 .f32) :
    k0_pay74 (k0_pay8 X1) S (k0_pay68 B) (k0_pay69 B) V =
    tileS (extractStridedSlice S64x64 ![64, 192] B slices_S256x256_o64_192_S64x64)
      (extractStridedSlice S64x64 ![64, 192] (k0_pay8 X1) slices_S256x256_o64_192_S64x64) S V := rfl

theorem state_2_0 (B : FVec F S256x256 .f32) (X1 : Vec F S1x256x256 .f32) (S : FVec F S128x64 .f32) (V : Vec F S1x64x128 .f32) :
    k0_pay80 B (k0_pay8 X1) S V =
    tileS (extractStridedSlice S64x64 ![128, 0] B slices_S256x256_o128_0_S64x64)
      (extractStridedSlice S64x64 ![128, 0] (k0_pay8 X1) slices_S256x256_o128_0_S64x64) S V := rfl

theorem state_2_1 (B : FVec F S256x256 .f32) (X1 : Vec F S1x256x256 .f32) (S : FVec F S128x64 .f32) (V : Vec F S1x64x128 .f32) :
    k0_pay91 S (k0_pay85 B) (k0_pay87 B (k0_pay8 X1)) (k0_pay88 V) =
    tileS (extractStridedSlice S64x64 ![128, 64] B slices_S256x256_o128_64_S64x64)
      (extractStridedSlice S64x64 ![128, 64] (k0_pay8 X1) slices_S256x256_o128_64_S64x64) S V := rfl

theorem state_2_2 (B : FVec F S256x256 .f32) (X1 : Vec F S1x256x256 .f32) (S : FVec F S128x64 .f32) (V : Vec F S1x64x128 .f32) :
    k0_pay100 S (k0_pay94 B) (k0_pay97 (k0_pay8 X1)) (k0_pay98 B) V =
    tileS (extractStridedSlice S64x64 ![128, 128] B slices_S256x256_o128_128_S64x64)
      (extractStridedSlice S64x64 ![128, 128] (k0_pay8 X1) slices_S256x256_o128_128_S64x64) S V := rfl

theorem state_2_3 (B : FVec F S256x256 .f32) (X1 : Vec F S1x256x256 .f32) (S : FVec F S128x64 .f32) (V : Vec F S1x64x128 .f32) :
    k0_pay106 B (k0_pay8 X1) S V =
    tileS (extractStridedSlice S64x64 ![128, 192] B slices_S256x256_o128_192_S64x64)
      (extractStridedSlice S64x64 ![128, 192] (k0_pay8 X1) slices_S256x256_o128_192_S64x64) S V := rfl

theorem state_3_0 (B : FVec F S256x256 .f32) (X1 : Vec F S1x256x256 .f32) (S : FVec F S128x64 .f32) (V : Vec F S1x64x128 .f32) :
    k0_pay116 (k0_pay112 B (k0_pay8 X1)) (k0_pay113 V) (k0_pay115 B S) =
    tileS (extractStridedSlice S64x64 ![192, 0] B slices_S256x256_o192_0_S64x64)
      (extractStridedSlice S64x64 ![192, 0] (k0_pay8 X1) slices_S256x256_o192_0_S64x64) S V := rfl

theorem state_3_1 (B : FVec F S256x256 .f32) (X1 : Vec F S1x256x256 .f32) (S : FVec F S128x64 .f32) (V : Vec F S1x64x128 .f32) :
    k0_pay124 S (k0_pay119 B) (k0_pay122 B (k0_pay8 X1)) V =
    tileS (extractStridedSlice S64x64 ![192, 64] B slices_S256x256_o192_64_S64x64)
      (extractStridedSlice S64x64 ![192, 64] (k0_pay8 X1) slices_S256x256_o192_64_S64x64) S V := rfl

theorem state_3_2 (B : FVec F S256x256 .f32) (X1 : Vec F S1x256x256 .f32) (S : FVec F S128x64 .f32) (V : Vec F S1x64x128 .f32) :
    k0_pay131 (k0_pay8 X1) S (k0_pay126 B) (k0_pay127 B) V =
    tileS (extractStridedSlice S64x64 ![192, 128] B slices_S256x256_o192_128_S64x64)
      (extractStridedSlice S64x64 ![192, 128] (k0_pay8 X1) slices_S256x256_o192_128_S64x64) S V := rfl

theorem state_3_3 (B : FVec F S256x256 .f32) (X1 : Vec F S1x256x256 .f32) (S : FVec F S128x64 .f32) (V : Vec F S1x64x128 .f32) :
    k0_pay137 B (k0_pay8 X1) S V =
    tileS (extractStridedSlice S64x64 ![192, 192] B slices_S256x256_o192_192_S64x64)
      (extractStridedSlice S64x64 ![192, 192] (k0_pay8 X1) slices_S256x256_o192_192_S64x64) S V := rfl

theorem out_3_3 (B : FVec F S256x256 .f32) (X0 : Vec F S1x256x256 .f32) (X1 : Vec F S1x256x256 .f32) (S : FVec F S128x64 .f32) (V : Vec F S1x64x128 .f32) (R : Vec F S1x64x128 .f32) (N : Vec F S1x128 .f32) :
    k0_pay138 (k0_pay136 B (k0_pay7 X0) (k0_pay8 X1) k0_pay9 S V) N R =
    tileO (extractStridedSlice S64x64 ![192, 192] B slices_S256x256_o192_192_S64x64)
      (extractStridedSlice S64x64 ![192, 192] (k0_pay7 X0) slices_S256x256_o192_192_S64x64)
      (extractStridedSlice S64x64 ![192, 192] (k0_pay8 X1) slices_S256x256_o192_192_S64x64) S V N R := rfl

theorem out_3_2 (B : FVec F S256x256 .f32) (X0 : Vec F S1x256x256 .f32) (X1 : Vec F S1x256x256 .f32) (S : FVec F S128x64 .f32) (V : Vec F S1x64x128 .f32) (R : Vec F S1x64x128 .f32) (N : Vec F S1x128 .f32) :
    k0_pay133 (k0_pay132 (k0_pay8 X1) k0_pay9 S (k0_pay126 B) (k0_pay128 (k0_pay7 X0)) (k0_pay129 B) V N) R =
    tileO (extractStridedSlice S64x64 ![192, 128] B slices_S256x256_o192_128_S64x64)
      (extractStridedSlice S64x64 ![192, 128] (k0_pay7 X0) slices_S256x256_o192_128_S64x64)
      (extractStridedSlice S64x64 ![192, 128] (k0_pay8 X1) slices_S256x256_o192_128_S64x64) S V N R := rfl

theorem out_3_1 (B : FVec F S256x256 .f32) (X0 : Vec F S1x256x256 .f32) (X1 : Vec F S1x256x256 .f32) (S : FVec F S128x64 .f32) (V : Vec F S1x64x128 .f32) (R : Vec F S1x64x128 .f32) (N : Vec F S1x128 .f32) :
    k0_pay125 k0_pay9 S (k0_pay120 B (k0_pay7 X0)) (k0_pay121 B (k0_pay8 X1)) V N R =
    tileO (extractStridedSlice S64x64 ![192, 64] B slices_S256x256_o192_64_S64x64)
      (extractStridedSlice S64x64 ![192, 64] (k0_pay7 X0) slices_S256x256_o192_64_S64x64)
      (extractStridedSlice S64x64 ![192, 64] (k0_pay8 X1) slices_S256x256_o192_64_S64x64) S V N R := rfl

theorem out_3_0 (B : FVec F S256x256 .f32) (X0 : Vec F S1x256x256 .f32) (X1 : Vec F S1x256x256 .f32) (S : FVec F S128x64 .f32) (V : Vec F S1x64x128 .f32) (R : Vec F S1x64x128 .f32) (N : Vec F S1x128 .f32) :
    k0_pay117 (k0_pay114 B (k0_pay7 X0) (k0_pay8 X1) k0_pay9 S V) N R =
    tileO (extractStridedSlice S64x64 ![192, 0] B slices_S256x256_o192_0_S64x64)
      (extractStridedSlice S64x64 ![192, 0] (k0_pay7 X0) slices_S256x256_o192_0_S64x64)
      (extractStridedSlice S64x64 ![192, 0] (k0_pay8 X1) slices_S256x256_o192_0_S64x64) S V N R := rfl

theorem out_2_3 (B : FVec F S256x256 .f32) (X0 : Vec F S1x256x256 .f32) (X1 : Vec F S1x256x256 .f32) (S : FVec F S128x64 .f32) (V : Vec F S1x64x128 .f32) (R : Vec F S1x64x128 .f32) (N : Vec F S1x128 .f32) :
    k0_pay109 (k0_pay105 B (k0_pay7 X0) (k0_pay8 X1) k0_pay9 S V) (k0_pay107 N) (k0_pay108 B (k0_pay7 X0) (k0_pay8 X1) k0_pay9 S V) R =
    tileO (extractStridedSlice S64x64 ![128, 192] B slices_S256x256_o128_192_S64x64)
      (extractStridedSlice S64x64 ![128, 192] (k0_pay7 X0) slices_S256x256_o128_192_S64x64)
      (extractStridedSlice S64x64 ![128, 192] (k0_pay8 X1) slices_S256x256_o128_192_S64x64) S V N R := rfl

theorem out_2_2 (B : FVec F S256x256 .f32) (X0 : Vec F S1x256x256 .f32) (X1 : Vec F S1x256x256 .f32) (S : FVec F S128x64 .f32) (V : Vec F S1x64x128 .f32) (R : Vec F S1x64x128 .f32) (N : Vec F S1x128 .f32) :
    k0_pay102 (k0_pay101 k0_pay9 S (k0_pay95 B (k0_pay7 X0)) (k0_pay96 B (k0_pay8 X1)) V N R) =
    tileO (extractStridedSlice S64x64 ![128, 128] B slices_S256x256_o128_128_S64x64)
      (extractStridedSlice S64x64 ![128, 128] (k0_pay7 X0) slices_S256x256_o128_128_S64x64)
      (extractStridedSlice S64x64 ![128, 128] (k0_pay8 X1) slices_S256x256_o128_128_S64x64) S V N R := rfl

theorem out_2_1 (B : FVec F S256x256 .f32) (X0 : Vec F S1x256x256 .f32) (X1 : Vec F S1x256x256 .f32) (S : FVec F S128x64 .f32) (V : Vec F S1x64x128 .f32) (R : Vec F S1x64x128 .f32) (N : Vec F S1x128 .f32) :
    k0_pay92 (k0_pay86 B (k0_pay7 X0)) (k0_pay89 B (k0_pay7 X0) (k0_pay8 X1) k0_pay9 V) (k0_pay90 S) N R =
    tileO (extractStridedSlice S64x64 ![128, 64] B slices_S256x256_o128_64_S64x64)
      (extractStridedSlice S64x64 ![128, 64] (k0_pay7 X0) slices_S256x256_o128_64_S64x64)
      (extractStridedSlice S64x64 ![128, 64] (k0_pay8 X1) slices_S256x256_o128_64_S64x64) S V N R := rfl

theorem out_2_0 (B : FVec F S256x256 .f32) (X0 : Vec F S1x256x256 .f32) (X1 : Vec F S1x256x256 .f32) (S : FVec F S128x64 .f32) (V : Vec F S1x64x128 .f32) (R : Vec F S1x64x128 .f32) (N : Vec F S1x128 .f32) :
    k0_pay83 (k0_pay79 B (k0_pay7 X0) (k0_pay8 X1) k0_pay9 S V) (k0_pay81 N) (k0_pay82 B (k0_pay7 X0) (k0_pay8 X1) k0_pay9 S V) (FloatOps.ofBits FTy.f32 1124073472#32) R =
    tileO (extractStridedSlice S64x64 ![128, 0] B slices_S256x256_o128_0_S64x64)
      (extractStridedSlice S64x64 ![128, 0] (k0_pay7 X0) slices_S256x256_o128_0_S64x64)
      (extractStridedSlice S64x64 ![128, 0] (k0_pay8 X1) slices_S256x256_o128_0_S64x64) S V N R := rfl

theorem out_1_3 (B : FVec F S256x256 .f32) (X0 : Vec F S1x256x256 .f32) (X1 : Vec F S1x256x256 .f32) (S : FVec F S128x64 .f32) (V : Vec F S1x64x128 .f32) (R : Vec F S1x64x128 .f32) (N : Vec F S1x128 .f32) :
    k0_pay76 (k0_pay75 k0_pay9 S (k0_pay70 B (k0_pay7 X0)) (k0_pay71 (k0_pay8 X1)) (k0_pay72 B) V N R) =
    tileO (extractStridedSlice S64x64 ![64, 192] B slices_S256x256_o64_192_S64x64)
      (extractStridedSlice S64x64 ![64, 192] (k0_pay7 X0) slices_S256x256_o64_192_S64x64)
      (extractStridedSlice S64x64 ![64, 192] (k0_pay8 X1) slices_S256x256_o64_192_S64x64) S V N R := rfl

theorem out_1_2 (B : FVec F S256x256 .f32) (X0 : Vec F S1x256x256 .f32) (X1 : Vec F S1x256x256 .f32) (S : FVec F S128x64 .f32) (V : Vec F S1x64x128 .f32) (R : Vec F S1x64x128 .f32) (N : Vec F S1x128 .f32) :
    k0_pay67 k0_pay9 S (k0_pay62 B (k0_pay7 X0)) (k0_pay64 V) (k0_pay65 B (k0_pay7 X0) (k0_pay8 X1)) (FloatOps.ofBits FTy.f32 0#32) N R =
    tileO (extractStridedSlice S64x64 ![64, 128] B slices_S256x256_o64_128_S64x64)
      (extractStridedSlice S64x64 ![64, 128] (k0_pay7 X0) slices_S256x256_o64_128_S64x64)
      (extractStridedSlice S64x64 ![64, 128] (k0_pay8 X1) slices_S256x256_o64_128_S64x64) S V N R := rfl

theorem out_1_1 (B : FVec F S256x256 .f32) (X0 : Vec F S1x256x256 .f32) (X1 : Vec F S1x256x256 .f32) (S : FVec F S128x64 .f32) (V : Vec F S1x64x128 .f32) (R : Vec F S1x64x128 .f32) (N : Vec F S1x128 .f32) :
    k0_pay59 (k0_pay57 B (k0_pay7 X0) (k0_pay8 X1) k0_pay9 S V) N R =
    tileO (extractStridedSlice S64x64 ![64, 64] B slices_S256x256_o64_64_S64x64)
      (extractStridedSlice S64x64 ![64, 64] (k0_pay7 X0) slices_S256x256_o64_64_S64x64)
      (extractStridedSlice S64x64 ![64, 64] (k0_pay8 X1) slices_S256x256_o64_64_S64x64) S V N R := rfl

theorem out_1_0 (B : FVec F S256x256 .f32) (X0 : Vec F S1x256x256 .f32) (X1 : Vec F S1x256x256 .f32) (S : FVec F S128x64 .f32) (V : Vec F S1x64x128 .f32) (R : Vec F S1x64x128 .f32) (N : Vec F S1x128 .f32) :
    k0_pay54 (k0_pay53 (k0_pay8 X1) k0_pay9 S (k0_pay47 B) (k0_pay49 (k0_pay7 X0)) (k0_pay50 B) V N) R =
    tileO (extractStridedSlice S64x64 ![64, 0] B slices_S256x256_o64_0_S64x64)
      (extractStridedSlice S64x64 ![64, 0] (k0_pay7 X0) slices_S256x256_o64_0_S64x64)
      (extractStridedSlice S64x64 ![64, 0] (k0_pay8 X1) slices_S256x256_o64_0_S64x64) S V N R := rfl

theorem out_0_3 (B : FVec F S256x256 .f32) (X0 : Vec F S1x256x256 .f32) (X1 : Vec F S1x256x256 .f32) (S : FVec F S128x64 .f32) (V : Vec F S1x64x128 .f32) (R : Vec F S1x64x128 .f32) (N : Vec F S1x128 .f32) :
    k0_pay46 k0_pay9 S (k0_pay41 B (k0_pay7 X0)) (k0_pay42 B (k0_pay8 X1)) V N R =
    tileO (extractStridedSlice S64x64 ![0, 192] B slices_S256x256_o0_192_S64x64)
      (extractStridedSlice S64x64 ![0, 192] (k0_pay7 X0) slices_S256x256_o0_192_S64x64)
      (extractStridedSlice S64x64 ![0, 192] (k0_pay8 X1) slices_S256x256_o0_192_S64x64) S V N R := rfl

theorem out_0_2 (B : FVec F S256x256 .f32) (X0 : Vec F S1x256x256 .f32) (X1 : Vec F S1x256x256 .f32) (S : FVec F S128x64 .f32) (V : Vec F S1x64x128 .f32) (R : Vec F S1x64x128 .f32) (N : Vec F S1x128 .f32) :
    k0_pay38 (k0_pay35 B (k0_pay7 X0) (k0_pay8 X1) k0_pay9 S V) N R =
    tileO (extractStridedSlice S64x64 ![0, 128] B slices_S256x256_o0_128_S64x64)
      (extractStridedSlice S64x64 ![0, 128] (k0_pay7 X0) slices_S256x256_o0_128_S64x64)
      (extractStridedSlice S64x64 ![0, 128] (k0_pay8 X1) slices_S256x256_o0_128_S64x64) S V N R := rfl

theorem out_0_1 (B : FVec F S256x256 .f32) (X0 : Vec F S1x256x256 .f32) (X1 : Vec F S1x256x256 .f32) (S : FVec F S128x64 .f32) (V : Vec F S1x64x128 .f32) (R : Vec F S1x64x128 .f32) (N : Vec F S1x128 .f32) :
    k0_pay30 (k0_pay26 B (k0_pay7 X0) (k0_pay8 X1) k0_pay9 S V) (k0_pay28 N) (k0_pay29 B (k0_pay7 X0) (k0_pay8 X1) k0_pay9 S V) R =
    tileO (extractStridedSlice S64x64 ![0, 64] B slices_S256x256_o0_64_S64x64)
      (extractStridedSlice S64x64 ![0, 64] (k0_pay7 X0) slices_S256x256_o0_64_S64x64)
      (extractStridedSlice S64x64 ![0, 64] (k0_pay8 X1) slices_S256x256_o0_64_S64x64) S V N R := rfl

theorem out_0_0 (B4 : IVec S256x256 32) (B5 : FVec F S256x256 .f32) (X0 : Vec F S1x256x256 .f32) (X1 : Vec F S1x256x256 .f32) (S : FVec F S128x64 .f32) (V : Vec F S1x64x128 .f32) (R : Vec F S1x64x128 .f32) (N : Vec F S1x128 .f32) :
    k0_pay23 (k0_pay22 k0_pay9 S (k0_pay16 B4 B5 (32#32) X0) (k0_pay17 B4 B5 (32#32) X1) V N R) =
    tileO (extractStridedSlice S64x64 ![0, 0] (k0_pay6 B4 B5 32#32) slices_S256x256_o0_0_S64x64)
      (extractStridedSlice S64x64 ![0, 0] (k0_pay7 X0) slices_S256x256_o0_0_S64x64)
      (extractStridedSlice S64x64 ![0, 0] (k0_pay8 X1) slices_S256x256_o0_0_S64x64) S V N R := rfl

end Cert.KernelIdeal.Gla
-- ==== Proof.GlaSums.lean ====
module

public import proofs.«01_k».proof.Proof.GlaTiles
public import proofs.«01_k».proof.Proof.GlaSpec
public import Idealize.ShloMosaic.Lib.WordCmp

/-! The kernel's running sums: six steps, each adding the value a power of two rows above where that row is in the same chunk. -/

@[expose] public section

set_option maxRecDepth 16384

noncomputable section

namespace Cert.KernelIdeal.Gla

open Cert.KernelIdeal Cert.KernelIdeal.Gen Idealize.ShloMosaic Idealize.ShloMosaic.TcCoe Idealize.SL.Sem

/-- The row within its chunk, as the kernel computes it. -/
def rowIn : IVec S256x256 32 := k0_pay4 (64#32) k0_pay3 0#32

/-- One step: add the value `w` rows above, where that row is in the same chunk. -/
def addAbove (w : ℕ) (x : FVec Ideal S256x256 .f32) : FVec Ideal S256x256 .f32 :=
  addf x (select (cmpi .sge rowIn (broadcast S256x256 (BitVec.ofNat 32 w)))
    (dynamicRotate 0 (BitVec.ofNat 32 w) none x rotates_S256x256_d0) (broadcast S256x256 (Scalar.ofBits .f32 0x00000000#32)))

/-- The kernel's running sums are the six steps. -/
theorem sums_eq (x : FVec Ideal S256x256 .f32) :
    k0_pay6 (k0_pay4 (64#32) k0_pay3 0#32) (k0_pay5 x (64#32) k0_pay3 0#32) 32#32 =
      addAbove 32 (addAbove 16 (addAbove 8 (addAbove 4 (addAbove 2 (addAbove 1 x))))) := rfl

theorem rowIn_at (r d : Fin 256) : rowIn (ix2 r d) = BitVec.ofNat 32 (r.val % 64) := by
  pointwise [rowIn, k0_pay4, k0_pay3]
  revert r
  decide

/-- The sum of the `w` values ending at row `r`, of those in its chunk. -/
def upto (L : ℕ → EReal) (w r : ℕ) : EReal := ∑ i ∈ Finset.range w, if i ≤ r % 64 then L (r - i) else 0

theorem upto_double (L : ℕ → EReal) (w r : ℕ) :
    upto L (w + w) r = upto L w r + if w ≤ r % 64 then upto L w (r - w) else 0 := by
  unfold upto
  rw [Finset.sum_range_add]
  congr 1
  by_cases h : w ≤ r % 64
  · rw [if_pos h]
    refine Finset.sum_congr rfl fun i _ => ?_
    have e : (r - w) % 64 = r % 64 - w := by omega
    rw [e, Nat.sub_sub]
    by_cases h' : w + i ≤ r % 64
    · rw [if_pos h', if_pos (by omega)]
    · rw [if_neg h', if_neg (by omega)]
  · rw [if_neg h]
    exact Finset.sum_eq_zero fun i _ => if_neg (by omega)

/-- All 64: the running sum from the chunk's first row. -/
theorem upto_all (L : ℕ → EReal) (r : ℕ) : upto L 64 r = ∑ j ∈ Finset.range (r % 64 + 1), L (64 * (r / 64) + j) := by
  have hr : r % 64 + 1 ≤ 64 := by omega
  unfold upto
  rw [← Finset.sum_range_reflect (fun j => L (64 * (r / 64) + j)),
    ← Finset.sum_subset (Finset.range_subset_range.2 hr)]
  · refine Finset.sum_congr rfl fun i hi => ?_
    have := Finset.mem_range.1 hi
    rw [if_pos (by omega)]
    congr 1
    omega
  · intro i _ hi
    exact if_neg fun h => hi (Finset.mem_range.2 (by omega))

theorem addAbove_at (w : ℕ) (hw : w < 64) (x : FVec Ideal S256x256 .f32) (L : ℕ → ℕ → EReal)
    (hx : ∀ r d : Fin 256, x (ix2 r d) = upto (fun r => L r d.val) w r.val) (r d : Fin 256) :
    addAbove w x (ix2 r d) = upto (fun r => L r d.val) (w + w) r.val := by
  have hr := r.isLt
  rw [upto_double]
  have hn : (BitVec.ofNat 32 w).toNat = w := by
    rw [BitVec.toNat_ofNat]
    omega
  have hc : IntOp.cmpi CmpIPredicate.sge (BitVec.ofNat 32 (r.val % 64)) (BitVec.ofNat 32 w) = BitVec.ofBool (decide (w ≤ r.val % 64)) :=
    WordCmp.cmpi_sge_ofNat (by omega) (by omega)
  pointwise [addAbove, rowIn_at, hx, hc]
  rw [hn]
  by_cases h : w ≤ r.val % 64
  · have e : (r.val + 256 - w % 256) % 256 = r.val - w := by omega
    simp only [if_pos h, e]
  · simp only [if_neg h]

/-- The kernel's running sums of `L`: over the rows of its chunk up to the row itself. -/
theorem sums_at (x : FVec Ideal S256x256 .f32) (L : ℕ → ℕ → EReal)
    (hx : ∀ r d : Fin 256, x (ix2 r d) = L r.val d.val) (r d : Fin 256) :
    k0_pay6 (k0_pay4 (64#32) k0_pay3 0#32) (k0_pay5 x (64#32) k0_pay3 0#32) 32#32 (ix2 r d) =
      ∑ j ∈ Finset.range (r.val % 64 + 1), L (64 * (r.val / 64) + j) d.val := by
  rw [sums_eq, ← upto_all (fun r => L r d.val)]
  refine addAbove_at 32 (by omega) _ L ?_ r d
  refine addAbove_at 16 (by omega) _ L ?_
  refine addAbove_at 8 (by omega) _ L ?_
  refine addAbove_at 4 (by omega) _ L ?_
  refine addAbove_at 2 (by omega) _ L ?_
  refine addAbove_at 1 (by omega) _ L ?_
  intro r d
  rw [hx, upto, Finset.sum_range_one, if_pos (Nat.zero_le _), Nat.sub_zero]

end Cert.KernelIdeal.Gla
-- ==== Proof.GlaTileVals.lean ====
module

public import proofs.«01_k».proof.Proof.GlaSums

/-! What a tile computes, in the formulas of `Gla.Args`. -/

@[expose] public section

set_option maxRecDepth 16384

noncomputable section

namespace Cert.KernelIdeal.Gla

open Cert.KernelIdeal Cert.KernelIdeal.Gen Idealize.ShloMosaic Idealize.ShloMosaic.TcCoe Idealize.SL.Sem
open _root_.Gla (Args)

variable (A : Args)

/-- The log gates of a block of 256 positions. -/
theorem gate_at (b p : ℕ) (Z : Vec Ideal S1x256x128 .f32) (W : Vec Ideal S128x256 .bf16) (B : Vec Ideal S1x256 .f32)
    (hZ : ∀ (r : Fin 256) (x : Fin 128), Z (ix3 0 r x) = A.z b (256 * p + r.val) x.val)
    (hW : ∀ (x : Fin 128) (d : Fin 256), W (ix2 x d) = if x.val < 16 then A.w x.val d.val else 0)
    (hB : ∀ d : Fin 256, B (ix2 0 d) = A.bias d.val) (r d : Fin 256) :
    k0_pay2 (F := Ideal) Z W B (ix2 r d) = A.gate b (256 * p + r.val) d.val := by
  pointwise [k0_pay2, hZ, hW, hB]
  simp only [mul_zero, Finset.sum_const_zero, add_zero, ne_eq, not_true_eq_false, if_false]
  rfl

variable (b h n : ℕ) (bc qc kc : FVec Ideal S64x64 .f32) (S : FVec Ideal S128x64 .f32) (V R : Vec Ideal S1x64x128 .f32)
  (N : Vec Ideal S1x128 .f32)

/-- A tile takes the state before its chunk to the state after it. -/
theorem tileS_at (hb : ∀ i d : Fin 64, bc (ix2 i d) = A.cum b h n i.val d.val)
    (hk : ∀ i d : Fin 64, kc (ix2 i d) = A.k b (64 * n + i.val) (64 * h + d.val))
    (hS : ∀ (e : Fin 128) (d : Fin 64), S (ix2 e d) = A.st b h n e.val d.val)
    (hV : ∀ (i : Fin 64) (e : Fin 128), V (ix3 0 i e) = A.v b (64 * n + i.val) (128 * h + e.val))
    (e : Fin 128) (d : Fin 64) : tileS bc kc S V (ix2 e d) = A.st b h (n + 1) e.val d.val := by
  pointwise [tileS, vals, lastRow, hb, hk, hS, hV]
  rfl

theorem tileR_at (hb : ∀ i d : Fin 64, bc (ix2 i d) = A.cum b h n i.val d.val)
    (hq : ∀ i d : Fin 64, qc (ix2 i d) = A.q b (64 * n + i.val) (64 * h + d.val) * Ideal.ofBits .f32 0x3E000000#32)
    (hk : ∀ i d : Fin 64, kc (ix2 i d) = A.k b (64 * n + i.val) (64 * h + d.val))
    (hS : ∀ (e : Fin 128) (d : Fin 64), S (ix2 e d) = A.st b h n e.val d.val)
    (hV : ∀ (i : Fin 64) (e : Fin 128), V (ix3 0 i e) = A.v b (64 * n + i.val) (128 * h + e.val))
    (i : Fin 64) (e : Fin 128) : tileR bc qc kc S V (ix2 i e) = A.read b h n i.val e.val := by
  have hc : ∀ x : Fin 64, IntOp.cmpi CmpIPredicate.sge (BitVec.ofNat 32 i.val) (BitVec.ofNat 32 x.val) =
      BitVec.ofBool (decide (x.val ≤ i.val)) := fun x => WordCmp.cmpi_sge_ofNat (by omega) (by omega)
  pointwise [tileR, vals, tileA, tileQ, k0_pay9, hb, hk, hq, hS, hV, hc]
  refine congrArg₂ (· + ·) (Finset.sum_congr rfl fun x _ => ?_) rfl
  unfold Args.score
  by_cases hx : x.val ≤ i.val
  · rw [if_pos hx, if_pos hx]
    rfl
  · rw [if_neg hx, if_neg hx, zero_mul]

/-- What a tile stores is the result at its rows. -/
theorem tileO_at (hb : ∀ i d : Fin 64, bc (ix2 i d) = A.cum b h n i.val d.val)
    (hq : ∀ i d : Fin 64, qc (ix2 i d) = A.q b (64 * n + i.val) (64 * h + d.val) * Ideal.ofBits .f32 0x3E000000#32)
    (hk : ∀ i d : Fin 64, kc (ix2 i d) = A.k b (64 * n + i.val) (64 * h + d.val))
    (hS : ∀ (e : Fin 128) (d : Fin 64), S (ix2 e d) = A.st b h n e.val d.val)
    (hV : ∀ (i : Fin 64) (e : Fin 128), V (ix3 0 i e) = A.v b (64 * n + i.val) (128 * h + e.val))
    (hN : ∀ e : Fin 128, N (ix2 0 e) = A.norm e.val)
    (hR : ∀ (i : Fin 64) (e : Fin 128), R (ix3 0 i e) = A.r b (64 * n + i.val) (128 * h + e.val))
    (i : Fin 64) (e : Fin 128) : tileO bc qc kc S V N R (ix3 0 i e) = A.out b h n i.val e.val := by
  have ho := tileR_at A b h n bc qc kc S V hb hq hk hS hV
  unfold tileO
  generalize tileR bc qc kc S V = o at ho
  pointwise [tileN, ho, hN, hR]
  rfl

end Cert.KernelIdeal.Gla
-- ==== Proof.GlaBlocks.lean ====
module

public import proofs.«01_k».proof.Proof.Gen.KernelIdeal.Value
public import proofs.«01_k».proof.Proof.GlaTileVals
public import Idealize.ShloMosaic.Lib.Pipeline.ValueKit
public import Idealize.ShloMosaic.Lib.StableHlo.RunRead

/-! The blocks the kernel reads, in the mixer's arguments: grid point `t` holds block `t % 32` of 256 positions of batch `t / 32`. -/

@[expose] public section

set_option maxRecDepth 16384

noncomputable section

namespace Cert.KernelIdeal.Gla

open Cert.KernelIdeal Cert.KernelIdeal.Gen Cert.KernelIdeal.Value
open Idealize.ShloMosaic Idealize.ShloMosaic.TcCoe Idealize.SL.Sem
open _root_.Gla (Args at1 at2 at3 at1_of at2_of at3_of)

variable (m : (ℓ : Loc nD τ sig) → Buf (Elt Ideal) ℓ) (c : Dev nD)

/-- The mixer's arguments, of the memory the run starts from. -/
def args : Args where
  q := at3 (a := 4) (b := 8192) (c := 256) (m ((c.tc : Thread nD τ).loc main_arg0))
  k := at3 (a := 4) (b := 8192) (c := 256) (m ((c.tc : Thread nD τ).loc main_arg1))
  v := at3 (a := 4) (b := 8192) (c := 512) (m ((c.tc : Thread nD τ).loc main_arg2))
  r := at3 (a := 4) (b := 8192) (c := 512) (m ((c.tc : Thread nD τ).loc main_arg3))
  z := at3 (a := 4) (b := 8192) (c := 128) (m ((c.tc : Thread nD τ).loc main_arg4))
  w := at2 (a := 16) (b := 256) (m ((c.tc : Thread nD τ).loc main_arg5))
  bias := at1 (a := 256) (m ((c.tc : Thread nD τ).loc main_arg6))
  norm := at1 (a := 128) (m ((c.tc : Thread nD τ).loc main_arg7))

theorem idx_in : ∀ t : Fin cfg0.N, win0_0.index t = ![t.val / 32, t.val % 32, 0] ∧ win0_1.index t = ![t.val / 32, t.val % 32, 0]
    ∧ win0_2.index t = ![t.val / 32, t.val % 32, 0] ∧ win0_3.index t = ![t.val / 32, t.val % 32, 0]
    ∧ win0_4.index t = ![t.val / 32, t.val % 32, 0] :=
  (by decide +kernel : ∀ t : Fin grid0.N, _)

theorem idx_whole : ∀ t : Fin cfg0.N, win0_5.index t = ![0, 0] ∧ win0_6.index t = ![0, 0] ∧ win0_7.index t = ![0, 0] :=
  (by decide +kernel : ∀ t : Fin grid0.N, _)

theorem point_lt (t : Fin cfg0.N) : t.val < 128 := lt_of_lt_of_eq t.isLt (show cfg0.N = 128 from N_0)

variable (t : Fin cfg0.N)

theorem blk_q (r x : Fin 256) : (iblk m c 0 t : Vec Ideal S1x256x256 .f32) (ix3 0 r x) = (args m c).q (t.val / 32) (256 * (t.val % 32) + r.val) x.val := by
  have ht := point_lt t
  refine Eq.trans ?_ (at3_of (a := 4) (b := 8192) (c := 256) (m ((c.tc : Thread nD τ).loc main_arg0))
    ⟨t.val / 32, by omega⟩ ⟨256 * (t.val % 32) + r.val, by omega⟩ x).symm
  blk_point [iblk, V, idx_in t]

theorem blk_k (r : Fin 256) (x : Fin 256) : (iblk m c 1 t : Vec Ideal S1x256x256 .f32) (ix3 0 r x) =
    (args m c).k (t.val / 32) (256 * (t.val % 32) + r.val) x.val := by
  have ht := point_lt t
  refine Eq.trans ?_ (at3_of (a := 4) (b := 8192) (c := 256) (m ((c.tc : Thread nD τ).loc main_arg1))
    ⟨t.val / 32, by omega⟩ ⟨256 * (t.val % 32) + r.val, by omega⟩ x).symm
  blk_point [iblk, V, idx_in t]

theorem blk_v (r : Fin 256) (x : Fin 512) : (iblk m c 2 t : Vec Ideal S1x256x512 .f32) (ix3 0 r x) =
    (args m c).v (t.val / 32) (256 * (t.val % 32) + r.val) x.val := by
  have ht := point_lt t
  refine Eq.trans ?_ (at3_of (a := 4) (b := 8192) (c := 512) (m ((c.tc : Thread nD τ).loc main_arg2))
    ⟨t.val / 32, by omega⟩ ⟨256 * (t.val % 32) + r.val, by omega⟩ x).symm
  blk_point [iblk, V, idx_in t]

theorem blk_r (r : Fin 256) (x : Fin 512) : (iblk m c 3 t : Vec Ideal S1x256x512 .f32) (ix3 0 r x) =
    (args m c).r (t.val / 32) (256 * (t.val % 32) + r.val) x.val := by
  have ht := point_lt t
  refine Eq.trans ?_ (at3_of (a := 4) (b := 8192) (c := 512) (m ((c.tc : Thread nD τ).loc main_arg3))
    ⟨t.val / 32, by omega⟩ ⟨256 * (t.val % 32) + r.val, by omega⟩ x).symm
  blk_point [iblk, V, idx_in t]

theorem blk_z (r : Fin 256) (x : Fin 128) : (iblk m c 4 t : Vec Ideal S1x256x128 .f32) (ix3 0 r x) =
    (args m c).z (t.val / 32) (256 * (t.val % 32) + r.val) x.val := by
  have ht := point_lt t
  refine Eq.trans ?_ (at3_of (a := 4) (b := 8192) (c := 128) (m ((c.tc : Thread nD τ).loc main_arg4))
    ⟨t.val / 32, by omega⟩ ⟨256 * (t.val % 32) + r.val, by omega⟩ x).symm
  blk_point [iblk, V, idx_in t]

/-- The gate's matrix reaches the kernel with rows of zeros below it. -/
theorem V_w : (V m c (Pipeline.arrRef spec0 5) : FVec Ideal S128x256 .bf16) = pad S128x256 ![0, 0] ![112, 0] ![0, 0]
    (truncf .bf16 (show FVec Ideal S16x256 .f32 from m ((c.tc : Thread nD τ).loc main_arg5)) bitsLt_bf16_f32)
    (sitofp .bf16 (constantI S_ 32 0#32)) pads_S16x256_S128x256_01120_000 h_S_ := by
  change StableHlo.after ([hostOps0, hostOps0_1, hostOps0_2].flatten) (fun b => m (c, b)) (Proc.tc.devRef main_v1) = _
  simp only [List.flatten_cons, List.flatten_nil, List.append_nil, hostOps0, hostOps0_1, hostOps0_2, List.cons_append, List.nil_append]
  after_reads_simp
  try rfl

theorem V_bias : (V m c (Pipeline.arrRef spec0 6) : FVec Ideal S1x256 .f32) =
    broadcastInDim S1x256 ![1] bcast_S256_S1x256_1 (show FVec Ideal S256 .f32 from m ((c.tc : Thread nD τ).loc main_arg6)) := by
  change StableHlo.after ([hostOps0, hostOps0_1, hostOps0_2].flatten) (fun b => m (c, b)) (Proc.tc.devRef main_v2) = _
  simp only [List.flatten_cons, List.flatten_nil, List.append_nil, hostOps0, hostOps0_1, hostOps0_2, List.cons_append, List.nil_append]
  after_reads_simp
  try rfl

theorem V_norm : (V m c (Pipeline.arrRef spec0 7) : FVec Ideal S1x128 .f32) =
    broadcastInDim S1x128 ![1] bcast_S128_S1x128_1 (show FVec Ideal S128 .f32 from m ((c.tc : Thread nD τ).loc main_arg7)) := by
  change StableHlo.after ([hostOps0, hostOps0_1, hostOps0_2].flatten) (fun b => m (c, b)) (Proc.tc.devRef main_v3) = _
  simp only [List.flatten_cons, List.flatten_nil, List.append_nil, hostOps0, hostOps0_1, hostOps0_2, List.cons_append, List.nil_append]
  after_reads_simp
  try rfl

theorem blk_w (x : Fin 128) (d : Fin 256) : (iblk m c 5 t : Vec Ideal S128x256 .bf16) (ix2 x d) =
    if x.val < 16 then (args m c).w x.val d.val else 0 := by
  have e : ((cfg0.win 5).blk t).view.emb (ix2 x d) = ix2 x d := by blk_ext [idx_whole t]
  unfold iblk
  change V m c (Pipeline.arrRef spec0 5) (((cfg0.win 5).blk t).view.emb (ix2 x d)) = _
  rw [e, V_w]
  pointwise
  by_cases h : x.val < 16
  · rw [dif_pos h, if_pos h]
    exact (at2_of (a := 16) (b := 256) (m ((c.tc : Thread nD τ).loc main_arg5)) ⟨x.val, h⟩ d).symm
  · rw [dif_neg h, if_neg h]
    change (((0#32 : BitVec 32).toInt : ℝ) : EReal) = 0
    simp

theorem blk_bias (d : Fin 256) : (iblk m c 6 t : Vec Ideal S1x256 .f32) (ix2 0 d) = (args m c).bias d.val := by
  have e : ((cfg0.win 6).blk t).view.emb (ix2 0 d) = ix2 0 d := by blk_ext [idx_whole t]
  unfold iblk
  change V m c (Pipeline.arrRef spec0 6) (((cfg0.win 6).blk t).view.emb (ix2 0 d)) = _
  rw [e, V_bias]
  refine Eq.trans ?_ (at1_of (a := 256) (m ((c.tc : Thread nD τ).loc main_arg6)) d).symm
  pointwise

theorem blk_norm (d : Fin 128) : (iblk m c 7 t : Vec Ideal S1x128 .f32) (ix2 0 d) = (args m c).norm d.val := by
  have e : ((cfg0.win 7).blk t).view.emb (ix2 0 d) = ix2 0 d := by blk_ext [idx_whole t]
  unfold iblk
  change V m c (Pipeline.arrRef spec0 7) (((cfg0.win 7).blk t).view.emb (ix2 0 d)) = _
  rw [e, V_norm]
  refine Eq.trans ?_ (at1_of (a := 128) (m ((c.tc : Thread nD τ).loc main_arg7)) d).symm
  pointwise

end Cert.KernelIdeal.Gla
-- ==== Proof.GlaKernel.lean ====
module

public import proofs.«01_k».proof.Proof.GlaBlocks
public import Idealize.ShloMosaic.Lib.Pipeline.ReadBack

/-! The kernel's result: each grid point takes the states of the four heads over four chunks and stores the chunks' results. -/

@[expose] public section

set_option maxRecDepth 16384

noncomputable section

namespace Cert.KernelIdeal.Gla

open Cert.KernelIdeal Cert.KernelIdeal.Gen Cert.KernelIdeal.Value
open Idealize.ShloMosaic Idealize.ShloMosaic.TcCoe Idealize.SL.Sem
open _root_.Gla (Args)

section tiles

variable (A : Args) (b p : ℕ)

/-- The running sums of a block of 256 positions. -/
def IsCum (B : FVec Ideal S256x256 .f32) : Prop := ∀ r d : Fin 256,
  B (ix2 r d) = ∑ j ∈ Finset.range (r.val % 64 + 1), A.gate b (256 * p + (64 * (r.val / 64) + j)) d.val

/-- A block's entry, read through a slice of 64 rows and columns. -/
theorem slice_at (x : FVec Ideal S256x256 .f32) (u v : ℕ) (hs : S256x256.Slices ![u, v] S64x64) (i d : Fin 64)
    (hu : u + i.val < 256) (hv : v + d.val < 256) :
    extractStridedSlice S64x64 ![u, v] x hs (ix2 i d) = x (ix2 ⟨u + i.val, hu⟩ ⟨v + d.val, hv⟩) :=
  congrArg x (funext fun a => by refine Fin.cases rfl (fun a => ?_) a; refine Fin.cases rfl (fun a => ?_) a; exact a.elim0)

variable {A b p}

/-- The running sums of a tile. -/
theorem cum_slice {B : FVec Ideal S256x256 .f32} (hB : IsCum A b p B) (c h : ℕ) (hc : c < 4) (hh : h < 4)
    (hs : S256x256.Slices ![64 * c, 64 * h] S64x64) (i d : Fin 64) :
    extractStridedSlice S64x64 ![64 * c, 64 * h] B hs (ix2 i d) = A.cum b h (4 * p + c) i.val d.val := by
  rw [slice_at B _ _ hs i d (by omega) (by omega), hB]
  unfold Args.cum
  have e1 : (64 * c + i.val) % 64 = i.val := by omega
  have e2 : (64 * c + i.val) / 64 = c := by omega
  simp only [e1, e2]
  refine Finset.sum_congr rfl fun j _ => ?_
  congr 1
  omega

theorem key_slice {X : Vec Ideal S1x256x256 .f32} (hX : ∀ r x : Fin 256, X (ix3 0 r x) = A.k b (256 * p + r.val) x.val)
    (c h : ℕ) (hc : c < 4) (hh : h < 4) (hs : S256x256.Slices ![64 * c, 64 * h] S64x64) (i d : Fin 64) :
    extractStridedSlice S64x64 ![64 * c, 64 * h] (k0_pay8 (F := Ideal) X) hs (ix2 i d) =
      A.k b (64 * (4 * p + c) + i.val) (64 * h + d.val) := by
  rw [slice_at _ _ _ hs i d (by omega) (by omega)]
  pointwise [k0_pay8, hX]
  exact congrArg₂ (A.k b) (show 256 * p + (64 * c + i.val) = 64 * (4 * p + c) + i.val by omega) rfl

theorem query_slice {X : Vec Ideal S1x256x256 .f32} (hX : ∀ r x : Fin 256, X (ix3 0 r x) = A.q b (256 * p + r.val) x.val)
    (c h : ℕ) (hc : c < 4) (hh : h < 4) (hs : S256x256.Slices ![64 * c, 64 * h] S64x64) (i d : Fin 64) :
    extractStridedSlice S64x64 ![64 * c, 64 * h] (k0_pay7 (F := Ideal) X) hs (ix2 i d) =
      A.q b (64 * (4 * p + c) + i.val) (64 * h + d.val) * Ideal.ofBits .f32 0x3E000000#32 := by
  rw [slice_at _ _ _ hs i d (by omega) (by omega)]
  pointwise [k0_pay7, hX]
  exact congrArg (· * _) (congrArg₂ (A.q b) (show 256 * p + (64 * c + i.val) = 64 * (4 * p + c) + i.val by omega) rfl)

/-- A block's entry, read through a load of 64 rows and 128 channels. -/
theorem load_at (X : Vec Ideal S1x256x512 .f32) (u v : ℕ) (hs : ∀ a, (![0, u, v] : Fin 3 → ℕ) a + S1x64x128.size a ≤ S1x256x512.size a)
    (i : Fin 64) (e : Fin 128) (hu : u + i.val < 256) (hv : v + e.val < 512) :
    (View.ld X (Rect.unit (s := S1x256x512) ![0, u, v] ![1, 64, 128] hs) : Vec Ideal S1x64x128 .f32) (ix3 0 i e) =
      X (ix3 0 ⟨u + i.val, hu⟩ ⟨v + e.val, hv⟩) := by
  refine congrArg X (funext fun a => Fin.ext ?_)
  fin_cases a
  · rfl
  · exact congrArg (u + ·) (Nat.one_mul _)
  · exact congrArg (v + ·) (Nat.one_mul _)

/-- The place of a tile's result in the block. -/
theorem place (c h : ℕ) (hc : c < 4) (u v i e : ℕ) (hi : i < 64) (he : e < 128) (hu : u = 64 * c + i) (hv : v = 128 * h + e) :
    A.out b h (4 * p + c) i e = A.out b (v / 128) (4 * p + u / 64) (u % 64) (v % 128) := by
  have e1 : v / 128 = h := by omega
  have e2 : u / 64 = c := by omega
  have e3 : u % 64 = i := by omega
  have e4 : v % 128 = e := by omega
  rw [e1, e2, e3, e4]

variable (A b p) in
/-- The arrays a grid point reads. -/
structure Reads (B : FVec Ideal S256x256 .f32) (X0 X1 : Vec Ideal S1x256x256 .f32) (X2 X3 : Vec Ideal S1x256x512 .f32)
    (N : Vec Ideal S1x128 .f32) : Prop where
  cum : IsCum A b p B
  q : ∀ r x : Fin 256, X0 (ix3 0 r x) = A.q b (256 * p + r.val) x.val
  k : ∀ r x : Fin 256, X1 (ix3 0 r x) = A.k b (256 * p + r.val) x.val
  v : ∀ (r : Fin 256) (x : Fin 512), X2 (ix3 0 r x) = A.v b (256 * p + r.val) x.val
  r : ∀ (r : Fin 256) (x : Fin 512), X3 (ix3 0 r x) = A.r b (256 * p + r.val) x.val
  norm : ∀ e : Fin 128, N (ix2 0 e) = A.norm e.val

variable {B : FVec Ideal S256x256 .f32} {X0 X1 : Vec Ideal S1x256x256 .f32} {X2 X3 : Vec Ideal S1x256x512 .f32}
  {N : Vec Ideal S1x128 .f32} (H : Reads A b p B X0 X1 X2 X3 N) (c h : ℕ) (hc : c < 4) (hh : h < 4)
  (hs : S256x256.Slices ![64 * c, 64 * h] S64x64)
  (hl : ∀ a, (![0, 64 * c, 128 * h] : Fin 3 → ℕ) a + S1x64x128.size a ≤ S1x256x512.size a)
  {S : FVec Ideal S128x64 .f32} (hS : ∀ (e : Fin 128) (d : Fin 64), S (ix2 e d) = A.st b h (4 * p + c) e.val d.val)
include H hc hh hS

/-- The state after a tile of the block. -/
theorem state_tile (e : Fin 128) (d : Fin 64) :
    tileS (extractStridedSlice S64x64 ![64 * c, 64 * h] B hs) (extractStridedSlice S64x64 ![64 * c, 64 * h] (k0_pay8 (F := Ideal) X1) hs)
      S (View.ld X2 (Rect.unit (s := S1x256x512) ![0, 64 * c, 128 * h] ![1, 64, 128] hl)) (ix2 e d) =
      A.st b h (4 * p + (c + 1)) e.val d.val := by
  refine tileS_at A b h (4 * p + c) _ _ S _ (cum_slice H.cum c h hc hh hs) (key_slice H.k c h hc hh hs) hS ?_ e d
  intro i e
  rw [load_at X2 _ _ hl i e (by omega) (by omega), H.v]
  exact congrArg₂ (A.v b) (show 256 * p + (64 * c + i.val) = 64 * (4 * p + c) + i.val by omega) rfl

/-- What a tile of the block stores. -/
theorem out_tile (i : Fin 64) (e : Fin 128) :
    tileO (extractStridedSlice S64x64 ![64 * c, 64 * h] B hs) (extractStridedSlice S64x64 ![64 * c, 64 * h] (k0_pay7 (F := Ideal) X0) hs)
      (extractStridedSlice S64x64 ![64 * c, 64 * h] (k0_pay8 (F := Ideal) X1) hs)
      S (View.ld X2 (Rect.unit (s := S1x256x512) ![0, 64 * c, 128 * h] ![1, 64, 128] hl)) N
      (View.ld X3 (Rect.unit (s := S1x256x512) ![0, 64 * c, 128 * h] ![1, 64, 128] hl)) (ix3 0 i e) =
      A.out b h (4 * p + c) i.val e.val := by
  refine tileO_at A b h (4 * p + c) _ _ _ S _ _ _ (cum_slice H.cum c h hc hh hs) (query_slice H.q c h hc hh hs)
    (key_slice H.k c h hc hh hs) hS ?_ H.norm ?_ i e
  · intro i e
    rw [load_at X2 _ _ hl i e (by omega) (by omega), H.v]
    exact congrArg₂ (A.v b) (show 256 * p + (64 * c + i.val) = 64 * (4 * p + c) + i.val by omega) rfl
  · intro i e
    rw [load_at X3 _ _ hl i e (by omega) (by omega), H.r]
    exact congrArg₂ (A.r b) (show 256 * p + (64 * c + i.val) = 64 * (4 * p + c) + i.val by omega) rfl

end tiles

section casts

/-- A head's state under its leading axis. -/
theorem cast_at (T : FVec Ideal S128x64 .f32) (x : S1x128x64.Idx) :
    shapeCast S1x128x64 T shapeCasts_S128x64_S1x128x64 x = T (ix2 (x 1) (x 2)) := by
  obtain ⟨i, e, d, rfl⟩ : ∃ (i : Fin 1) (e : Fin 128) (d : Fin 64), x = ix3 i e d := ⟨x 0, x 1, x 2, eq_ix3 x⟩
  pointwise

/-- The scratch's first contents are zeros. -/
theorem zeros : (k0_pay1 (F := Ideal)) = fun _ => (0 : EReal) := by
  funext j
  pointwise [k0_pay1]

/-- Where the later stores cover an index, the earlier ones do not matter. -/
theorem canon_front {S : Shape} {e : EltTy} (L M : List (View.Piece (Elt Ideal) S e)) (y : S.Idx)
    (hc : ∃ p ∈ L, y ∈ p.1.set) : View.canon (L ++ M) y = View.canon L y := by
  induction L with
  | nil => obtain ⟨p, hp, _⟩ := hc; exact absurd hp List.not_mem_nil
  | cons p L ih =>
    rw [List.cons_append]
    by_cases hm : y ∈ p.1.set
    · obtain ⟨x, rfl⟩ := p.1.exists_idx_of_mem hm
      exact (View.canon_cons_emb p.1 p.2 _ x).trans (View.canon_cons_emb p.1 p.2 _ x).symm
    · rw [View.canon_cons_of_not_mem _ _ hm, View.canon_cons_of_not_mem _ _ hm]
      obtain ⟨q, hq, hy⟩ := hc
      rcases List.mem_cons.mp hq with rfl | hq
      · exact absurd hy hm
      · exact ih ⟨q, hq, hy⟩

theorem row_at (x : S1x64x128.Idx) : x = ix3 0 (x 1 : Fin 64) (x 2 : Fin 128) := by
  have e0 : x 0 = (0 : Fin 1) := Subsingleton.elim (α := Fin 1) _ _
  refine (eq_ix3 x).trans ?_
  rw [e0]
  rfl

end casts

variable (m : (ℓ : Loc nD τ sig) → Buf (Elt Ideal) ℓ) (c : Dev nD)

/-- The scratch after grid point `t` holds the states after chunk `4 * (t % 32) + 3`. -/
def Held (t : ℕ) (ht : t < cfg0.N) : Prop := ∀ y : S4x128x64.Idx,
  (outsAt0 m c t ht).2 y = (args m c).st (t / 32) (y 0).val (4 * (t % 32 + 1)) (y 1).val (y 2).val

/-- The block grid point `t` stores. -/
def Stored (t : ℕ) (ht : t < cfg0.N) : Prop := ∀ y : S1x256x512.Idx, (outsAt0 m c t ht).1 y =
  (args m c).out (t / 32) ((y 2).val / 128) (4 * (t % 32) + (y 1).val / 64) ((y 1).val % 64) ((y 2).val % 128)

theorem isCum (t : Fin cfg0.N) : IsCum (args m c) (t.val / 32) (t.val % 32)
    (k0_pay6 (k0_pay4 (64#32) k0_pay3 0#32)
      (k0_pay5 (k0_pay2 (iblk m c 4 t) (iblk m c 5 t) (iblk m c 6 t)) (64#32) k0_pay3 0#32) 32#32) := fun r d =>
  sums_at _ (fun s x => (args m c).gate (t.val / 32) (256 * (t.val % 32) + s) x)
    (fun r d => gate_at (args m c) _ _ _ _ _ (blk_z m c t) (blk_w m c t) (blk_bias m c t) r d) r d

theorem reads (t : Fin cfg0.N) : Reads (args m c) (t.val / 32) (t.val % 32)
    (k0_pay6 (k0_pay4 (64#32) k0_pay3 0#32)
      (k0_pay5 (k0_pay2 (iblk m c 4 t) (iblk m c 5 t) (iblk m c 6 t)) (64#32) k0_pay3 0#32) 32#32)
    (iblk m c 0 t) (iblk m c 1 t) (iblk m c 2 t) (iblk m c 3 t) (iblk m c 7 t) :=
  ⟨isCum m c t, blk_q m c t, blk_k m c t, blk_v m c t, blk_r m c t, blk_norm m c t⟩

/-- The state that a point not first of its batch finds. -/
theorem found_later (t : Fin cfg0.N) (h0 : ¬t.val % 32 = 0) (ih : Held m c (t.val - 1) (by have := t.isLt; omega))
    (h : Fin 4) (e : Fin 128) (d : Fin 64) : (outsAt0 m c (t.val - 1) (by have := t.isLt; omega)).2 (ix3 h e d) =
      (args m c).st (t.val / 32) h.val (4 * (t.val % 32) + 0) e.val d.val := by
  refine (ih (ix3 h e d)).trans ?_
  have e1 : (t.val - 1) / 32 = t.val / 32 := by omega
  have e2 : 4 * ((t.val - 1) % 32 + 1) = 4 * (t.val % 32) + 0 := by omega
  rw [e1, e2]
  rfl

/-- The state that the first point of a batch starts from. -/
theorem found_first (t : Fin cfg0.N) (h0 : t.val % 32 = 0) (h : ℕ) (e d : ℕ) :
    (args m c).st (t.val / 32) h (4 * (t.val % 32) + 0) e d = 0 := by
  rw [h0]
  rfl

/-- Its states after a point that is not first of its batch. -/
theorem held_later (t : Fin cfg0.N) (h0 : ¬t.val % 32 = 0) (ih : Held m c (t.val - 1) (by have := t.isLt; omega)) :
    Held m c t.val t.isLt := by
  intro y
  conv_lhs => rw [outsAt0_B m c t h0]
  frame_out
  simp only [state_0_0, state_0_1, state_0_2, state_0_3, state_1_0, state_1_1, state_1_2, state_1_3, state_2_0, state_2_1,
    state_2_2, state_2_3, state_3_0, state_3_1, state_3_2, state_3_3]
  have H := reads m c t
  have hF := found_later m c t h0 ih
  generalize k0_pay6 (k0_pay4 (64#32) k0_pay3 0#32)
      (k0_pay5 (k0_pay2 (iblk m c 4 t) (iblk m c 5 t) (iblk m c 6 t)) (64#32) k0_pay3 0#32) 32#32 = B at H ⊢
  canon_tiles x z
  case piece0 =>
    refine (cast_at _ x).trans ((state_tile H 3 3 (by omega) (by omega) _ _
      (state_tile H 2 3 (by omega) (by omega) _ _ (state_tile H 1 3 (by omega) (by omega) _ _ (state_tile H 0 3 (by omega) (by omega) _ _ (fun e d => ?_))))
      (x 1) (x 2)).trans ?_)
    · pointwise [k0_pay13]; rw [read_unread_whole]; exact hF 3 e d
    · rw [z1, z2, show (y 0).val = 3 by omega]; rfl
  case piece1 =>
    refine (cast_at _ x).trans ((state_tile H 3 2 (by omega) (by omega) _ _
      (state_tile H 2 2 (by omega) (by omega) _ _ (state_tile H 1 2 (by omega) (by omega) _ _ (state_tile H 0 2 (by omega) (by omega) _ _ (fun e d => ?_))))
      (x 1) (x 2)).trans ?_)
    · pointwise [k0_pay12]; rw [read_unread_whole]; exact hF 2 e d
    · rw [z1, z2, show (y 0).val = 2 by omega]; rfl
  case piece2 =>
    refine (cast_at _ x).trans ((state_tile H 3 1 (by omega) (by omega) _ _
      (state_tile H 2 1 (by omega) (by omega) _ _ (state_tile H 1 1 (by omega) (by omega) _ _ (state_tile H 0 1 (by omega) (by omega) _ _ (fun e d => ?_))))
      (x 1) (x 2)).trans ?_)
    · pointwise [k0_pay11]; rw [read_unread_whole]; exact hF 1 e d
    · rw [z1, z2, show (y 0).val = 1 by omega]; rfl
  case piece3 =>
    refine (cast_at _ x).trans ((state_tile H 3 0 (by omega) (by omega) _ _
      (state_tile H 2 0 (by omega) (by omega) _ _ (state_tile H 1 0 (by omega) (by omega) _ _ (state_tile H 0 0 (by omega) (by omega) _ _ (fun e d => ?_))))
      (x 1) (x 2)).trans ?_)
    · pointwise [k0_pay10]; rw [read_unread_whole]; exact hF 0 e d
    · rw [z1, z2, show (y 0).val = 0 by omega]; rfl

/-- Its states after the first point of a batch. -/
theorem held_first (t : Fin cfg0.N) (h0 : t.val % 32 = 0) :
    Held m c t.val t.isLt := by
  intro y
  conv_lhs => rw [outsAt0_A m c t h0]
  frame_out
  simp only [state_0_0, state_0_1, state_0_2, state_0_3, state_1_0, state_1_1, state_1_2, state_1_3, state_2_0, state_2_1,
    state_2_2, state_2_3, state_3_0, state_3_1, state_3_2, state_3_3]
  have H := reads m c t
  have hF := found_first m c t h0
  generalize k0_pay6 (k0_pay4 (64#32) k0_pay3 0#32)
      (k0_pay5 (k0_pay2 (iblk m c 4 t) (iblk m c 5 t) (iblk m c 6 t)) (64#32) k0_pay3 0#32) 32#32 = B at H ⊢
  refine (canon_front [_, _, _, _] [_] y (View.cover_of_tiled_head _ _ _ (by rfl) y)).trans ?_
  canon_tiles x z
  case piece0 =>
    refine (cast_at _ x).trans ((state_tile H 3 3 (by omega) (by omega) _ _
      (state_tile H 2 3 (by omega) (by omega) _ _ (state_tile H 1 3 (by omega) (by omega) _ _ (state_tile H 0 3 (by omega) (by omega) _ _ (fun e d => ?_))))
      (x 1) (x 2)).trans ?_)
    · refine Eq.trans ?_ (hF 3 _ _).symm; rw [zeros, View.readCov_fill _ _ _ _ _ (by decide)]; rfl
    · rw [z1, z2, show (y 0).val = 3 by omega]; rfl
  case piece1 =>
    refine (cast_at _ x).trans ((state_tile H 3 2 (by omega) (by omega) _ _
      (state_tile H 2 2 (by omega) (by omega) _ _ (state_tile H 1 2 (by omega) (by omega) _ _ (state_tile H 0 2 (by omega) (by omega) _ _ (fun e d => ?_))))
      (x 1) (x 2)).trans ?_)
    · refine Eq.trans ?_ (hF 2 _ _).symm; rw [zeros, View.readCov_fill _ _ _ _ _ (by decide)]; rfl
    · rw [z1, z2, show (y 0).val = 2 by omega]; rfl
  case piece2 =>
    refine (cast_at _ x).trans ((state_tile H 3 1 (by omega) (by omega) _ _
      (state_tile H 2 1 (by omega) (by omega) _ _ (state_tile H 1 1 (by omega) (by omega) _ _ (state_tile H 0 1 (by omega) (by omega) _ _ (fun e d => ?_))))
      (x 1) (x 2)).trans ?_)
    · refine Eq.trans ?_ (hF 1 _ _).symm; rw [zeros, View.readCov_fill _ _ _ _ _ (by decide)]; rfl
    · rw [z1, z2, show (y 0).val = 1 by omega]; rfl
  case piece3 =>
    refine (cast_at _ x).trans ((state_tile H 3 0 (by omega) (by omega) _ _
      (state_tile H 2 0 (by omega) (by omega) _ _ (state_tile H 1 0 (by omega) (by omega) _ _ (state_tile H 0 0 (by omega) (by omega) _ _ (fun e d => ?_))))
      (x 1) (x 2)).trans ?_)
    · refine Eq.trans ?_ (hF 0 _ _).symm; rw [zeros, View.readCov_fill _ _ _ _ _ (by decide)]; rfl
    · rw [z1, z2, show (y 0).val = 0 by omega]; rfl

theorem held : ∀ (n : ℕ) (hn : n < cfg0.N), Held m c n hn
  | 0, hn => held_first m c ⟨0, hn⟩ rfl
  | n + 1, hn => by
    by_cases h0 : (n + 1) % 32 = 0
    · exact held_first m c ⟨n + 1, hn⟩ h0
    · exact held_later m c ⟨n + 1, hn⟩ h0 (held n (by omega))

/-- The block that a point not first of its batch stores. -/
theorem stored_later (t : Fin cfg0.N) (h0 : ¬t.val % 32 = 0) :
    Stored m c t.val t.isLt := by
  intro y
  conv_lhs => rw [outsAt0_B m c t h0]
  frame_out
  simp only [state_0_0, state_0_1, state_0_2, state_0_3, state_1_0, state_1_1, state_1_2, state_1_3, state_2_0, state_2_1,
    state_2_2, state_2_3, state_3_0, state_3_1, state_3_2, state_3_3, out_0_0, out_0_1, out_0_2, out_0_3, out_1_0, out_1_1, out_1_2, out_1_3,
    out_2_0, out_2_1, out_2_2, out_2_3, out_3_0, out_3_1, out_3_2, out_3_3]
  have H := reads m c t
  have hF := found_later m c t h0 (held m c _ (by have := t.isLt; omega))
  generalize k0_pay6 (k0_pay4 (64#32) k0_pay3 0#32)
      (k0_pay5 (k0_pay2 (iblk m c 4 t) (iblk m c 5 t) (iblk m c 6 t)) (64#32) k0_pay3 0#32) 32#32 = B at H ⊢
  canon_tiles x z
  case piece0 =>
    rw [row_at x]
    refine (out_tile H 3 3 (by omega) (by omega) _ _ (state_tile H 2 3 (by omega) (by omega) _ _ (state_tile H 1 3 (by omega) (by omega) _ _ (state_tile H 0 3 (by omega) (by omega) _ _ (fun e d => ?_))))
      (x 1) (x 2)).trans (place (A := args m c) 3 3 (by omega) _ _ _ _ x1_lt x2_lt (by omega) (by omega))
    pointwise [k0_pay13]; rw [read_unread_whole]; exact hF 3 e d
  case piece1 =>
    rw [row_at x]
    refine (out_tile H 3 2 (by omega) (by omega) _ _ (state_tile H 2 2 (by omega) (by omega) _ _ (state_tile H 1 2 (by omega) (by omega) _ _ (state_tile H 0 2 (by omega) (by omega) _ _ (fun e d => ?_))))
      (x 1) (x 2)).trans (place (A := args m c) 3 2 (by omega) _ _ _ _ x1_lt x2_lt (by omega) (by omega))
    pointwise [k0_pay12]; rw [read_unread_whole]; exact hF 2 e d
  case piece2 =>
    rw [row_at x]
    refine (out_tile H 3 1 (by omega) (by omega) _ _ (state_tile H 2 1 (by omega) (by omega) _ _ (state_tile H 1 1 (by omega) (by omega) _ _ (state_tile H 0 1 (by omega) (by omega) _ _ (fun e d => ?_))))
      (x 1) (x 2)).trans (place (A := args m c) 3 1 (by omega) _ _ _ _ x1_lt x2_lt (by omega) (by omega))
    pointwise [k0_pay11]; rw [read_unread_whole]; exact hF 1 e d
  case piece3 =>
    rw [row_at x]
    refine (out_tile H 3 0 (by omega) (by omega) _ _ (state_tile H 2 0 (by omega) (by omega) _ _ (state_tile H 1 0 (by omega) (by omega) _ _ (state_tile H 0 0 (by omega) (by omega) _ _ (fun e d => ?_))))
      (x 1) (x 2)).trans (place (A := args m c) 3 0 (by omega) _ _ _ _ x1_lt x2_lt (by omega) (by omega))
    pointwise [k0_pay10]; rw [read_unread_whole]; exact hF 0 e d
  case piece4 =>
    rw [row_at x]
    refine (out_tile H 2 3 (by omega) (by omega) _ _ (state_tile H 1 3 (by omega) (by omega) _ _ (state_tile H 0 3 (by omega) (by omega) _ _ (fun e d => ?_)))
      (x 1) (x 2)).trans (place (A := args m c) 2 3 (by omega) _ _ _ _ x1_lt x2_lt (by omega) (by omega))
    pointwise [k0_pay13]; rw [read_unread_whole]; exact hF 3 e d
  case piece5 =>
    rw [row_at x]
    refine (out_tile H 2 2 (by omega) (by omega) _ _ (state_tile H 1 2 (by omega) (by omega) _ _ (state_tile H 0 2 (by omega) (by omega) _ _ (fun e d => ?_)))
      (x 1) (x 2)).trans (place (A := args m c) 2 2 (by omega) _ _ _ _ x1_lt x2_lt (by omega) (by omega))
    pointwise [k0_pay12]; rw [read_unread_whole]; exact hF 2 e d
  case piece6 =>
    rw [row_at x]
    refine (out_tile H 2 1 (by omega) (by omega) _ _ (state_tile H 1 1 (by omega) (by omega) _ _ (state_tile H 0 1 (by omega) (by omega) _ _ (fun e d => ?_)))
      (x 1) (x 2)).trans (place (A := args m c) 2 1 (by omega) _ _ _ _ x1_lt x2_lt (by omega) (by omega))
    pointwise [k0_pay11]; rw [read_unread_whole]; exact hF 1 e d
  case piece7 =>
    rw [row_at x]
    refine (out_tile H 2 0 (by omega) (by omega) _ _ (state_tile H 1 0 (by omega) (by omega) _ _ (state_tile H 0 0 (by omega) (by omega) _ _ (fun e d => ?_)))
      (x 1) (x 2)).trans (place (A := args m c) 2 0 (by omega) _ _ _ _ x1_lt x2_lt (by omega) (by omega))
    pointwise [k0_pay10]; rw [read_unread_whole]; exact hF 0 e d
  case piece8 =>
    rw [row_at x]
    refine (out_tile H 1 3 (by omega) (by omega) _ _ (state_tile H 0 3 (by omega) (by omega) _ _ (fun e d => ?_))
      (x 1) (x 2)).trans (place (A := args m c) 1 3 (by omega) _ _ _ _ x1_lt x2_lt (by omega) (by omega))
    pointwise [k0_pay13]; rw [read_unread_whole]; exact hF 3 e d
  case piece9 =>
    rw [row_at x]
    refine (out_tile H 1 2 (by omega) (by omega) _ _ (state_tile H 0 2 (by omega) (by omega) _ _ (fun e d => ?_))
      (x 1) (x 2)).trans (place (A := args m c) 1 2 (by omega) _ _ _ _ x1_lt x2_lt (by omega) (by omega))
    pointwise [k0_pay12]; rw [read_unread_whole]; exact hF 2 e d
  case piece10 =>
    rw [row_at x]
    refine (out_tile H 1 1 (by omega) (by omega) _ _ (state_tile H 0 1 (by omega) (by omega) _ _ (fun e d => ?_))
      (x 1) (x 2)).trans (place (A := args m c) 1 1 (by omega) _ _ _ _ x1_lt x2_lt (by omega) (by omega))
    pointwise [k0_pay11]; rw [read_unread_whole]; exact hF 1 e d
  case piece11 =>
    rw [row_at x]
    refine (out_tile H 1 0 (by omega) (by omega) _ _ (state_tile H 0 0 (by omega) (by omega) _ _ (fun e d => ?_))
      (x 1) (x 2)).trans (place (A := args m c) 1 0 (by omega) _ _ _ _ x1_lt x2_lt (by omega) (by omega))
    pointwise [k0_pay10]; rw [read_unread_whole]; exact hF 0 e d
  case piece12 =>
    rw [row_at x]
    refine (out_tile H 0 3 (by omega) (by omega) _ _ (fun e d => ?_)
      (x 1) (x 2)).trans (place (A := args m c) 0 3 (by omega) _ _ _ _ x1_lt x2_lt (by omega) (by omega))
    pointwise [k0_pay13]; rw [read_unread_whole]; exact hF 3 e d
  case piece13 =>
    rw [row_at x]
    refine (out_tile H 0 2 (by omega) (by omega) _ _ (fun e d => ?_)
      (x 1) (x 2)).trans (place (A := args m c) 0 2 (by omega) _ _ _ _ x1_lt x2_lt (by omega) (by omega))
    pointwise [k0_pay12]; rw [read_unread_whole]; exact hF 2 e d
  case piece14 =>
    rw [row_at x]
    refine (out_tile H 0 1 (by omega) (by omega) _ _ (fun e d => ?_)
      (x 1) (x 2)).trans (place (A := args m c) 0 1 (by omega) _ _ _ _ x1_lt x2_lt (by omega) (by omega))
    pointwise [k0_pay11]; rw [read_unread_whole]; exact hF 1 e d
  case piece15 =>
    rw [row_at x]
    refine (out_tile H 0 0 (by omega) (by omega) _ _ (fun e d => ?_)
      (x 1) (x 2)).trans (place (A := args m c) 0 0 (by omega) _ _ _ _ x1_lt x2_lt (by omega) (by omega))
    pointwise [k0_pay10]; rw [read_unread_whole]; exact hF 0 e d

/-- The block that the first point of a batch stores. -/
theorem stored_first (t : Fin cfg0.N) (h0 : t.val % 32 = 0) :
    Stored m c t.val t.isLt := by
  intro y
  conv_lhs => rw [outsAt0_A m c t h0]
  frame_out
  simp only [state_0_0, state_0_1, state_0_2, state_0_3, state_1_0, state_1_1, state_1_2, state_1_3, state_2_0, state_2_1,
    state_2_2, state_2_3, state_3_0, state_3_1, state_3_2, state_3_3, out_0_0, out_0_1, out_0_2, out_0_3, out_1_0, out_1_1, out_1_2, out_1_3,
    out_2_0, out_2_1, out_2_2, out_2_3, out_3_0, out_3_1, out_3_2, out_3_3]
  have H := reads m c t
  have hF := found_first m c t h0
  generalize k0_pay6 (k0_pay4 (64#32) k0_pay3 0#32)
      (k0_pay5 (k0_pay2 (iblk m c 4 t) (iblk m c 5 t) (iblk m c 6 t)) (64#32) k0_pay3 0#32) 32#32 = B at H ⊢
  canon_tiles x z
  case piece0 =>
    rw [row_at x]
    refine (out_tile H 3 3 (by omega) (by omega) _ _ (state_tile H 2 3 (by omega) (by omega) _ _ (state_tile H 1 3 (by omega) (by omega) _ _ (state_tile H 0 3 (by omega) (by omega) _ _ (fun e d => ?_))))
      (x 1) (x 2)).trans (place (A := args m c) 3 3 (by omega) _ _ _ _ x1_lt x2_lt (by omega) (by omega))
    refine Eq.trans ?_ (hF 3 _ _).symm; rw [zeros, View.readCov_fill _ _ _ _ _ (by decide)]; rfl
  case piece1 =>
    rw [row_at x]
    refine (out_tile H 3 2 (by omega) (by omega) _ _ (state_tile H 2 2 (by omega) (by omega) _ _ (state_tile H 1 2 (by omega) (by omega) _ _ (state_tile H 0 2 (by omega) (by omega) _ _ (fun e d => ?_))))
      (x 1) (x 2)).trans (place (A := args m c) 3 2 (by omega) _ _ _ _ x1_lt x2_lt (by omega) (by omega))
    refine Eq.trans ?_ (hF 2 _ _).symm; rw [zeros, View.readCov_fill _ _ _ _ _ (by decide)]; rfl
  case piece2 =>
    rw [row_at x]
    refine (out_tile H 3 1 (by omega) (by omega) _ _ (state_tile H 2 1 (by omega) (by omega) _ _ (state_tile H 1 1 (by omega) (by omega) _ _ (state_tile H 0 1 (by omega) (by omega) _ _ (fun e d => ?_))))
      (x 1) (x 2)).trans (place (A := args m c) 3 1 (by omega) _ _ _ _ x1_lt x2_lt (by omega) (by omega))
    refine Eq.trans ?_ (hF 1 _ _).symm; rw [zeros, View.readCov_fill _ _ _ _ _ (by decide)]; rfl
  case piece3 =>
    rw [row_at x]
    refine (out_tile H 3 0 (by omega) (by omega) _ _ (state_tile H 2 0 (by omega) (by omega) _ _ (state_tile H 1 0 (by omega) (by omega) _ _ (state_tile H 0 0 (by omega) (by omega) _ _ (fun e d => ?_))))
      (x 1) (x 2)).trans (place (A := args m c) 3 0 (by omega) _ _ _ _ x1_lt x2_lt (by omega) (by omega))
    refine Eq.trans ?_ (hF 0 _ _).symm; rw [zeros, View.readCov_fill _ _ _ _ _ (by decide)]; rfl
  case piece4 =>
    rw [row_at x]
    refine (out_tile H 2 3 (by omega) (by omega) _ _ (state_tile H 1 3 (by omega) (by omega) _ _ (state_tile H 0 3 (by omega) (by omega) _ _ (fun e d => ?_)))
      (x 1) (x 2)).trans (place (A := args m c) 2 3 (by omega) _ _ _ _ x1_lt x2_lt (by omega) (by omega))
    refine Eq.trans ?_ (hF 3 _ _).symm; rw [zeros, View.readCov_fill _ _ _ _ _ (by decide)]; rfl
  case piece5 =>
    rw [row_at x]
    refine (out_tile H 2 2 (by omega) (by omega) _ _ (state_tile H 1 2 (by omega) (by omega) _ _ (state_tile H 0 2 (by omega) (by omega) _ _ (fun e d => ?_)))
      (x 1) (x 2)).trans (place (A := args m c) 2 2 (by omega) _ _ _ _ x1_lt x2_lt (by omega) (by omega))
    refine Eq.trans ?_ (hF 2 _ _).symm; rw [zeros, View.readCov_fill _ _ _ _ _ (by decide)]; rfl
  case piece6 =>
    rw [row_at x]
    refine (out_tile H 2 1 (by omega) (by omega) _ _ (state_tile H 1 1 (by omega) (by omega) _ _ (state_tile H 0 1 (by omega) (by omega) _ _ (fun e d => ?_)))
      (x 1) (x 2)).trans (place (A := args m c) 2 1 (by omega) _ _ _ _ x1_lt x2_lt (by omega) (by omega))
    refine Eq.trans ?_ (hF 1 _ _).symm; rw [zeros, View.readCov_fill _ _ _ _ _ (by decide)]; rfl
  case piece7 =>
    rw [row_at x]
    refine (out_tile H 2 0 (by omega) (by omega) _ _ (state_tile H 1 0 (by omega) (by omega) _ _ (state_tile H 0 0 (by omega) (by omega) _ _ (fun e d => ?_)))
      (x 1) (x 2)).trans (place (A := args m c) 2 0 (by omega) _ _ _ _ x1_lt x2_lt (by omega) (by omega))
    refine Eq.trans ?_ (hF 0 _ _).symm; rw [zeros, View.readCov_fill _ _ _ _ _ (by decide)]; rfl
  case piece8 =>
    rw [row_at x]
    refine (out_tile H 1 3 (by omega) (by omega) _ _ (state_tile H 0 3 (by omega) (by omega) _ _ (fun e d => ?_))
      (x 1) (x 2)).trans (place (A := args m c) 1 3 (by omega) _ _ _ _ x1_lt x2_lt (by omega) (by omega))
    refine Eq.trans ?_ (hF 3 _ _).symm; rw [zeros, View.readCov_fill _ _ _ _ _ (by decide)]; rfl
  case piece9 =>
    rw [row_at x]
    refine (out_tile H 1 2 (by omega) (by omega) _ _ (state_tile H 0 2 (by omega) (by omega) _ _ (fun e d => ?_))
      (x 1) (x 2)).trans (place (A := args m c) 1 2 (by omega) _ _ _ _ x1_lt x2_lt (by omega) (by omega))
    refine Eq.trans ?_ (hF 2 _ _).symm; rw [zeros, View.readCov_fill _ _ _ _ _ (by decide)]; rfl
  case piece10 =>
    rw [row_at x]
    refine (out_tile H 1 1 (by omega) (by omega) _ _ (state_tile H 0 1 (by omega) (by omega) _ _ (fun e d => ?_))
      (x 1) (x 2)).trans (place (A := args m c) 1 1 (by omega) _ _ _ _ x1_lt x2_lt (by omega) (by omega))
    refine Eq.trans ?_ (hF 1 _ _).symm; rw [zeros, View.readCov_fill _ _ _ _ _ (by decide)]; rfl
  case piece11 =>
    rw [row_at x]
    refine (out_tile H 1 0 (by omega) (by omega) _ _ (state_tile H 0 0 (by omega) (by omega) _ _ (fun e d => ?_))
      (x 1) (x 2)).trans (place (A := args m c) 1 0 (by omega) _ _ _ _ x1_lt x2_lt (by omega) (by omega))
    refine Eq.trans ?_ (hF 0 _ _).symm; rw [zeros, View.readCov_fill _ _ _ _ _ (by decide)]; rfl
  case piece12 =>
    rw [row_at x]
    refine (out_tile H 0 3 (by omega) (by omega) _ _ (fun e d => ?_)
      (x 1) (x 2)).trans (place (A := args m c) 0 3 (by omega) _ _ _ _ x1_lt x2_lt (by omega) (by omega))
    refine Eq.trans ?_ (hF 3 _ _).symm; rw [zeros, View.readCov_fill _ _ _ _ _ (by decide)]; rfl
  case piece13 =>
    rw [row_at x]
    refine (out_tile H 0 2 (by omega) (by omega) _ _ (fun e d => ?_)
      (x 1) (x 2)).trans (place (A := args m c) 0 2 (by omega) _ _ _ _ x1_lt x2_lt (by omega) (by omega))
    refine Eq.trans ?_ (hF 2 _ _).symm; rw [zeros, View.readCov_fill _ _ _ _ _ (by decide)]; rfl
  case piece14 =>
    rw [row_at x]
    refine (out_tile H 0 1 (by omega) (by omega) _ _ (fun e d => ?_)
      (x 1) (x 2)).trans (place (A := args m c) 0 1 (by omega) _ _ _ _ x1_lt x2_lt (by omega) (by omega))
    refine Eq.trans ?_ (hF 1 _ _).symm; rw [zeros, View.readCov_fill _ _ _ _ _ (by decide)]; rfl
  case piece15 =>
    rw [row_at x]
    refine (out_tile H 0 0 (by omega) (by omega) _ _ (fun e d => ?_)
      (x 1) (x 2)).trans (place (A := args m c) 0 0 (by omega) _ _ _ _ x1_lt x2_lt (by omega) (by omega))
    refine Eq.trans ?_ (hF 0 _ _).symm; rw [zeros, View.readCov_fill _ _ _ _ _ (by decide)]; rfl

theorem stored (t : Fin cfg0.N) : Stored m c t.val t.isLt := by
  by_cases h0 : t.val % 32 = 0
  · exact stored_first m c t h0
  · exact stored_later m c t h0

/-- The kernel's result. -/
theorem value (i : Fin 4) (s : Fin 8192) (x : Fin 512) : (G8 m c : Vec Ideal S4x8192x512 .bf16) (ix3 i s x) =
    (args m c).out i.val (x.val / 128) (s.val / 64) (s.val % 64) (x.val % 128) := by
  have hN : cfg0.N = 128 := N_0
  have hp : pt8Of (ix3 i s x) = 32 * i.val + s.val / 256 := by
    change 32 * (i.val / 1 - 0) + 1 * (s.val / 256 - 0) + 1 * (x.val / 512 - 0) = _
    omega
  have hlt : pt8Of (ix3 i s x) < cfg0.N := by omega
  unfold G8
  rw [dif_pos hlt]
  have e := outsAt0_sweep m c (pt8Of (ix3 i s x)) hlt
  have h := stored m c ⟨pt8Of (ix3 i s x), hlt⟩ (loc8Of (ix3 i s x))
  rw [e] at h
  refine h.trans ?_
  change (args m c).out (pt8Of (ix3 i s x) / 32) ((x.val % 512) / 128) (4 * (pt8Of (ix3 i s x) % 32) + (s.val % 256) / 64)
    ((s.val % 256) % 64) ((x.val % 512) % 128) = _
  rw [hp]
  have e1 : (32 * i.val + s.val / 256) / 32 = i.val := by omega
  have e2 : (x.val % 512) / 128 = x.val / 128 := by omega
  have e3 : 4 * ((32 * i.val + s.val / 256) % 32) + (s.val % 256) / 64 = s.val / 64 := by omega
  have e4 : (s.val % 256) % 64 = s.val % 64 := by omega
  have e5 : (x.val % 512) % 128 = x.val % 128 := by omega
  rw [e1, e2, e3, e4, e5]

end Cert.KernelIdeal.Gla
-- ==== Proof.GlaTie.lean ====
module

public import proofs.«01_k».proof.Proof.GlaRefLoop
public import proofs.«01_k».proof.Proof.GlaKernel

/-! The kernel and the reference side by side: on equal arguments their results are equal. -/

@[expose] public section

noncomputable section

namespace Cert.Gla

open Idealize.ShloMosaic Idealize.ShloMosaic.TcCoe Idealize.SL.Sem
open Cert.ReferenceIdeal.Gla (stateAt st ofArrays out_at)

/-- The loop's states, of the arguments' arrays. -/
theorem stateAt_eq (m : (ℓ : Loc ReferenceIdeal.nD ReferenceIdeal.τ ReferenceIdeal.sig) → Buf (Elt Ideal) ℓ)
    (c : Dev ReferenceIdeal.nD) (n : ℕ) : stateAt m c n =
      st (m ((c.tc : Thread _ _).loc ReferenceIdeal.main_arg0)) (m ((c.tc : Thread _ _).loc ReferenceIdeal.main_arg1))
        (m ((c.tc : Thread _ _).loc ReferenceIdeal.main_arg2)) (m ((c.tc : Thread _ _).loc ReferenceIdeal.main_arg4))
        (m ((c.tc : Thread _ _).loc ReferenceIdeal.main_arg5)) (m ((c.tc : Thread _ _).loc ReferenceIdeal.main_arg6)) n := by
  induction n with
  | zero => rfl
  | succ n ih => exact congrArg (ReferenceIdeal.Step.step n) ih

/-- On memories that agree on the arguments, the reference's result is the kernel's. -/
theorem tie (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h : m' (c.tc.loc ReferenceIdeal.main_arg0) = m (c.tc.loc KernelIdeal.main_arg0) ∧
      m' (c.tc.loc ReferenceIdeal.main_arg1) = m (c.tc.loc KernelIdeal.main_arg1) ∧
      m' (c.tc.loc ReferenceIdeal.main_arg2) = m (c.tc.loc KernelIdeal.main_arg2) ∧
      m' (c.tc.loc ReferenceIdeal.main_arg3) = m (c.tc.loc KernelIdeal.main_arg3) ∧
      m' (c.tc.loc ReferenceIdeal.main_arg4) = m (c.tc.loc KernelIdeal.main_arg4) ∧
      m' (c.tc.loc ReferenceIdeal.main_arg5) = m (c.tc.loc KernelIdeal.main_arg5) ∧
      m' (c.tc.loc ReferenceIdeal.main_arg6) = m (c.tc.loc KernelIdeal.main_arg6) ∧
      m' (c.tc.loc ReferenceIdeal.main_arg7) = m (c.tc.loc KernelIdeal.main_arg7)) :
    ReferenceIdeal.Value.out_main_v69
      (ReferenceIdeal.Value.STEP^[128] (StableHlo.entryContents ReferenceIdeal.Value.preI m' c)) =
    KernelIdeal.Value.G8 m c := by
  obtain ⟨h0, h1, h2, h3, h4, h5, h6, h7⟩ := h
  rw [ReferenceIdeal.Gla.result m' c, stateAt_eq]
  rw [h0, h1, h2, h3, h4, h5, h6, h7]
  generalize hN : (128 : ℕ) = N
  funext i
  rw [eq_ix3 (n0 := 4) (n1 := 8192) (n2 := 512) i]
  exact (out_at _ _ _ _ _ _ _ _ _ _ _ N hN.symm).trans (KernelIdeal.Gla.value m c _ _ _).symm

end Cert.Gla
-- ==== Proof.InprojSpec.lean ====
module

public import proofs.«01_k».proof.Proof.GlaSpec

/-! The layer's input projection as plain formulas over the extended reals, read at natural-number coordinates: both programs are
shown to compute them. A row of the projection holds, by column: the convolution's gate, its two factors, the queries, keys and values
of the block attention, and the queries, keys, values, output gate and decay of the linear attention. -/

@[expose] public section

noncomputable section

namespace Inproj

open Idealize.ShloMosaic

/-- The projection's arguments, read at natural-number coordinates. -/
structure Args where
  x : ℕ → ℕ → ℕ → EReal
  norm : ℕ → EReal
  w : ℕ → ℕ → EReal
  cw : ℕ → ℕ → EReal
  cb : ℕ → EReal
  qn : ℕ → EReal
  kn : ℕ → EReal

variable (A : Args)

/-- The normed input. -/
def Args.h (b s k : ℕ) : EReal :=
  A.x b s k *
      Ideal.rsqrt (Ideal.div (∑ i : Fin 1024, A.x b s i.val * A.x b s i.val) (Ideal.ofBits .f32 0x44800000#32) +
        Ideal.ofBits .f32 0x358637BD#32) *
    A.norm k

/-- The projection. -/
def Args.p (b s c : ℕ) : EReal := ∑ k : Fin 1024, A.h b s k.val * A.w k.val c

/-- The convolution's input. -/
def Args.u (b s x : ℕ) : EReal := A.p b s (512 + x) * A.p b s (1024 + x)

/-- The convolution's input `n` positions back, 0 before the start. -/
def Args.back (n b s x : ℕ) : EReal := if n ≤ s then A.u b (s - n) x else 0

/-- The gated convolution. -/
def Args.conv (b s x : ℕ) : EReal :=
  A.p b s x * (A.cb x + A.cw 0 x * A.back 2 b s x + A.cw 1 x * A.back 1 b s x + A.cw 2 x * A.u b s x)

/-- The sum of a head's squares, of the head holding column `x` (the heads' columns start at `o`). -/
def Args.squares (o b s x : ℕ) : EReal :=
  ∑ d : Fin 64, A.p b s (o + (64 * (x / 64) + d.val)) * A.p b s (o + (64 * (x / 64) + d.val))

/-- A head's norm with the weight `g`. -/
def Args.head (o : ℕ) (g : ℕ → EReal) (b s x : ℕ) : EReal :=
  A.p b s (o + x) *
      Ideal.rsqrt (Ideal.div (A.squares o b s x) (Ideal.ofBits .f32 0x42800000#32) + Ideal.ofBits .f32 0x358637BD#32) *
    g (x % 64)

/-- The attention's queries. -/
def Args.query (b s x : ℕ) : EReal := A.head 1536 A.qn b s x * Ideal.ofBits .f32 0x3E000000#32

/-- The attention's keys. -/
def Args.key (b s x : ℕ) : EReal := A.head 2048 A.kn b s x

/-- The mean key of a block of 256 positions. -/
def Args.mean (b n x : ℕ) : EReal :=
  Ideal.div (∑ r : Fin 256, A.key b (256 * n + r.val) x) (Ideal.ofBits .f32 0x43800000#32)

/-! The constants the two programs divide and multiply by. -/

theorem val_64 : Ideal.ofBits .f32 0x42800000#32 = ((64 : ℝ) : EReal) := by
  simp [Ideal.ofBits, Ideal.ieee, -EReal.coe_mul]; norm_num

theorem val_inv64 : Ideal.ofBits .f32 0x3C800000#32 = ((1 / 64 : ℝ) : EReal) := by
  simp [Ideal.ofBits, Ideal.ieee, -EReal.coe_mul]; norm_num

theorem val_1024 : Ideal.ofBits .f32 0x44800000#32 = ((1024 : ℝ) : EReal) := by
  simp [Ideal.ofBits, Ideal.ieee, -EReal.coe_mul]; norm_num

theorem val_eps : ∃ e : ℝ, 0 < e ∧ Ideal.ofBits .f32 0x358637BD#32 = (e : EReal) := by
  refine ⟨_, ?_, by simp [Ideal.ofBits, Ideal.ieee, -EReal.coe_mul]; rfl⟩
  positivity

/-- Dividing by 64 is multiplying by 1 / 64. -/
theorem div_64 (x : EReal) : Ideal.div x (Ideal.ofBits .f32 0x42800000#32) = x * Ideal.ofBits .f32 0x3C800000#32 := by
  rw [val_64, val_inv64, Ideal.div_coe (by norm_num)]

/-! On finite arguments the projection is finite. -/

/-- The arguments the projection reads are finite. -/
structure Args.Finite : Prop where
  x : ∀ b s k, ∃ v : ℝ, A.x b s k = v
  norm : ∀ k, ∃ v : ℝ, A.norm k = v
  w : ∀ k c, ∃ v : ℝ, A.w k c = v

theorem sum_real {ι : Type} (S : Finset ι) (f : ι → ℝ) : (∑ i ∈ S, (f i : EReal)) = ((∑ i ∈ S, f i : ℝ) : EReal) := by
  classical
  induction S using Finset.induction_on with
  | empty => rfl
  | insert a S h ih => rw [Finset.sum_insert h, Finset.sum_insert h, ih, EReal.coe_add]

variable {A}

theorem Args.Finite.h (H : A.Finite) (b s k : ℕ) : ∃ v : ℝ, A.h b s k = v := by
  choose x hx using H.x
  choose n hn using H.norm
  obtain ⟨e, he, hE⟩ := val_eps
  unfold Args.h
  simp only [hx, hn, hE, val_1024, ← EReal.coe_mul, sum_real]
  rw [Ideal.div_coe (by norm_num), ← EReal.coe_mul, ← EReal.coe_add]
  have hpos : 0 < (∑ i : Fin 1024, x b s i.val * x b s i.val) * (1 / 1024) + e := by
    have : 0 ≤ ∑ i : Fin 1024, x b s i.val * x b s i.val := Finset.sum_nonneg fun i _ => mul_self_nonneg _
    positivity
  generalize (∑ i : Fin 1024, x b s i.val * x b s i.val) * (1 / 1024) + e = y at hpos
  refine ⟨x b s k * (Real.sqrt y)⁻¹ * n k, ?_⟩
  have hr : Ideal.rsqrt (y : EReal) = ((Real.sqrt y)⁻¹ : ℝ) := by
    change (if y < 0 then ⊥ else if y = 0 then ⊤ else (((Real.sqrt y)⁻¹ : ℝ) : EReal)) = _
    rw [if_neg (by linarith), if_neg (by linarith)]
  rw [hr, ← EReal.coe_mul, ← EReal.coe_mul]

theorem Args.Finite.p (H : A.Finite) (b s c : ℕ) : ∃ v : ℝ, A.p b s c = v := by
  choose h hh using H.h
  choose w hw using H.w
  unfold Args.p
  simp only [hh, hw, ← EReal.coe_mul, sum_real]
  exact ⟨_, rfl⟩

end Inproj
-- ==== Proof.InprojRefVal.lean ====
module

public import proofs.«01_k».proof.Proof.Gen.InprojRefIdeal
public import proofs.«01_k».proof.Proof.InprojSpec

/-! What the reference's operations compute, in the formulas of `Inproj.Args`. -/

@[expose] public section

set_option maxRecDepth 16384

noncomputable section

namespace Cert.InprojRefIdeal.Inproj

open Cert.InprojRefIdeal Cert.InprojRefIdeal.Gen Idealize.ShloMosaic Idealize.ShloMosaic.TcCoe Idealize.SL.Sem
open _root_.Inproj (Args)
open _root_.Gla (at1 at2 at3 at1_of at2_of at3_of at3_eq at1_eq)

variable (a0 : FVec Ideal S4x8192x1024 .f32) (a1 : FVec Ideal S1024 .f32) (a2 : FVec Ideal S1024x4624 .f32)
  (a3 : FVec Ideal S3x512 .f32) (a4 : FVec Ideal S512 .f32) (a5 a6 : FVec Ideal S64 .f32)

/-- The projection's arguments, of the arrays. -/
def ofArrays : Args where
  x := at3 (a := 4) (b := 8192) (c := 1024) a0
  norm := at1 (a := 1024) a1
  w := at2 (a := 1024) (b := 4624) a2
  cw := at2 (a := 3) (b := 512) a3
  cb := at1 (a := 512) a4
  qn := at1 (a := 64) a5
  kn := at1 (a := 64) a6

/-! The reference's results, as operations on the arrays and on the projection `P`. -/

/-- The projection. -/
def proj : FVec Ideal S4x8192x4624 .f32 :=
  Host.dotGeneral dot_S4x8192x1024_S1024x4624_S4x8192x4624_2_0_01_1_n_n none
    (mulf (mulf a0 (broadcastInDim S4x8192x1024 ![0, 1, 2] bcast_S4x8192x1_S4x8192x1024_0_1_2
      (Host.rsqrt (addf (Host.divf (broadcastInDim S4x8192x1 ![0, 1] bcast_S4x8192_S4x8192x1_0_1
        (Host.reduceAdd (mulf a0 a0) (constant S_ .f32 0x00000000#32) reducesTo_S4x8192x1024_S4x8192_d2 h_S_))
        (broadcastInDim S4x8192x1 ![] bcast_S_S4x8192x1 (constant S_ .f32 0x44800000#32)))
        (broadcastInDim S4x8192x1 ![] bcast_S_S4x8192x1 (constant S_ .f32 0x358637BD#32))))))
      (broadcastInDim S4x8192x1024 ![0, 1, 2] bcast_S1x1x1024_S4x8192x1024_0_1_2
        (broadcastInDim S1x1x1024 ![2] bcast_S1024_S1x1x1024_2 a1))) a2

variable (P : FVec Ideal S4x8192x4624 .f32)

/-- The convolution's input after two rows of zeros. -/
def padded : FVec Ideal S4x8194x512 .f32 :=
  pad S4x8194x512 ![0, 2, 0] ![0, 0, 0] ![0, 0, 0]
    (mulf (extractStridedSlice S4x8192x512 ![0, 0, 512] P slices_S4x8192x4624_S4x8192x512_0_0_512)
      (extractStridedSlice S4x8192x512 ![0, 0, 1024] P slices_S4x8192x4624_S4x8192x512_0_0_1024))
    (sitofp .f32 (constantI S_ 32 0#32)) pads_S4x8192x512_S4x8194x512_000_200_000 h_S_

/-- The gated convolution. -/
def convolved : FVec Ideal S4x8192x512 .bf16 :=
  truncf .bf16 (mulf (extractStridedSlice S4x8192x512 ![0, 0, 0] P slices_S4x8192x4624_S4x8192x512_0_0_0)
    (addf (addf (addf
      (broadcastInDim S4x8192x512 ![0, 1, 2] bcast_S1x1x512_S4x8192x512_0_1_2 (broadcastInDim S1x1x512 ![2] bcast_S512_S1x1x512_2 a4))
      (mulf (broadcastInDim S4x8192x512 ![0, 1, 2] bcast_S1x1x512_S4x8192x512_0_1_2 (broadcastInDim S1x1x512 ![2] bcast_S512_S1x1x512_2
        (shapeCast _ (extractStridedSlice S1x512 ![0, 0] a3 slices_S3x512_S1x512_0_0) shapeCasts_S1x512_S512)))
        (extractStridedSlice S4x8192x512 ![0, 0, 0] (padded P) slices_S4x8194x512_S4x8192x512_0_0_0)))
      (mulf (broadcastInDim S4x8192x512 ![0, 1, 2] bcast_S1x1x512_S4x8192x512_0_1_2 (broadcastInDim S1x1x512 ![2] bcast_S512_S1x1x512_2
        (shapeCast _ (extractStridedSlice S1x512 ![1, 0] a3 slices_S3x512_S1x512_1_0) shapeCasts_S1x512_S512)))
        (extractStridedSlice S4x8192x512 ![0, 1, 0] (padded P) slices_S4x8194x512_S4x8192x512_0_1_0)))
      (mulf (broadcastInDim S4x8192x512 ![0, 1, 2] bcast_S1x1x512_S4x8192x512_0_1_2 (broadcastInDim S1x1x512 ![2] bcast_S512_S1x1x512_2
        (shapeCast _ (extractStridedSlice S1x512 ![2, 0] a3 slices_S3x512_S1x512_2_0) shapeCasts_S1x512_S512)))
        (extractStridedSlice S4x8192x512 ![0, 2, 0] (padded P) slices_S4x8194x512_S4x8192x512_0_2_0)))) bitsLt_bf16_f32

/-- The norm of the heads `T` with the weight `g`. -/
def normed (T : FVec Ideal S4x8192x8x64 .f32) (g : FVec Ideal S64 .f32) : FVec Ideal S4x8192x8x64 .f32 :=
  mulf (mulf T (broadcastInDim S4x8192x8x64 ![0, 1, 2, 3] bcast_S4x8192x8x1_S4x8192x8x64_0_1_2_3 (Host.rsqrt (addf
    (Host.divf (broadcastInDim S4x8192x8x1 ![0, 1, 2] bcast_S4x8192x8_S4x8192x8x1_0_1_2
      (Host.reduceAdd (mulf T T) (constant S_ .f32 0x00000000#32) reducesTo_S4x8192x8x64_S4x8192x8_d3 h_S_))
      (broadcastInDim S4x8192x8x1 ![] bcast_S_S4x8192x8x1 (constant S_ .f32 0x42800000#32)))
    (broadcastInDim S4x8192x8x1 ![] bcast_S_S4x8192x8x1 (constant S_ .f32 0x358637BD#32))))))
    (broadcastInDim S4x8192x8x64 ![0, 1, 2, 3] bcast_S1x1x1x64_S4x8192x8x64_0_1_2_3 (broadcastInDim S1x1x1x64 ![3] bcast_S64_S1x1x1x64_3 g))

/-- The queries by head. -/
def queryHeads : FVec Ideal S4x8192x8x64 .f32 :=
  normed (shapeCast _ (extractStridedSlice S4x8192x512 ![0, 0, 1536] P slices_S4x8192x4624_S4x8192x512_0_0_1536) shapeCasts_S4x8192x512_S4x8192x8x64) a5

/-- The keys by head. -/
def keyHeads : FVec Ideal S4x8192x8x64 .f32 :=
  normed (shapeCast _ (extractStridedSlice S4x8192x512 ![0, 0, 2048] P slices_S4x8192x4624_S4x8192x512_0_0_2048) shapeCasts_S4x8192x512_S4x8192x8x64) a6

def queries : FVec Ideal S4x8192x512 .bf16 :=
  truncf .bf16 (shapeCast _ (mulf (queryHeads a5 P) (broadcastInDim S4x8192x8x64 ![] bcast_S_S4x8192x8x64 (constant S_ .f32 0x3E000000#32)))
    shapeCasts_S4x8192x8x64_S4x8192x512) bitsLt_bf16_f32

def keys : FVec Ideal S4x8192x512 .bf16 :=
  truncf .bf16 (shapeCast _ (keyHeads a6 P) shapeCasts_S4x8192x8x64_S4x8192x512) bitsLt_bf16_f32

def values : FVec Ideal S4x512x8192 .bf16 :=
  truncf .bf16 (transpose S4x512x8192 [0, 2, 1]
    (extractStridedSlice S4x8192x512 ![0, 0, 2560] P slices_S4x8192x4624_S4x8192x512_0_0_2560) transposes_S4x8192x512_S4x512x8192_0_2_1) bitsLt_bf16_f32

def means : FVec Ideal S4x32x1x512 .f32 :=
  shapeCast _ (Host.divf (Host.reduceAdd (shapeCast _ (keyHeads a6 P) shapeCasts_S4x8192x8x64_S4x32x256x8x64) (constant S_ .f32 0x00000000#32)
    reducesTo_S4x32x256x8x64_S4x32x8x64_d2 h_S_) (broadcastInDim S4x32x8x64 ![] bcast_S_S4x32x8x64 (constant S_ .f32 0x43800000#32)))
    shapeCasts_S4x32x8x64_S4x32x1x512

def decays : FVec Ideal S4x8192x128 .f32 :=
  pad S4x8192x128 ![0, 0, 0] ![0, 0, 112] ![0, 0, 0] (extractStridedSlice S4x8192x16 ![0, 0, 4608] P slices_S4x8192x4624_S4x8192x16_0_0_4608)
    (sitofp .f32 (constantI S_ 32 0#32)) pads_S4x8192x16_S4x8192x128_000_000_01120 h_S_

/-! Their values. -/

theorem zero_word : (FloatOps.sitofp (F := Ideal) FTy.f32 (0#32) : EReal) = 0 := by
  change (((0#32 : BitVec 32).toInt : ℝ) : EReal) = 0
  simp

/-- The projection at an index. -/
theorem proj_at (b : Fin 4) (s : Fin 8192) (x : Fin 4624) :
    proj a0 a1 a2 (ix3 b s x) = (ofArrays a0 a1 a2 a3 a4 a5 a6).p b.val s.val x.val := by
  pointwise [proj]
  unfold Args.p
  refine Finset.sum_congr rfl fun k _ => congrArg₂ (· * ·) ?_ (at2_of (a := 1024) (b := 4624) a2 k x).symm
  unfold Args.h ofArrays
  dsimp only
  rw [at3_of (a := 4) (b := 8192) (c := 1024) a0 b s k, at1_of (a := 1024) a1 k]
  simp only [at3_of (a := 4) (b := 8192) (c := 1024) a0 b s]

variable (A : Args) (hP : ∀ (b : Fin 4) (s : Fin 8192) (x : Fin 4624), P (ix3 b s x) = A.p b.val s.val x.val)
include hP

theorem values_at (b : Fin 4) (x : Fin 512) (s : Fin 8192) : values P (ix3 b x s) = A.p b.val s.val (2560 + x.val) := by
  pointwise [values, hP]

theorem slice256_at (o : ℕ) (hs : S4x8192x4624.Slices ![0, 0, o] S4x8192x256) (b : Fin 4) (s : Fin 8192) (x : Fin 256) (hx : o + x.val < 4624) :
    extractStridedSlice S4x8192x256 ![0, 0, o] P hs (ix3 b s x) = A.p b.val s.val (o + x.val) := by
  refine Eq.trans (congrArg P ?_) (hP b s ⟨o + x.val, hx⟩)
  funext a
  apply Fin.ext
  fin_cases a
  · exact Nat.zero_add _
  · exact Nat.zero_add _
  · rfl

theorem slice512_at (o : ℕ) (hs : S4x8192x4624.Slices ![0, 0, o] S4x8192x512) (b : Fin 4) (s : Fin 8192) (x : Fin 512) (hx : o + x.val < 4624) :
    extractStridedSlice S4x8192x512 ![0, 0, o] P hs (ix3 b s x) = A.p b.val s.val (o + x.val) := by
  refine Eq.trans (congrArg P ?_) (hP b s ⟨o + x.val, hx⟩)
  funext a
  apply Fin.ext
  fin_cases a
  · exact Nat.zero_add _
  · exact Nat.zero_add _
  · rfl

/-- The norm of a head. -/
theorem normed_at (o : ℕ) (hs : S4x8192x4624.Slices ![0, 0, o] S4x8192x512) (ho : o + 512 ≤ 4624) (g : FVec Ideal S64 .f32)
    (b : Fin 4) (s : Fin 8192) (h : Fin 8) (d : Fin 64) :
    normed (shapeCast _ (extractStridedSlice S4x8192x512 ![0, 0, o] P hs) shapeCasts_S4x8192x512_S4x8192x8x64) g (ix4 b s h d) =
      A.head o (at1 (a := 64) g) b.val s.val (64 * h.val + d.val) := by
  have hT : ∀ d : Fin 64, (shapeCast S4x8192x8x64 (extractStridedSlice S4x8192x512 ![0, 0, o] P hs) shapeCasts_S4x8192x512_S4x8192x8x64 : FVec Ideal S4x8192x8x64 .f32)
      (ix4 b s h d) = A.p b.val s.val (o + (64 * h.val + d.val)) := by
    intro d
    have hh := fun x : Fin 512 => slice512_at P A hP o hs b s x (by omega)
    generalize extractStridedSlice S4x8192x512 ![0, 0, o] P hs = E at hh ⊢
    pointwise [hh]
    exact congrArg (fun n => A.p b.val s.val (o + n)) (show h.val * 64 + d.val = 64 * h.val + d.val by omega)
  generalize shapeCast S4x8192x8x64 (extractStridedSlice S4x8192x512 ![0, 0, o] P hs) shapeCasts_S4x8192x512_S4x8192x8x64 = T at hT ⊢
  pointwise [normed, hT]
  unfold Args.head Args.squares
  rw [show (64 * h.val + d.val) / 64 = h.val by omega, show (64 * h.val + d.val) % 64 = d.val by omega, at1_of (a := 64) g d]

theorem key_heads_at (b : Fin 4) (s : Fin 8192) (h : Fin 8) (d : Fin 64) :
    keyHeads a6 P (ix4 b s h d) = A.head 2048 (at1 (a := 64) a6) b.val s.val (64 * h.val + d.val) :=
  normed_at P A hP 2048 _ (by omega) a6 b s h d

theorem query_heads_at (b : Fin 4) (s : Fin 8192) (h : Fin 8) (d : Fin 64) :
    queryHeads a5 P (ix4 b s h d) = A.head 1536 (at1 (a := 64) a5) b.val s.val (64 * h.val + d.val) :=
  normed_at P A hP 1536 _ (by omega) a5 b s h d

theorem keys_at (b : Fin 4) (s : Fin 8192) (x : Fin 512) :
    keys a6 P (ix3 b s x) = A.head 2048 (at1 (a := 64) a6) b.val s.val x.val := by
  have hk := key_heads_at a6 P A hP b s
  pointwise [keys, hk]
  exact congrArg (A.head 2048 (at1 (a := 64) a6) b.val s.val) (show 64 * (x.val / 64) + x.val % 64 = x.val by omega)

theorem queries_at (b : Fin 4) (s : Fin 8192) (x : Fin 512) :
    queries a5 P (ix3 b s x) = A.head 1536 (at1 (a := 64) a5) b.val s.val x.val * Ideal.ofBits .f32 0x3E000000#32 := by
  have hk := query_heads_at a5 P A hP b s
  pointwise [queries, hk]
  exact congrArg (fun n => A.head 1536 (at1 (a := 64) a5) b.val s.val n * _) (show 64 * (x.val / 64) + x.val % 64 = x.val by omega)

theorem means_at (b : Fin 4) (n : Fin 32) (x : Fin 512) :
    means a6 P (ix4 b n 0 x) =
      Ideal.div (∑ r : Fin 256, A.head 2048 (at1 (a := 64) a6) b.val (256 * n.val + r.val) x.val) (Ideal.ofBits .f32 0x43800000#32) := by
  have hk := key_heads_at a6 P A hP b
  pointwise [means, hk]
  refine congrArg (Ideal.div · _) (Finset.sum_congr rfl fun r _ => ?_)
  rw [show n.val * 256 + r.val = 256 * n.val + r.val by omega, show 64 * (x.val / 64) + x.val % 64 = x.val by omega]

theorem padded_at (b : Fin 4) (s : ℕ) (hs : s < 8194) (x : Fin 512) :
    padded P (ix3 b ⟨s, hs⟩ x) = if 2 ≤ s then A.u b.val (s - 2) x.val else 0 := by
  pointwise [padded, hP]
  by_cases h : 2 ≤ s
  · rw [dif_pos ⟨h, by omega⟩, if_pos h]
    rfl
  · rw [dif_neg (fun h' => h h'.1), if_neg h]
    exact zero_word

theorem decays_at (b : Fin 4) (s : Fin 8192) (x : Fin 128) :
    decays P (ix3 b s x) = if x.val < 16 then A.p b.val s.val (4608 + x.val) else 0 := by
  pointwise [decays, hP]
  by_cases h : x.val < 16
  · rw [dif_pos h, if_pos h]
  · rw [dif_neg h, if_neg h]
    exact zero_word

theorem convolved_at (hb : A.cb = at1 (a := 512) a4) (hw : A.cw = at2 (a := 3) (b := 512) a3) (b : Fin 4) (s : Fin 8192) (x : Fin 512) :
    convolved a3 a4 P (ix3 b s x) = A.conv b.val s.val x.val := by
  have hk := padded_at P A hP b
  pointwise [convolved, hk, hP]
  unfold Args.conv Args.back
  rw [hb, hw, at1_of (a := 512) a4 x]
  have e0 : at2 (a := 3) (b := 512) a3 0 x.val = a3 (ix2 0 x) := at2_of (a := 3) (b := 512) a3 0 x
  have e1 : at2 (a := 3) (b := 512) a3 1 x.val = a3 (ix2 1 x) := at2_of (a := 3) (b := 512) a3 1 x
  have e2 : at2 (a := 3) (b := 512) a3 2 x.val = a3 (ix2 2 x) := at2_of (a := 3) (b := 512) a3 2 x
  rw [e0, e1, e2]
  have e3 : (2 ≤ 1 + s.val) = (1 ≤ s.val) := propext (by omega)
  have e4 : 1 + s.val - 2 = s.val - 1 := by omega
  rw [e4]
  simp only [e3]

end Cert.InprojRefIdeal.Inproj
-- ==== Proof.InprojTiles.lean ====
module

public import proofs.«01_k».proof.Proof.Gen.InprojIdeal.Skeleton
public import proofs.«01_k».proof.Proof.InprojSpec
public import Idealize.ShloMosaic.Lib.WordCmp

/-! What the kernel's operations compute from a tile of 512 positions, in the formulas of `Inproj.Args`. -/

@[expose] public section

set_option maxRecDepth 16384

noncomputable section

namespace Cert.InprojIdeal.Inproj

open Cert.InprojIdeal Cert.InprojIdeal.Gen Idealize.ShloMosaic Idealize.ShloMosaic.TcCoe Idealize.SL.Sem
open _root_.Inproj (Args)

variable (A : Args) (b s : ℕ)

/-- The normed input of a tile. -/
theorem h_at (X : Vec Ideal S1x512x1024 .f32) (N : Vec Ideal S1x1024 .f32)
    (hX : ∀ (r : Fin 512) (k : Fin 1024), X (ix3 0 r k) = A.x b (s + r.val) k.val)
    (hN : ∀ k : Fin 1024, N (ix2 0 k) = A.norm k.val) (r : Fin 512) (k : Fin 1024) :
    k0_pay6 (F := Ideal) X N (ix2 r k) = A.h b (s + r.val) k.val := by
  pointwise [k0_pay6, hX, hN]
  rfl

variable (H : FVec Ideal S512x1024 .bf16) (hH : ∀ (r : Fin 512) (k : Fin 1024), H (ix2 r k) = A.h b (s + r.val) k.val)
include hH

/-- A projection of a tile on 1536 columns. -/
theorem proj_at (o : ℕ) (W : Vec Ideal S1024x1536 .bf16) (hW : ∀ (k : Fin 1024) (x : Fin 1536), W (ix2 k x) = A.w k.val (o + x.val))
    (r : Fin 512) (x : Fin 1536) : k0_pay16 (F := Ideal) H W (ix2 r x) = A.p b (s + r.val) (o + x.val) := by
  pointwise [k0_pay16, hH, hW]
  rfl

/-- The last projection, on 128 columns. -/
theorem last_at (o : ℕ) (W : Vec Ideal S1024x128 .bf16) (hW : ∀ (k : Fin 1024) (x : Fin 128), W (ix2 k x) = A.w k.val (o + x.val))
    (r : Fin 512) (x : Fin 128) : k0_pay5 (F := Ideal) H W (ix3 0 r x) = A.p b (s + r.val) (o + x.val) := by
  pointwise [k0_pay5, hH, hW]
  rfl

omit hH

section conv

variable (X : Vec Ideal S1x512x1024 .f32) (N : Vec Ideal S1x1024 .f32) (W : Vec Ideal S1024x1536 .bf16)
  (hP : ∀ (r : Fin 512) (x : Fin 1536), k0_pay7 (F := Ideal) X N W (ix2 r x) = A.p b (s + r.val) x.val)
include hP

theorem gate_at (r x : Fin 512) : k0_pay8 (F := Ideal) X N W (ix2 r x) = A.p b (s + r.val) x.val := by
  unfold k0_pay8
  generalize k0_pay7 X N W = P at hP
  pointwise [hP]

theorem u_at (r x : Fin 512) : k0_pay9 (F := Ideal) X N W (ix2 r x) = A.u b (s + r.val) x.val := by
  unfold k0_pay9
  generalize k0_pay7 X N W = P at hP
  pointwise [hP]
  rfl

end conv

/-- The convolution of a tile, from the last rows of the tile before it. -/
theorem conv_at (X : Vec Ideal S1x512x1024 .f32) (N : Vec Ideal S1x1024 .f32) (W : Vec Ideal S1024x1536 .bf16)
    (hP : ∀ (r : Fin 512) (x : Fin 1536), k0_pay7 (F := Ideal) X N W (ix2 r x) = A.p b (s + r.val) x.val) (C : Vec Ideal S8x512 .f32)
    (h6 : ∀ x : Fin 512, C (ix2 6 x) = A.back 2 b s x.val) (h7 : ∀ x : Fin 512, C (ix2 7 x) = A.back 1 b s x.val)
    (hs : 2 ≤ s ∨ s = 0) (B w0 w1 w2 : Vec Ideal S1x512 .f32) (hB : ∀ x : Fin 512, B (ix2 0 x) = A.cb x.val)
    (h0 : ∀ x : Fin 512, w0 (ix2 0 x) = A.cw 0 x.val) (h1 : ∀ x : Fin 512, w1 (ix2 0 x) = A.cw 1 x.val)
    (h2 : ∀ x : Fin 512, w2 (ix2 0 x) = A.cw 2 x.val) (r x : Fin 512) :
    k0_pay15 (F := Ideal) (k0_pay8 X N W) (k0_pay9 X N W) C (iota .tc S512x512 32 [0] iota_S512x512_d0_w32) (k0_pay11 X N W C)
      (k0_pay12 X N W) k0_pay13 B w0 w1 w2 (ix3 0 r x) = A.conv b (s + r.val) x.val := by
  have hG := gate_at A b s X N W hP
  have hU := u_at A b s X N W hP
  unfold k0_pay11 k0_pay12
  generalize k0_pay8 X N W = G at hG
  generalize k0_pay9 X N W = U at hU
  have c0 : IntOp.cmpi CmpIPredicate.eq (BitVec.ofNat 32 r.val) 0#32 = BitVec.ofBool (decide (r.val = 0)) :=
    WordCmp.cmpi_eq_ofNat (by omega) (by omega)
  have c1 : IntOp.cmpi CmpIPredicate.eq (BitVec.ofNat 32 r.val) 1#32 = BitVec.ofBool (decide (r.val = 1)) :=
    WordCmp.cmpi_eq_ofNat (by omega) (by omega)
  pointwise [k0_pay15, k0_pay13, hG, hU, h6, h7, hB, h0, h1, h2, c0, c1]
  unfold Args.conv
  have e1 : (if r.val = 0 then A.back 1 b s x.val else A.u b (s + (r.val + 512 - 1) % 512) x.val) = A.back 1 b (s + r.val) x.val := by
    by_cases hr : r.val = 0
    · rw [if_pos hr, hr, Nat.add_zero]
    · rw [if_neg hr]
      unfold Args.back
      rw [if_pos (by omega)]
      exact congrArg (A.u b · x.val) (by omega)
  have e2 : (if r.val = 0 then A.back 2 b s x.val else if r.val = 1 then A.back 1 b s x.val
      else A.u b (s + (r.val + 512 - 2) % 512) x.val) = A.back 2 b (s + r.val) x.val := by
    by_cases hr : r.val = 0
    · rw [if_pos hr, hr, Nat.add_zero]
    · rw [if_neg hr]
      by_cases hr1 : r.val = 1
      · rw [if_pos hr1, hr1]
        unfold Args.back
        rcases hs with hs | hs
        · rw [if_pos (by omega), if_pos (by omega)]
          exact congrArg (A.u b · x.val) (by omega)
        · rw [if_neg (by omega), if_neg (by omega)]
      · rw [if_neg hr1]
        unfold Args.back
        rw [if_pos (by omega)]
        exact congrArg (A.u b · x.val) (by omega)
  rw [e1, e2]

/-- The rows a tile hands to the next one. -/
theorem carry_at (X : Vec Ideal S1x512x1024 .f32) (N : Vec Ideal S1x1024 .f32) (W : Vec Ideal S1024x1536 .bf16)
    (hP : ∀ (r : Fin 512) (x : Fin 1536), k0_pay7 (F := Ideal) X N W (ix2 r x) = A.p b (s + r.val) x.val) (i : Fin 8) (x : Fin 512) :
    k0_pay14 (F := Ideal) (k0_pay9 X N W) (ix2 i x) = A.u b (s + (504 + i.val)) x.val := by
  have hU := u_at A b s X N W hP
  generalize k0_pay9 X N W = U at hU
  pointwise [k0_pay14, hU]

section heads

/-- A head's columns among all the columns. -/
theorem sum_head (f : ℕ → EReal) (x : Fin 512) :
    (∑ j : Fin 512, f j.val * (if j.val / 64 = x.val / 64 then (1 : EReal) else 0)) = ∑ d : Fin 64, f (64 * (x.val / 64) + d.val) := by
  have hx := x.isLt
  simp only [mul_ite, mul_one, mul_zero]
  rw [← Finset.sum_filter]
  symm
  refine Finset.sum_nbij' (fun d : Fin 64 => (⟨64 * (x.val / 64) + d.val, by omega⟩ : Fin 512)) (fun j => ⟨j.val % 64, by omega⟩)
    ?_ ?_ ?_ ?_ ?_
  · intro d _
    refine Finset.mem_filter.mpr ⟨Finset.mem_univ _, ?_⟩
    dsimp only
    omega
  · intro j _
    exact Finset.mem_univ _
  · intro d _
    refine Fin.ext ?_
    dsimp only
    omega
  · intro j hj
    have := (Finset.mem_filter.mp hj).2
    refine Fin.ext ?_
    dsimp only
    omega
  · intro d _
    rfl

/-- A sum of squares split into two parts, the second of them zero on finite values, over a head's columns. -/
theorem squares_eq (o : ℕ) (r : ℕ) (x : Fin 512) (hF : ∀ x : ℕ, ∃ v : ℝ, A.p b r x = v) :
    ((∑ j : Fin 512, A.p b r (o + j.val) * A.p b r (o + j.val) * (if j.val / 64 = x.val / 64 then (1 : EReal) else 0)) +
      ∑ j : Fin 512, (A.p b r (o + j.val) * A.p b r (o + j.val) - A.p b r (o + j.val) * A.p b r (o + j.val)) *
        (if j.val / 64 = x.val / 64 then (1 : EReal) else 0)) = A.squares o b r x.val := by
  rw [sum_head (fun j => A.p b r (o + j) * A.p b r (o + j)) x]
  have e : ∀ j : Fin 512, (A.p b r (o + j.val) * A.p b r (o + j.val) - A.p b r (o + j.val) * A.p b r (o + j.val)) *
      (if j.val / 64 = x.val / 64 then (1 : EReal) else 0) = 0 := by
    intro j
    obtain ⟨v, hv⟩ := hF (o + j.val)
    rw [hv, ← EReal.coe_mul, ← EReal.coe_sub, sub_self, EReal.coe_zero, zero_mul]
  simp only [e, Finset.sum_const_zero, add_zero]
  rfl

variable (P : FVec Ideal S512x1536 .f32) (o : ℕ) (hP : ∀ (r : Fin 512) (x : Fin 1536), P (ix2 r x) = A.p b (s + r.val) (o + x.val))
  (hF : ∀ (r : Fin 512) (x : ℕ), ∃ v : ℝ, A.p b (s + r.val) x = v)
  (M : Vec Ideal S512x512 .bf16) (hM : ∀ j x : Fin 512, M (ix2 j x) = if j.val / 64 = x.val / 64 then 1 else 0)
  (g : ℕ → EReal) (V : Vec Ideal S1x512 .f32) (hV : ∀ x : Fin 512, V (ix2 0 x) = g (x.val % 64))
include hP hF hM hV

theorem key_at (r x : Fin 512) : k0_pay18 (F := Ideal) P M V (ix2 r x) = A.head (o + 512) g b (s + r.val) x.val := by
  pointwise [k0_pay18, k0_pay17, hP, hM, hV]
  unfold Args.head
  rw [← squares_eq A b (o + 512) (s + r.val) x (hF r), _root_.Inproj.div_64]
  simp only [Nat.add_assoc]

theorem query_at (r x : Fin 512) : k0_pay19 (F := Ideal) P M V (ix2 r x) = A.head o g b (s + r.val) x.val * Ideal.ofBits .f32 0x3E000000#32 := by
  pointwise [k0_pay19, k0_pay17, hP, hM, hV]
  unfold Args.head
  rw [← squares_eq A b o (s + r.val) x (hF r), _root_.Inproj.div_64]

end heads

theorem value_at (P : FVec Ideal S512x1536 .f32) (o : ℕ) (hP : ∀ (r : Fin 512) (x : Fin 1536), P (ix2 r x) = A.p b (s + r.val) (o + x.val))
    (x r : Fin 512) : k0_pay22 (F := Ideal) P (ix3 0 x r) = A.p b (s + r.val) (o + (1024 + x.val)) := by
  pointwise [k0_pay22, hP]

theorem mean0_at (K : FVec Ideal S512x512 .f32) (f : ℕ → ℕ → EReal) (hK : ∀ r x : Fin 512, K (ix2 r x) = f r.val x.val) (x : Fin 512) :
    k0_pay23 (F := Ideal) K (ix4 0 0 0 x) = Ideal.div (∑ r : Fin 256, f r.val x.val) (Ideal.ofBits .f32 0x43800000#32) := by
  pointwise [k0_pay23, hK]

theorem mean1_at (K : FVec Ideal S512x512 .f32) (f : ℕ → ℕ → EReal) (hK : ∀ r x : Fin 512, K (ix2 r x) = f r.val x.val) (x : Fin 512) :
    k0_pay24 (F := Ideal) K (ix4 0 0 0 x) = Ideal.div (∑ r : Fin 256, f (256 + r.val) x.val) (Ideal.ofBits .f32 0x43800000#32) := by
  pointwise [k0_pay24, hK]

/-! The parts of the linear attention's projection `G`, whose columns start at `o`. -/

section parts

variable (H : FVec Ideal S512x1024 .bf16) (W : Vec Ideal S1024x1536 .bf16) (o : ℕ)
  (hG : ∀ (r : Fin 512) (x : Fin 1536), k0_pay16 (F := Ideal) H W (ix2 r x) = A.p b (s + r.val) (o + x.val))
include hG

theorem part0_at (r : Fin 512) (x : Fin 256) : k0_pay1 (F := Ideal) (k0_pay26 H W) (ix3 0 r x) = A.p b (s + r.val) (o + x.val) := by
  unfold k0_pay26
  change ∀ (r : Fin 512) (x : Fin 1536), k0_pay25 (F := Ideal) H W (ix2 r x) = _ at hG
  generalize k0_pay25 H W = G at hG
  pointwise [k0_pay1, hG]

theorem part1_at (r : Fin 512) (x : Fin 256) : k0_pay2 (F := Ideal) (k0_pay25 H W) (ix3 0 r x) = A.p b (s + r.val) (o + (256 + x.val)) := by
  change ∀ (r : Fin 512) (x : Fin 1536), k0_pay25 (F := Ideal) H W (ix2 r x) = _ at hG
  generalize k0_pay25 H W = G at hG
  pointwise [k0_pay2, hG]

theorem part2_at (r x : Fin 512) : k0_pay3 (F := Ideal) (k0_pay25 H W) (ix3 0 r x) = A.p b (s + r.val) (o + (512 + x.val)) := by
  change ∀ (r : Fin 512) (x : Fin 1536), k0_pay25 (F := Ideal) H W (ix2 r x) = _ at hG
  generalize k0_pay25 H W = G at hG
  pointwise [k0_pay3, hG]

theorem part3_at (r x : Fin 512) : k0_pay4 (F := Ideal) (k0_pay25 H W) (ix3 0 r x) = A.p b (s + r.val) (o + (1024 + x.val)) := by
  change ∀ (r : Fin 512) (x : Fin 1536), k0_pay25 (F := Ideal) H W (ix2 r x) = _ at hG
  generalize k0_pay25 H W = G at hG
  pointwise [k0_pay4, hG]

end parts

/-- The first tile's carried rows are zeros. -/
theorem zeros_at (i : Fin 8) (x : Fin 512) : k0_pay10 (F := Ideal) (ix2 i x) = 0 := by
  pointwise [k0_pay10]

/-- The stored queries, of the queries of the tile. -/
theorem stored_query (Q : FVec Ideal S512x512 .bf16) (r x : Fin 512) : k0_pay20 (F := Ideal) Q (ix3 0 r x) = Q (ix2 r x) := by
  pointwise [k0_pay20]

/-- The stored keys, of the keys of the tile. -/
theorem stored_key (K : FVec Ideal S512x512 .f32) (r x : Fin 512) : k0_pay21 (F := Ideal) K (ix3 0 r x) = K (ix2 r x) := by
  pointwise [k0_pay21]

end Cert.InprojIdeal.Inproj
-- ==== Proof.InprojBlocks.lean ====
module

public import proofs.«01_k».proof.Proof.Gen.InprojIdeal.Frame.Runs
public import proofs.«01_k».proof.Proof.InprojTiles
public import Idealize.ShloMosaic.Lib.Pipeline.ValueKit
public import Idealize.ShloMosaic.Lib.StableHlo.RunRead

/-! The blocks the kernel reads, in the projection's arguments: grid point `t` holds tile `t % 16` of 512 positions of batch
`t / 16`, and the whole of every other array. -/

@[expose] public section

set_option maxRecDepth 16384

noncomputable section

namespace Cert.InprojIdeal.Inproj

open Cert.InprojIdeal Cert.InprojIdeal.Gen
open Idealize.ShloMosaic Idealize.ShloMosaic.TcCoe Idealize.SL.Sem
open _root_.Inproj (Args)
open _root_.Gla (at1 at2 at3 at1_of at2_of at3_of)

variable (m : (ℓ : Loc nD τ sig) → Buf (Elt Ideal) ℓ) (c : Dev nD)

/-- The projection's arguments, of the memory the run starts from. -/
def args : Args where
  x := at3 (a := 4) (b := 8192) (c := 1024) (m ((c.tc : Thread nD τ).loc main_arg0))
  norm := at1 (a := 1024) (m ((c.tc : Thread nD τ).loc main_arg1))
  w := at2 (a := 1024) (b := 4624) (m ((c.tc : Thread nD τ).loc main_arg2))
  cw := at2 (a := 3) (b := 512) (m ((c.tc : Thread nD τ).loc main_arg3))
  cb := at1 (a := 512) (m ((c.tc : Thread nD τ).loc main_arg4))
  qn := at1 (a := 64) (m ((c.tc : Thread nD τ).loc main_arg5))
  kn := at1 (a := 64) (m ((c.tc : Thread nD τ).loc main_arg6))

theorem idx_in : ∀ t : Fin cfg0.N, win0_0.index t = ![t.val / 16, t.val % 16, 0] :=
  (by decide +kernel : ∀ t : Fin grid0.N, _)

theorem idx_whole : ∀ t : Fin cfg0.N, win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

theorem point_lt (t : Fin cfg0.N) : t.val < 64 := lt_of_lt_of_eq t.isLt (show cfg0.N = 64 from N_0)

variable (t : Fin cfg0.N)

theorem blk_x (r : Fin 512) (x : Fin 1024) : (iblk m c 0 t : Vec Ideal S1x512x1024 .f32) (ix3 0 r x) =
    (args m c).x (t.val / 16) (512 * (t.val % 16) + r.val) x.val := by
  have ht := point_lt t
  refine Eq.trans ?_ (at3_of (a := 4) (b := 8192) (c := 1024) (m ((c.tc : Thread nD τ).loc main_arg0))
    ⟨t.val / 16, by omega⟩ ⟨512 * (t.val % 16) + r.val, by omega⟩ x).symm
  blk_point [iblk, V, idx_in t]

theorem blk_cw (j : Fin 3) (x : Fin 512) : (iblk m c 3 t : Vec Ideal S3x512 .f32) (ix2 j x) = (args m c).cw j.val x.val := by
  refine Eq.trans ?_ (at2_of (a := 3) (b := 512) (m ((c.tc : Thread nD τ).loc main_arg3)) j x).symm
  blk_point [iblk, V, idx_whole t]

/-! The arrays @main prepares for the kernel. -/

/-- The projection's matrix reaches the kernel with columns of zeros after it. -/
theorem V_w : (V m c (Pipeline.arrRef spec0 2) : FVec Ideal S1024x4736 .bf16) = pad S1024x4736 ![0, 0] ![0, 112] ![0, 0]
    (truncf .bf16 (show FVec Ideal S1024x4624 .f32 from m ((c.tc : Thread nD τ).loc main_arg2)) bitsLt_bf16_f32)
    (sitofp .bf16 (constantI S_ 32 0#32)) pads_S1024x4624_S1024x4736_000_01120 h_S_ := by
  change StableHlo.after ([hostOps0, hostOps0_1, hostOps0_2, hostOps0_3, hostOps0_4].flatten) (fun b => m (c, b)) (Proc.tc.devRef main_v9) = _
  simp only [List.flatten_cons, List.flatten_nil, List.append_nil, hostOps0, hostOps0_1, hostOps0_2, hostOps0_3, hostOps0_4,
    List.cons_append, List.nil_append]
  after_reads_simp
  try rfl

theorem V_norm : (V m c (Pipeline.arrRef spec0 1) : FVec Ideal S1x1024 .f32) =
    broadcastInDim S1x1024 ![1] bcast_S1024_S1x1024_1 (show FVec Ideal S1024 .f32 from m ((c.tc : Thread nD τ).loc main_arg1)) := by
  change StableHlo.after ([hostOps0, hostOps0_1, hostOps0_2, hostOps0_3, hostOps0_4].flatten) (fun b => m (c, b)) (Proc.tc.devRef main_v10) = _
  simp only [List.flatten_cons, List.flatten_nil, List.append_nil, hostOps0, hostOps0_1, hostOps0_2, hostOps0_3, hostOps0_4,
    List.cons_append, List.nil_append]
  after_reads_simp
  try rfl

theorem V_cb : (V m c (Pipeline.arrRef spec0 4) : FVec Ideal S1x512 .f32) =
    broadcastInDim S1x512 ![1] bcast_S512_S1x512_1 (show FVec Ideal S512 .f32 from m ((c.tc : Thread nD τ).loc main_arg4)) := by
  change StableHlo.after ([hostOps0, hostOps0_1, hostOps0_2, hostOps0_3, hostOps0_4].flatten) (fun b => m (c, b)) (Proc.tc.devRef main_v11) = _
  simp only [List.flatten_cons, List.flatten_nil, List.append_nil, hostOps0, hostOps0_1, hostOps0_2, hostOps0_3, hostOps0_4,
    List.cons_append, List.nil_append]
  after_reads_simp
  try rfl

/-- A head's weight, repeated over the heads. -/
def tiled (g : FVec Ideal S64 .f32) : FVec Ideal S1x512 .f32 :=
  broadcastInDim S1x512 ![1] bcast_S512_S1x512_1
    (shapeCast S512 (broadcastInDim S8x64 ![0, 1] bcast_S1x64_S8x64_0_1 (shapeCast S1x64 g shapeCasts_S64_S1x64)) shapeCasts_S8x64_S512)

theorem tiled_at (g : FVec Ideal S64 .f32) (x : Fin 512) : tiled g (ix2 0 x) = g (ix1 ⟨x.val % 64, by omega⟩) := by
  pointwise [tiled]

theorem V_qn : (V m c (Pipeline.arrRef spec0 5) : FVec Ideal S1x512 .f32) = tiled (m ((c.tc : Thread nD τ).loc main_arg5)) := by
  change StableHlo.after ([hostOps0, hostOps0_1, hostOps0_2, hostOps0_3, hostOps0_4].flatten) (fun b => m (c, b)) (Proc.tc.devRef main_v15) = _
  simp only [List.flatten_cons, List.flatten_nil, List.append_nil, hostOps0, hostOps0_1, hostOps0_2, hostOps0_3, hostOps0_4,
    List.cons_append, List.nil_append]
  after_reads_simp
  try rfl

theorem V_kn : (V m c (Pipeline.arrRef spec0 6) : FVec Ideal S1x512 .f32) = tiled (m ((c.tc : Thread nD τ).loc main_arg6)) := by
  change StableHlo.after ([hostOps0, hostOps0_1, hostOps0_2, hostOps0_3, hostOps0_4].flatten) (fun b => m (c, b)) (Proc.tc.devRef main_v19) = _
  simp only [List.flatten_cons, List.flatten_nil, List.append_nil, hostOps0, hostOps0_1, hostOps0_2, hostOps0_3, hostOps0_4,
    List.cons_append, List.nil_append]
  after_reads_simp
  try rfl

/-- The columns' heads: each column's number divided by 64, rounded down. -/
def headId : IVec S512 32 :=
  select
    (andi
      (cmpi .ne (signi (iotaInDim S512 32 0)) (broadcastInDim S512 ![] bcast_S_S512 (signi (constantI S_ 32 64#32))))
      (cmpi .ne (Host.remsi (iotaInDim S512 32 0) (broadcastInDim S512 ![] bcast_S_S512 (constantI S_ 32 64#32)))
        (broadcastInDim S512 ![] bcast_S_S512 (constantI S_ 32 0#32))))
    (subi (Host.divsi (iotaInDim S512 32 0) (broadcastInDim S512 ![] bcast_S_S512 (constantI S_ 32 64#32)))
      (broadcastInDim S512 ![] bcast_S_S512 (constantI S_ 32 1#32)))
    (Host.divsi (iotaInDim S512 32 0) (broadcastInDim S512 ![] bcast_S_S512 (constantI S_ 32 64#32)))

theorem headId_at : ∀ x : Fin 512, headId (ix1 x) = BitVec.ofNat 32 (x.val / 64) := by
  intro x
  pointwise [headId]
  revert x
  decide +kernel

theorem V_same : (V m c (Pipeline.arrRef spec0 7) : FVec Ideal S512x512 .bf16) =
    (show FVec Ideal S512x512 .bf16 from uitofp .bf16 (cmpi .eq
      (broadcastInDim S512x512 ![0, 1] bcast_S512x1_S512x512_0_1 (broadcastInDim S512x1 ![0] bcast_S512_S512x1_0 headId))
      (broadcastInDim S512x512 ![0, 1] bcast_S1x512_S512x512_0_1 (broadcastInDim S1x512 ![1] bcast_S512_S1x512_1 headId)))) := by
  change StableHlo.after ([hostOps0, hostOps0_1, hostOps0_2, hostOps0_3, hostOps0_4].flatten) (fun b => m (c, b)) (Proc.tc.devRef main_v7) = _
  simp only [List.flatten_cons, List.flatten_nil, List.append_nil, hostOps0, hostOps0_1, hostOps0_2, hostOps0_3, hostOps0_4,
    List.cons_append, List.nil_append]
  after_reads_simp
  try rfl

/-! Their blocks. -/

theorem blk_w (k : Fin 1024) (x : Fin 4736) : (iblk m c 2 t : Vec Ideal S1024x4736 .bf16) (ix2 k x) = (args m c).w k.val x.val := by
  have e : ((cfg0.win 2).blk t).view.emb (ix2 k x) = ix2 k x := by blk_ext [idx_whole t]
  unfold iblk
  change V m c (Pipeline.arrRef spec0 2) (((cfg0.win 2).blk t).view.emb (ix2 k x)) = _
  rw [e, V_w]
  pointwise
  by_cases h : x.val < 4624
  · rw [dif_pos h]
    exact (at2_of (a := 1024) (b := 4624) (m ((c.tc : Thread nD τ).loc main_arg2)) k ⟨x.val, h⟩).symm
  · rw [dif_neg h]
    refine Eq.trans ?_ (dif_neg (fun h' => h h'.2)).symm
    change (((0#32 : BitVec 32).toInt : ℝ) : EReal) = 0
    simp

theorem blk_norm (k : Fin 1024) : (iblk m c 1 t : Vec Ideal S1x1024 .f32) (ix2 0 k) = (args m c).norm k.val := by
  have e : ((cfg0.win 1).blk t).view.emb (ix2 0 k) = ix2 0 k := by blk_ext [idx_whole t]
  unfold iblk
  change V m c (Pipeline.arrRef spec0 1) (((cfg0.win 1).blk t).view.emb (ix2 0 k)) = _
  rw [e, V_norm]
  refine Eq.trans ?_ (at1_of (a := 1024) (m ((c.tc : Thread nD τ).loc main_arg1)) k).symm
  pointwise

theorem blk_cb (x : Fin 512) : (iblk m c 4 t : Vec Ideal S1x512 .f32) (ix2 0 x) = (args m c).cb x.val := by
  have e : ((cfg0.win 4).blk t).view.emb (ix2 0 x) = ix2 0 x := by blk_ext [idx_whole t]
  unfold iblk
  change V m c (Pipeline.arrRef spec0 4) (((cfg0.win 4).blk t).view.emb (ix2 0 x)) = _
  rw [e, V_cb]
  refine Eq.trans ?_ (at1_of (a := 512) (m ((c.tc : Thread nD τ).loc main_arg4)) x).symm
  pointwise

theorem blk_qn (x : Fin 512) : (iblk m c 5 t : Vec Ideal S1x512 .f32) (ix2 0 x) = (args m c).qn (x.val % 64) := by
  have e : ((cfg0.win 5).blk t).view.emb (ix2 0 x) = ix2 0 x := by blk_ext [idx_whole t]
  unfold iblk
  change V m c (Pipeline.arrRef spec0 5) (((cfg0.win 5).blk t).view.emb (ix2 0 x)) = _
  rw [e, V_qn]
  exact (tiled_at _ x).trans (at1_of (a := 64) (m ((c.tc : Thread nD τ).loc main_arg5)) ⟨x.val % 64, by omega⟩).symm

theorem blk_kn (x : Fin 512) : (iblk m c 6 t : Vec Ideal S1x512 .f32) (ix2 0 x) = (args m c).kn (x.val % 64) := by
  have e : ((cfg0.win 6).blk t).view.emb (ix2 0 x) = ix2 0 x := by blk_ext [idx_whole t]
  unfold iblk
  change V m c (Pipeline.arrRef spec0 6) (((cfg0.win 6).blk t).view.emb (ix2 0 x)) = _
  rw [e, V_kn]
  exact (tiled_at _ x).trans (at1_of (a := 64) (m ((c.tc : Thread nD τ).loc main_arg6)) ⟨x.val % 64, by omega⟩).symm

theorem blk_same (j x : Fin 512) : (iblk m c 7 t : Vec Ideal S512x512 .bf16) (ix2 j x) =
    (if j.val / 64 = x.val / 64 then 1 else 0 : EReal) := by
  have e : ((cfg0.win 7).blk t).view.emb (ix2 j x) = ix2 j x := by blk_ext [idx_whole t]
  unfold iblk
  change V m c (Pipeline.arrRef spec0 7) (((cfg0.win 7).blk t).view.emb (ix2 j x)) = _
  rw [e, V_same]
  have hj := headId_at j
  have hx := headId_at x
  have hc : IntOp.cmpi CmpIPredicate.eq (BitVec.ofNat 32 (j.val / 64)) (BitVec.ofNat 32 (x.val / 64)) =
      BitVec.ofBool (decide (j.val / 64 = x.val / 64)) := WordCmp.cmpi_eq_ofNat (by omega) (by omega)
  generalize headId = I at hj hx
  pointwise [hj, hx, hc]
  change (((BitVec.ofBool (decide (j.val / 64 = x.val / 64))).toNat : ℝ) : EReal) = _
  by_cases h : j.val / 64 = x.val / 64
  · rw [if_pos h, decide_eq_true h]
    simp
  · rw [if_neg h, decide_eq_false h]
    simp

end Cert.InprojIdeal.Inproj
-- ==== Proof.InprojKernel.lean ====
module

public import proofs.«01_k».proof.Proof.Gen.InprojIdeal.Frame
public import proofs.«01_k».proof.Proof.InprojBlocks
public import Idealize.ShloMosaic.Lib.Pipeline.ReadBack

/-! What each grid point of the input projection stores: the point `t` computes the positions `512 * (t % 16) ..` of the batch element
`t / 16`, and carries the last eight rows of the convolution's input to the next point. -/

@[expose] public section

set_option maxRecDepth 16384

noncomputable section

namespace Cert.InprojIdeal.Inproj

open Cert.InprojIdeal Cert.InprojIdeal.Gen
open Idealize.ShloMosaic Idealize.ShloMosaic.TcCoe Idealize.SL.Sem
open _root_.Inproj (Args)

variable (m : (ℓ : Loc nD τ sig) → Buf (Elt Ideal) ℓ) (c : Dev nD)

section loads

/-- A load of 1536 columns. -/
theorem load_at (X : Vec Ideal S1024x4736 .bf16) (o : ℕ) (hs : ∀ a, (![0, o] : Fin 2 → ℕ) a + S1024x1536.size a ≤ S1024x4736.size a)
    (k : Fin 1024) (x : Fin 1536) (ho : o + x.val < 4736) :
    (View.ld X (Rect.unit (s := S1024x4736) ![0, o] ![1024, 1536] hs) : Vec Ideal S1024x1536 .bf16) (ix2 k x) = X (ix2 k ⟨o + x.val, ho⟩) := by
  refine congrArg X (funext fun a => Fin.ext ?_)
  fin_cases a
  · exact (Nat.zero_add _).trans (Nat.one_mul _)
  · exact congrArg (o + ·) (Nat.one_mul _)

/-- A load of the last 128 columns. -/
theorem load_last (X : Vec Ideal S1024x4736 .bf16) (o : ℕ) (hs : ∀ a, (![0, o] : Fin 2 → ℕ) a + S1024x128.size a ≤ S1024x4736.size a)
    (k : Fin 1024) (x : Fin 128) (ho : o + x.val < 4736) :
    (View.ld X (Rect.unit (s := S1024x4736) ![0, o] ![1024, 128] hs) : Vec Ideal S1024x128 .bf16) (ix2 k x) = X (ix2 k ⟨o + x.val, ho⟩) := by
  refine congrArg X (funext fun a => Fin.ext ?_)
  fin_cases a
  · exact (Nat.zero_add _).trans (Nat.one_mul _)
  · exact congrArg (o + ·) (Nat.one_mul _)

/-- A load of one row of the convolution's weights. -/
theorem load_row (X : Vec Ideal S3x512 .f32) (j : Fin 3) (hs : ∀ a, (![j.val, 0] : Fin 2 → ℕ) a + S1x512.size a ≤ S3x512.size a) (x : Fin 512) :
    (View.ld X (Rect.unit (s := S3x512) ![j.val, 0] ![1, 512] hs) : Vec Ideal S1x512 .f32) (ix2 0 x) = X (ix2 j x) := by
  refine congrArg X (funext fun a => Fin.ext ?_)
  fin_cases a
  · rfl
  · exact (Nat.zero_add _).trans (Nat.one_mul _)

/-- An index of a single row of 512 columns. -/
theorem row_at (v : S1x1x1x512.Idx) : v = ix4 0 0 0 (v 3 : Fin 512) := by
  have e0 : v 0 = (0 : Fin 1) := Subsingleton.elim (α := Fin 1) _ _
  have e1 : v 1 = (0 : Fin 1) := Subsingleton.elim (α := Fin 1) _ _
  have e2 : v 2 = (0 : Fin 1) := Subsingleton.elim (α := Fin 1) _ _
  funext a
  fin_cases a
  · exact e0
  · exact e1
  · exact e2
  · rfl

end loads

variable (t : Fin cfg0.N)

/-- The normed input of the point's tile. -/
theorem normed (r : Fin 512) (k : Fin 1024) : k0_pay6 (F := Ideal) (iblk m c 0 t) (iblk m c 1 t) (ix2 r k) =
    (args m c).h (t.val / 16) (512 * (t.val % 16) + r.val) k.val :=
  h_at (args m c) _ _ _ _ (blk_x m c t) (blk_norm m c t) r k

/-- A projection of the point's tile. -/
theorem projected (o : ℕ) (ho : o + 1536 ≤ 4736) (hs : ∀ a, (![0, o] : Fin 2 → ℕ) a + S1024x1536.size a ≤ S1024x4736.size a) (r : Fin 512) (x : Fin 1536) :
    k0_pay16 (F := Ideal) (k0_pay6 (iblk m c 0 t) (iblk m c 1 t))
      (View.ld (iblk m c 2 t) (Rect.unit (s := S1024x4736) ![0, o] ![1024, 1536] hs)) (ix2 r x) =
      (args m c).p (t.val / 16) (512 * (t.val % 16) + r.val) (o + x.val) :=
  proj_at (args m c) _ _ _ (normed m c t) o _ (fun k x => (load_at (iblk m c 2 t) o hs k x (by omega)).trans (blk_w m c t k ⟨o + x.val, by omega⟩)) r x

/-- The first projection of the point's tile. -/
theorem projected0 (hs : ∀ a, (![0, 0] : Fin 2 → ℕ) a + S1024x1536.size a ≤ S1024x4736.size a) (r : Fin 512) (x : Fin 1536) :
    k0_pay7 (F := Ideal) (iblk m c 0 t) (iblk m c 1 t)
      (View.ld (iblk m c 2 t) (Rect.unit (s := S1024x4736) ![0, 0] ![1024, 1536] hs)) (ix2 r x) =
      (args m c).p (t.val / 16) (512 * (t.val % 16) + r.val) x.val :=
  (projected m c t 0 (by omega) hs r x).trans (by rw [Nat.zero_add])

/-- The rows the point leaves to the next one. -/
theorem held (i : Fin 8) (x : Fin 512) : (outsAt0 m c t.val t.isLt).2.2.2.2.2.2.2.2.2.2 (ix2 i x) =
    (args m c).u (t.val / 16) (512 * (t.val % 16) + (504 + i.val)) x.val := by
  rcases Decidable.em (t.val % 16 = 0) with h0 | h0
  · conv_lhs => rw [outsAt0_A m c t h0]
    frame_out
    exact carry_at (args m c) _ _ _ _ _ (projected0 m c t _) i x
  · conv_lhs => rw [outsAt0_B m c t h0]
    frame_out
    exact carry_at (args m c) _ _ _ _ _ (projected0 m c t _) i x

/-- The rows a point that is not first of its batch element finds. -/
theorem found (h0 : ¬t.val % 16 = 0) (n : ℕ) (hn : n = 1 ∨ n = 2) (x : Fin 512) :
    (outsAt0 m c (t.val - 1) (by have := t.isLt; omega)).2.2.2.2.2.2.2.2.2.2 (ix2 ⟨8 - n, by omega⟩ x) =
      (args m c).back n (t.val / 16) (512 * (t.val % 16)) x.val := by
  refine (held m c ⟨t.val - 1, by have := t.isLt; omega⟩ _ x).trans ?_
  unfold Args.back
  rw [if_pos (by omega)]
  dsimp only
  rw [show (t.val - 1) / 16 = t.val / 16 by omega, show 512 * ((t.val - 1) % 16) + (504 + (8 - n)) = 512 * (t.val % 16) - n by omega]

/-- The convolution's block. -/
theorem stored_conv (r x : Fin 512) : (outsAt0 m c t.val t.isLt).1 (ix3 0 r x) =
    (args m c).conv (t.val / 16) (512 * (t.val % 16) + r.val) x.val := by
  rcases Decidable.em (t.val % 16 = 0) with h0 | h0
  · conv_lhs => rw [outsAt0_A m c t h0]
    frame_out
    refine conv_at (args m c) _ _ _ _ _ (projected0 m c t _) _ (fun x => ?_) (fun x => ?_) (by omega) _ _ _ _ (blk_cb m c t)
      (fun x => (load_row _ 0 _ x).trans (blk_cw m c t 0 x)) (fun x => (load_row _ 1 _ x).trans (blk_cw m c t 1 x))
      (fun x => (load_row _ 2 _ x).trans (blk_cw m c t 2 x)) r x
    · refine (zeros_at 6 x).trans ?_
      unfold Args.back
      rw [if_neg (by omega)]
    · refine (zeros_at 7 x).trans ?_
      unfold Args.back
      rw [if_neg (by omega)]
  · conv_lhs => rw [outsAt0_B m c t h0]
    frame_out
    rw [read_unread_whole]
    exact conv_at (args m c) _ _ _ _ _ (projected0 m c t _) _ (found m c t h0 2 (by omega)) (found m c t h0 1 (by omega)) (by omega) _ _ _ _ (blk_cb m c t)
      (fun x => (load_row _ 0 _ x).trans (blk_cw m c t 0 x)) (fun x => (load_row _ 1 _ x).trans (blk_cw m c t 1 x))
      (fun x => (load_row _ 2 _ x).trans (blk_cw m c t 2 x)) r x

section heads

variable (hf : (args m c).Finite)
include hf

/-- The keys of the point's tile. -/
theorem keyed (hs : ∀ a, (![0, 1536] : Fin 2 → ℕ) a + S1024x1536.size a ≤ S1024x4736.size a) (r x : Fin 512) :
    k0_pay18 (F := Ideal) (k0_pay16 (k0_pay6 (iblk m c 0 t) (iblk m c 1 t))
      (View.ld (iblk m c 2 t) (Rect.unit (s := S1024x4736) ![0, 1536] ![1024, 1536] hs))) (iblk m c 7 t) (iblk m c 6 t) (ix2 r x) =
      (args m c).key (t.val / 16) (512 * (t.val % 16) + r.val) x.val :=
  key_at (args m c) _ _ _ 1536 (projected m c t 1536 (by omega) hs) (fun _ _ => hf.p _ _ _) _ (blk_same m c t) (args m c).kn _ (blk_kn m c t) r x

/-- The queries' block. -/
theorem stored_queries (r x : Fin 512) : (outsAt0 m c t.val t.isLt).2.1 (ix3 0 r x) =
    (args m c).query (t.val / 16) (512 * (t.val % 16) + r.val) x.val := by
  rcases Decidable.em (t.val % 16 = 0) with h0 | h0
  · conv_lhs => rw [outsAt0_A m c t h0]
    frame_out
    exact (stored_query _ r x).trans (query_at (args m c) _ _ _ 1536 (projected m c t 1536 (by omega) _) (fun _ _ => hf.p _ _ _) _ (blk_same m c t)
      (args m c).qn _ (blk_qn m c t) r x)
  · conv_lhs => rw [outsAt0_B m c t h0]
    frame_out
    exact (stored_query _ r x).trans (query_at (args m c) _ _ _ 1536 (projected m c t 1536 (by omega) _) (fun _ _ => hf.p _ _ _) _ (blk_same m c t)
      (args m c).qn _ (blk_qn m c t) r x)

/-- The keys' block. -/
theorem stored_keys (r x : Fin 512) : (outsAt0 m c t.val t.isLt).2.2.1 (ix3 0 r x) =
    (args m c).key (t.val / 16) (512 * (t.val % 16) + r.val) x.val := by
  rcases Decidable.em (t.val % 16 = 0) with h0 | h0
  · conv_lhs => rw [outsAt0_A m c t h0]
    frame_out
    exact (stored_key _ r x).trans (keyed m c t hf _ r x)
  · conv_lhs => rw [outsAt0_B m c t h0]
    frame_out
    exact (stored_key _ r x).trans (keyed m c t hf _ r x)

/-- The mean of a tile's first 256 keys. -/
theorem mean0 (hs : ∀ a, (![0, 1536] : Fin 2 → ℕ) a + S1024x1536.size a ≤ S1024x4736.size a) (v : S1x1x1x512.Idx) (j x : ℕ) (hj : j = 0)
    (hx : x = (v 3).val) : k0_pay23 (F := Ideal) (k0_pay18 (k0_pay16 (k0_pay6 (iblk m c 0 t) (iblk m c 1 t))
      (View.ld (iblk m c 2 t) (Rect.unit (s := S1024x4736) ![0, 1536] ![1024, 1536] hs))) (iblk m c 7 t) (iblk m c 6 t)) v =
      (args m c).mean (t.val / 16) (2 * (t.val % 16) + j) x := by
  rw [row_at v]
  refine (mean0_at _ (fun r x => (args m c).key (t.val / 16) (512 * (t.val % 16) + r) x) (keyed m c t hf hs) (v 3)).trans ?_
  unfold Args.mean
  refine congrArg (Ideal.div · _) (Finset.sum_congr rfl fun r _ => ?_)
  rw [show 256 * (2 * (t.val % 16) + j) + r.val = 512 * (t.val % 16) + r.val by omega, hx]

/-- The mean of a tile's last 256 keys. -/
theorem mean1 (hs : ∀ a, (![0, 1536] : Fin 2 → ℕ) a + S1024x1536.size a ≤ S1024x4736.size a) (v : S1x1x1x512.Idx) (j x : ℕ) (hj : j = 1)
    (hx : x = (v 3).val) : k0_pay24 (F := Ideal) (k0_pay18 (k0_pay16 (k0_pay6 (iblk m c 0 t) (iblk m c 1 t))
      (View.ld (iblk m c 2 t) (Rect.unit (s := S1024x4736) ![0, 1536] ![1024, 1536] hs))) (iblk m c 7 t) (iblk m c 6 t)) v =
      (args m c).mean (t.val / 16) (2 * (t.val % 16) + j) x := by
  rw [row_at v]
  refine (mean1_at _ (fun r x => (args m c).key (t.val / 16) (512 * (t.val % 16) + r) x) (keyed m c t hf hs) (v 3)).trans ?_
  unfold Args.mean
  refine congrArg (Ideal.div · _) (Finset.sum_congr rfl fun r _ => ?_)
  rw [show 256 * (2 * (t.val % 16) + j) + r.val = 512 * (t.val % 16) + (256 + r.val) by omega, hx]

/-- The mean keys' block: two blocks of 256 positions a tile. -/
theorem stored_means (y : S1x2x1x512.Idx) : (outsAt0 m c t.val t.isLt).2.2.2.2.1 y =
    (args m c).mean (t.val / 16) (2 * (t.val % 16) + (y 1).val) (y 3).val := by
  rcases Decidable.em (t.val % 16 = 0) with h0 | h0
  · conv_lhs => rw [outsAt0_A m c t h0]
    frame_out
    canon_tiles v z
    case piece0 => exact mean1 m c t hf _ v _ _ (by omega) (by omega)
    case piece1 => exact mean0 m c t hf _ v _ _ (by omega) (by omega)
  · conv_lhs => rw [outsAt0_B m c t h0]
    frame_out
    canon_tiles v z
    case piece0 => exact mean1 m c t hf _ v _ _ (by omega) (by omega)
    case piece1 => exact mean0 m c t hf _ v _ _ (by omega) (by omega)

end heads

/-- The values' block. -/
theorem stored_values (x r : Fin 512) : (outsAt0 m c t.val t.isLt).2.2.2.1 (ix3 0 x r) =
    (args m c).p (t.val / 16) (512 * (t.val % 16) + r.val) (2560 + x.val) := by
  rcases Decidable.em (t.val % 16 = 0) with h0 | h0
  · conv_lhs => rw [outsAt0_A m c t h0]
    frame_out
    exact (value_at (args m c) _ _ _ 1536 (projected m c t 1536 (by omega) _) x r).trans (by rw [← Nat.add_assoc])
  · conv_lhs => rw [outsAt0_B m c t h0]
    frame_out
    exact (value_at (args m c) _ _ _ 1536 (projected m c t 1536 (by omega) _) x r).trans (by rw [← Nat.add_assoc])

/-- The blocks of the linear attention's queries, keys, values, output gate and decay. -/
theorem stored_part0 (r : Fin 512) (x : Fin 256) : (outsAt0 m c t.val t.isLt).2.2.2.2.2.1 (ix3 0 r x) =
    (args m c).p (t.val / 16) (512 * (t.val % 16) + r.val) (3072 + x.val) := by
  rcases Decidable.em (t.val % 16 = 0) with h0 | h0
  · conv_lhs => rw [outsAt0_A m c t h0]
    frame_out
    exact part0_at (args m c) _ _ _ _ 3072 (projected m c t 3072 (by omega) _) r x
  · conv_lhs => rw [outsAt0_B m c t h0]
    frame_out
    exact part0_at (args m c) _ _ _ _ 3072 (projected m c t 3072 (by omega) _) r x

theorem stored_part1 (r : Fin 512) (x : Fin 256) : (outsAt0 m c t.val t.isLt).2.2.2.2.2.2.1 (ix3 0 r x) =
    (args m c).p (t.val / 16) (512 * (t.val % 16) + r.val) (3328 + x.val) := by
  rcases Decidable.em (t.val % 16 = 0) with h0 | h0
  · conv_lhs => rw [outsAt0_A m c t h0]
    frame_out
    exact (part1_at (args m c) _ _ _ _ 3072 (projected m c t 3072 (by omega) _) r x).trans (by rw [← Nat.add_assoc])
  · conv_lhs => rw [outsAt0_B m c t h0]
    frame_out
    exact (part1_at (args m c) _ _ _ _ 3072 (projected m c t 3072 (by omega) _) r x).trans (by rw [← Nat.add_assoc])

theorem stored_part2 (r x : Fin 512) : (outsAt0 m c t.val t.isLt).2.2.2.2.2.2.2.1 (ix3 0 r x) =
    (args m c).p (t.val / 16) (512 * (t.val % 16) + r.val) (3584 + x.val) := by
  rcases Decidable.em (t.val % 16 = 0) with h0 | h0
  · conv_lhs => rw [outsAt0_A m c t h0]
    frame_out
    exact (part2_at (args m c) _ _ _ _ 3072 (projected m c t 3072 (by omega) _) r x).trans (by rw [← Nat.add_assoc])
  · conv_lhs => rw [outsAt0_B m c t h0]
    frame_out
    exact (part2_at (args m c) _ _ _ _ 3072 (projected m c t 3072 (by omega) _) r x).trans (by rw [← Nat.add_assoc])

theorem stored_part3 (r x : Fin 512) : (outsAt0 m c t.val t.isLt).2.2.2.2.2.2.2.2.1 (ix3 0 r x) =
    (args m c).p (t.val / 16) (512 * (t.val % 16) + r.val) (4096 + x.val) := by
  rcases Decidable.em (t.val % 16 = 0) with h0 | h0
  · conv_lhs => rw [outsAt0_A m c t h0]
    frame_out
    exact (part3_at (args m c) _ _ _ _ 3072 (projected m c t 3072 (by omega) _) r x).trans (by rw [← Nat.add_assoc])
  · conv_lhs => rw [outsAt0_B m c t h0]
    frame_out
    exact (part3_at (args m c) _ _ _ _ 3072 (projected m c t 3072 (by omega) _) r x).trans (by rw [← Nat.add_assoc])

theorem stored_last (r : Fin 512) (x : Fin 128) : (outsAt0 m c t.val t.isLt).2.2.2.2.2.2.2.2.2.1 (ix3 0 r x) =
    (args m c).p (t.val / 16) (512 * (t.val % 16) + r.val) (4608 + x.val) := by
  rcases Decidable.em (t.val % 16 = 0) with h0 | h0
  · conv_lhs => rw [outsAt0_A m c t h0]
    frame_out
    exact last_at (args m c) _ _ _ (normed m c t) 4608 _
      (fun k x => (load_last (iblk m c 2 t) 4608 _ k x (by omega)).trans (blk_w m c t k ⟨4608 + x.val, by omega⟩)) r x
  · conv_lhs => rw [outsAt0_B m c t h0]
    frame_out
    exact last_at (args m c) _ _ _ (normed m c t) 4608 _
      (fun k x => (load_last (iblk m c 2 t) 4608 _ k x (by omega)).trans (blk_w m c t k ⟨4608 + x.val, by omega⟩)) r x

end Cert.InprojIdeal.Inproj
-- ==== Proof.InprojValue.lean ====
module

public import proofs.«01_k».proof.Proof.Gen.InprojIdeal.Value
public import proofs.«01_k».proof.Proof.InprojKernel

/-! The ten arrays the input projection ends with, at an index: the position `s` of the batch element `i` is stored by the point
`16 * i + s / 512`, at its block's row `s % 512`. -/

@[expose] public section

set_option maxRecDepth 16384

noncomputable section

namespace Cert.InprojIdeal.Inproj

open Cert.InprojIdeal Cert.InprojIdeal.Gen Cert.InprojIdeal.Value
open Idealize.ShloMosaic Idealize.ShloMosaic.TcCoe Idealize.SL.Sem
open _root_.Inproj (Args)

variable (m : (ℓ : Loc nD τ sig) → Buf (Elt Ideal) ℓ) (c : Dev nD)

/-- The batch element and the first position of the point that stores a position. -/
theorem point_of (i s : ℕ) (hs : s < 8192) : (16 * i + s / 512) / 16 = i ∧ 512 * ((16 * i + s / 512) % 16) + s % 512 = s := by omega

theorem value8 (i : Fin 4) (s : Fin 8192) (x : Fin 512) : (G8 m c : Vec Ideal S4x8192x512 .bf16) (ix3 i s x) =
    (args m c).conv i.val s.val x.val := by
  have hN : cfg0.N = 64 := N_0
  have hp : pt8Of (ix3 i s x) = 16 * i.val + s.val / 512 := by
    change 16 * (i.val / 1 - 0) + 1 * (s.val / 512 - 0) + 1 * (x.val / 512 - 0) = _
    omega
  have hl : loc8Of (ix3 i s x) = ix3 0 ⟨s.val % 512, by omega⟩ x := by
    funext a
    apply Fin.ext
    fin_cases a
    · exact Nat.mod_one _
    · rfl
    · exact Nat.mod_eq_of_lt x.isLt
  have hlt : pt8Of (ix3 i s x) < cfg0.N := by omega
  unfold G8
  rw [dif_pos hlt, hl]
  have e := outsAt0_sweep m c (pt8Of (ix3 i s x)) hlt
  have h := stored_conv m c ⟨pt8Of (ix3 i s x), hlt⟩ ⟨s.val % 512, by omega⟩ x
  rw [e] at h
  refine h.trans ?_
  dsimp only
  obtain ⟨e1, e2⟩ := point_of i.val s.val s.isLt
  rw [hp, e1, e2]

theorem value9 (hf : (args m c).Finite) (i : Fin 4) (s : Fin 8192) (x : Fin 512) : (G9 m c : Vec Ideal S4x8192x512 .bf16) (ix3 i s x) =
    (args m c).query i.val s.val x.val := by
  have hN : cfg0.N = 64 := N_0
  have hp : pt9Of (ix3 i s x) = 16 * i.val + s.val / 512 := by
    change 16 * (i.val / 1 - 0) + 1 * (s.val / 512 - 0) + 1 * (x.val / 512 - 0) = _
    omega
  have hl : loc9Of (ix3 i s x) = ix3 0 ⟨s.val % 512, by omega⟩ x := by
    funext a
    apply Fin.ext
    fin_cases a
    · exact Nat.mod_one _
    · rfl
    · exact Nat.mod_eq_of_lt x.isLt
  have hlt : pt9Of (ix3 i s x) < cfg0.N := by omega
  unfold G9
  rw [dif_pos hlt, hl]
  have e := outsAt0_sweep m c (pt9Of (ix3 i s x)) hlt
  have h := stored_queries m c ⟨pt9Of (ix3 i s x), hlt⟩ hf ⟨s.val % 512, by omega⟩ x
  rw [e] at h
  refine h.trans ?_
  dsimp only
  obtain ⟨e1, e2⟩ := point_of i.val s.val s.isLt
  rw [hp, e1, e2]

theorem value10 (hf : (args m c).Finite) (i : Fin 4) (s : Fin 8192) (x : Fin 512) : (G10 m c : Vec Ideal S4x8192x512 .bf16) (ix3 i s x) =
    (args m c).key i.val s.val x.val := by
  have hN : cfg0.N = 64 := N_0
  have hp : pt10Of (ix3 i s x) = 16 * i.val + s.val / 512 := by
    change 16 * (i.val / 1 - 0) + 1 * (s.val / 512 - 0) + 1 * (x.val / 512 - 0) = _
    omega
  have hl : loc10Of (ix3 i s x) = ix3 0 ⟨s.val % 512, by omega⟩ x := by
    funext a
    apply Fin.ext
    fin_cases a
    · exact Nat.mod_one _
    · rfl
    · exact Nat.mod_eq_of_lt x.isLt
  have hlt : pt10Of (ix3 i s x) < cfg0.N := by omega
  unfold G10
  rw [dif_pos hlt, hl]
  have e := outsAt0_sweep m c (pt10Of (ix3 i s x)) hlt
  have h := stored_keys m c ⟨pt10Of (ix3 i s x), hlt⟩ hf ⟨s.val % 512, by omega⟩ x
  rw [e] at h
  refine h.trans ?_
  dsimp only
  obtain ⟨e1, e2⟩ := point_of i.val s.val s.isLt
  rw [hp, e1, e2]

theorem value13 (i : Fin 4) (s : Fin 8192) (x : Fin 256) : (G13 m c : Vec Ideal S4x8192x256 .f32) (ix3 i s x) =
    (args m c).p i.val s.val (3072 + x.val) := by
  have hN : cfg0.N = 64 := N_0
  have hp : pt13Of (ix3 i s x) = 16 * i.val + s.val / 512 := by
    change 16 * (i.val / 1 - 0) + 1 * (s.val / 512 - 0) + 1 * (x.val / 256 - 0) = _
    omega
  have hl : loc13Of (ix3 i s x) = ix3 0 ⟨s.val % 512, by omega⟩ x := by
    funext a
    apply Fin.ext
    fin_cases a
    · exact Nat.mod_one _
    · rfl
    · exact Nat.mod_eq_of_lt x.isLt
  have hlt : pt13Of (ix3 i s x) < cfg0.N := by omega
  unfold G13
  rw [dif_pos hlt, hl]
  have e := outsAt0_sweep m c (pt13Of (ix3 i s x)) hlt
  have h := stored_part0 m c ⟨pt13Of (ix3 i s x), hlt⟩ ⟨s.val % 512, by omega⟩ x
  rw [e] at h
  refine h.trans ?_
  dsimp only
  obtain ⟨e1, e2⟩ := point_of i.val s.val s.isLt
  rw [hp, e1, e2]

theorem value14 (i : Fin 4) (s : Fin 8192) (x : Fin 256) : (G14 m c : Vec Ideal S4x8192x256 .f32) (ix3 i s x) =
    (args m c).p i.val s.val (3328 + x.val) := by
  have hN : cfg0.N = 64 := N_0
  have hp : pt14Of (ix3 i s x) = 16 * i.val + s.val / 512 := by
    change 16 * (i.val / 1 - 0) + 1 * (s.val / 512 - 0) + 1 * (x.val / 256 - 0) = _
    omega
  have hl : loc14Of (ix3 i s x) = ix3 0 ⟨s.val % 512, by omega⟩ x := by
    funext a
    apply Fin.ext
    fin_cases a
    · exact Nat.mod_one _
    · rfl
    · exact Nat.mod_eq_of_lt x.isLt
  have hlt : pt14Of (ix3 i s x) < cfg0.N := by omega
  unfold G14
  rw [dif_pos hlt, hl]
  have e := outsAt0_sweep m c (pt14Of (ix3 i s x)) hlt
  have h := stored_part1 m c ⟨pt14Of (ix3 i s x), hlt⟩ ⟨s.val % 512, by omega⟩ x
  rw [e] at h
  refine h.trans ?_
  dsimp only
  obtain ⟨e1, e2⟩ := point_of i.val s.val s.isLt
  rw [hp, e1, e2]

theorem value15 (i : Fin 4) (s : Fin 8192) (x : Fin 512) : (G15 m c : Vec Ideal S4x8192x512 .f32) (ix3 i s x) =
    (args m c).p i.val s.val (3584 + x.val) := by
  have hN : cfg0.N = 64 := N_0
  have hp : pt15Of (ix3 i s x) = 16 * i.val + s.val / 512 := by
    change 16 * (i.val / 1 - 0) + 1 * (s.val / 512 - 0) + 1 * (x.val / 512 - 0) = _
    omega
  have hl : loc15Of (ix3 i s x) = ix3 0 ⟨s.val % 512, by omega⟩ x := by
    funext a
    apply Fin.ext
    fin_cases a
    · exact Nat.mod_one _
    · rfl
    · exact Nat.mod_eq_of_lt x.isLt
  have hlt : pt15Of (ix3 i s x) < cfg0.N := by omega
  unfold G15
  rw [dif_pos hlt, hl]
  have e := outsAt0_sweep m c (pt15Of (ix3 i s x)) hlt
  have h := stored_part2 m c ⟨pt15Of (ix3 i s x), hlt⟩ ⟨s.val % 512, by omega⟩ x
  rw [e] at h
  refine h.trans ?_
  dsimp only
  obtain ⟨e1, e2⟩ := point_of i.val s.val s.isLt
  rw [hp, e1, e2]

theorem value16 (i : Fin 4) (s : Fin 8192) (x : Fin 512) : (G16 m c : Vec Ideal S4x8192x512 .f32) (ix3 i s x) =
    (args m c).p i.val s.val (4096 + x.val) := by
  have hN : cfg0.N = 64 := N_0
  have hp : pt16Of (ix3 i s x) = 16 * i.val + s.val / 512 := by
    change 16 * (i.val / 1 - 0) + 1 * (s.val / 512 - 0) + 1 * (x.val / 512 - 0) = _
    omega
  have hl : loc16Of (ix3 i s x) = ix3 0 ⟨s.val % 512, by omega⟩ x := by
    funext a
    apply Fin.ext
    fin_cases a
    · exact Nat.mod_one _
    · rfl
    · exact Nat.mod_eq_of_lt x.isLt
  have hlt : pt16Of (ix3 i s x) < cfg0.N := by omega
  unfold G16
  rw [dif_pos hlt, hl]
  have e := outsAt0_sweep m c (pt16Of (ix3 i s x)) hlt
  have h := stored_part3 m c ⟨pt16Of (ix3 i s x), hlt⟩ ⟨s.val % 512, by omega⟩ x
  rw [e] at h
  refine h.trans ?_
  dsimp only
  obtain ⟨e1, e2⟩ := point_of i.val s.val s.isLt
  rw [hp, e1, e2]

theorem value17 (i : Fin 4) (s : Fin 8192) (x : Fin 128) : (G17 m c : Vec Ideal S4x8192x128 .f32) (ix3 i s x) =
    (args m c).p i.val s.val (4608 + x.val) := by
  have hN : cfg0.N = 64 := N_0
  have hp : pt17Of (ix3 i s x) = 16 * i.val + s.val / 512 := by
    change 16 * (i.val / 1 - 0) + 1 * (s.val / 512 - 0) + 1 * (x.val / 128 - 0) = _
    omega
  have hl : loc17Of (ix3 i s x) = ix3 0 ⟨s.val % 512, by omega⟩ x := by
    funext a
    apply Fin.ext
    fin_cases a
    · exact Nat.mod_one _
    · rfl
    · exact Nat.mod_eq_of_lt x.isLt
  have hlt : pt17Of (ix3 i s x) < cfg0.N := by omega
  unfold G17
  rw [dif_pos hlt, hl]
  have e := outsAt0_sweep m c (pt17Of (ix3 i s x)) hlt
  have h := stored_last m c ⟨pt17Of (ix3 i s x), hlt⟩ ⟨s.val % 512, by omega⟩ x
  rw [e] at h
  refine h.trans ?_
  dsimp only
  obtain ⟨e1, e2⟩ := point_of i.val s.val s.isLt
  rw [hp, e1, e2]

theorem value11 (i : Fin 4) (x : Fin 512) (s : Fin 8192) : (G11 m c : Vec Ideal S4x512x8192 .bf16) (ix3 i x s) =
    (args m c).p i.val s.val (2560 + x.val) := by
  have hN : cfg0.N = 64 := N_0
  have hp : pt11Of (ix3 i x s) = 16 * i.val + s.val / 512 := by
    change 16 * (i.val / 1 - 0) + 16 * (x.val / 512 - 0) + 1 * (s.val / 512 - 0) = _
    omega
  have hl : loc11Of (ix3 i x s) = ix3 0 x ⟨s.val % 512, by omega⟩ := by
    funext a
    apply Fin.ext
    fin_cases a
    · exact Nat.mod_one _
    · exact Nat.mod_eq_of_lt x.isLt
    · rfl
  have hlt : pt11Of (ix3 i x s) < cfg0.N := by omega
  unfold G11
  rw [dif_pos hlt, hl]
  have e := outsAt0_sweep m c (pt11Of (ix3 i x s)) hlt
  have h := stored_values m c ⟨pt11Of (ix3 i x s), hlt⟩ x ⟨s.val % 512, by omega⟩
  rw [e] at h
  refine h.trans ?_
  dsimp only
  obtain ⟨e1, e2⟩ := point_of i.val s.val s.isLt
  rw [hp, e1, e2]

theorem value12 (hf : (args m c).Finite) (i : Fin 4) (n : Fin 32) (x : Fin 512) : (G12 m c : Vec Ideal S4x32x1x512 .f32) (ix4 i n 0 x) =
    (args m c).mean i.val n.val x.val := by
  have hN : cfg0.N = 64 := N_0
  have hp : pt12Of (ix4 i n 0 x) = 16 * i.val + n.val / 2 := by
    change 16 * (i.val / 1 - 0) + 1 * (n.val / 2 - 0) + 1 * (0 / 1 - 0) + 1 * (x.val / 512 - 0) = _
    omega
  have hlt : pt12Of (ix4 i n 0 x) < cfg0.N := by omega
  unfold G12
  rw [dif_pos hlt]
  have e := outsAt0_sweep m c (pt12Of (ix4 i n 0 x)) hlt
  have h := stored_means m c ⟨pt12Of (ix4 i n 0 x), hlt⟩ hf (loc12Of (ix4 i n 0 x))
  rw [e] at h
  refine h.trans ?_
  change (args m c).mean (pt12Of (ix4 i n 0 x) / 16) (2 * (pt12Of (ix4 i n 0 x) % 16) + n.val % 2) (x.val % 512) = _
  rw [hp, show (16 * i.val + n.val / 2) / 16 = i.val by omega, show 2 * ((16 * i.val + n.val / 2) % 16) + n.val % 2 = n.val by omega,
    Nat.mod_eq_of_lt x.isLt]

end Cert.InprojIdeal.Inproj
-- ==== Proof.InprojFinite.lean ====
module

public import proofs.«01_k».proof.On_finite_heads
public import proofs.«01_k».proof.Proof.InprojSpec

/-! Where the claim's mask holds, the arguments the projection reads are finite. -/

@[expose] public section

set_option maxRecDepth 16384

noncomputable section

namespace Cert.On_finite_heads

open Idealize.ShloMosaic
open _root_.Inproj (Args)
open _root_.Gla (at1 at2 at3 at1_of at2_of at3_of)

/-- The mask's side conditions. -/
theorem facts : Facts := by
  constructor <;> decide

attribute [local instance] facts

open Facts

/-- A conjunction that holds, holds of each part. -/
theorem all_of_fold {ι : Type} (f : ι → BitVec 1) (l : List ι) : ∀ init : BitVec 1,
    l.foldl (fun r n => IntOp.andi r (f n)) init = 1#1 → init = 1#1 ∧ ∀ n ∈ l, f n = 1#1 := by
  induction l with
  | nil => exact fun init h => ⟨h, fun n hn => absurd hn List.not_mem_nil⟩
  | cons a l ih =>
    intro init h
    obtain ⟨h1, h2⟩ := ih _ h
    have h3 : ∀ p q : BitVec 1, IntOp.andi p q = 1#1 → p = 1#1 ∧ q = 1#1 := by decide
    obtain ⟨h4, h5⟩ := h3 _ _ h1
    refine ⟨h4, fun n hn => ?_⟩
    rcases List.mem_cons.mp hn with rfl | hn
    · exact h5
    · exact h2 n hn

/-- An array's conjunction that holds, holds at each index. -/
theorem all_of_reduce {s : Shape} {axes : List (Fin s.rank)} (x : IVec s 1) (v : IVec S_ 1) (h : s.ReducesTo axes S_) (hu : 0 < S_.numel)
    (j : S_.Idx) (e : Host.reduce IntOp.andi x v h hu j = 1#1) (i : s.Idx) : x i = 1#1 := by
  have e1 := (all_of_fold (fun n => x (s.rowMajor.symm n)) _ _ e).2 (s.rowMajor i)
    (List.mem_filter.mpr ⟨List.mem_finRange _, decide_eq_true (funext fun a => a.elim0)⟩)
  rwa [Equiv.symm_apply_apply] at e1

/-- An extended real below infinity in absolute value is a real. -/
theorem real_of (v : EReal) (h : (FloatOps.cmpf (F := Ideal) (φ := .f32) .olt (FloatOps.hostAbsf (F := Ideal) (φ := .f32) v) (FloatOps.ofBits (F := Ideal) .f32 0x7F800000#32)) = 1#1) : ∃ r : ℝ, v = r := by
  have hi : Ideal.ofBits .f32 0x7F800000#32 = ⊤ := by simp [Ideal.ofBits, Ideal.ieee]
  change Ideal.cmp .olt (max v (-v)) (Ideal.ofBits .f32 0x7F800000#32) = 1#1 at h
  rw [hi] at h
  induction v using EReal.rec with
  | bot => exact absurd h (by simp [Ideal.cmp])
  | top => exact absurd h (by simp [Ideal.cmp])
  | coe r => exact ⟨r, rfl⟩

/-- The mask. -/
def mask (a0 : FVec Ideal S4x8192x1024 .f32) (a1 : FVec Ideal S1024 .f32) (a2 : FVec Ideal S1024x4624 .f32) : IVec S_ 1 :=
  andi (andi
    (Host.reduce IntOp.andi (cmpf .olt (Host.absf a0) (broadcastInDim S4x8192x1024 ![] bcast_S_S4x8192x1024 (constant S_ .f32 0x7F800000#32)))
      (constantI S_ 1 1#1) reducesTo_S4x8192x1024_S_d0_1_2 h_S_)
    (Host.reduce IntOp.andi (cmpf .olt (Host.absf a1) (broadcastInDim S1024 ![] bcast_S_S1024 (constant S_ .f32 0x7F800000#32)))
      (constantI S_ 1 1#1) reducesTo_S1024_S_d0 h_S_))
    (Host.reduce IntOp.andi (cmpf .olt (Host.absf a2) (broadcastInDim S1024x4624 ![] bcast_S_S1024x4624 (constant S_ .f32 0x7F800000#32)))
      (constantI S_ 1 1#1) reducesTo_S1024x4624_S_d0_1 h_S_)

variable (a0 : FVec Ideal S4x8192x1024 .f32) (a1 : FVec Ideal S1024 .f32) (a2 : FVec Ideal S1024x4624 .f32)
  (a3 : FVec Ideal S3x512 .f32) (a4 : FVec Ideal S512 .f32) (a5 a6 : FVec Ideal S64 .f32)

theorem queries_mask (i : S4x8192x512.Idx) (h : (fn a0 a1 a2 a3 a4 a5 a6).2.1 i = 1#1) : ∃ j, mask a0 a1 a2 j = 1#1 := ⟨_, h⟩

theorem keys_mask (i : S4x8192x512.Idx) (h : (fn a0 a1 a2 a3 a4 a5 a6).2.2.1 i = 1#1) : ∃ j, mask a0 a1 a2 j = 1#1 := ⟨_, h⟩

theorem means_mask (i : S4x32x1x512.Idx) (h : (fn a0 a1 a2 a3 a4 a5 a6).2.2.2.2.1 i = 1#1) : ∃ j, mask a0 a1 a2 j = 1#1 := ⟨_, h⟩

/-- Where the mask holds, the arguments are finite. -/
theorem finite (h : ∃ j, mask a0 a1 a2 j = 1#1) (A : Args) (hx : A.x = at3 (a := 4) (b := 8192) (c := 1024) a0) (hn : A.norm = at1 (a := 1024) a1)
    (hw : A.w = at2 (a := 1024) (b := 4624) a2) : A.Finite := by
  obtain ⟨j, h⟩ := h
  have h3 : ∀ p q : BitVec 1, IntOp.andi p q = 1#1 → p = 1#1 ∧ q = 1#1 := by decide
  obtain ⟨h1, h2⟩ := h3 _ _ h
  obtain ⟨h0, h1⟩ := h3 _ _ h1
  refine ⟨fun b s k => ?_, fun k => ?_, fun k c => ?_⟩
  · rw [hx]
    unfold at3
    split
    · exact real_of _ (all_of_reduce _ _ _ _ _ h0 _)
    · exact ⟨0, rfl⟩
  · rw [hn]
    unfold at1
    split
    · exact real_of _ (all_of_reduce _ _ _ _ _ h1 _)
    · exact ⟨0, rfl⟩
  · rw [hw]
    unfold at2
    split
    · exact real_of _ (all_of_reduce _ _ _ _ _ h2 _)
    · exact ⟨0, rfl⟩

end Cert.On_finite_heads
-- ==== Proof.InprojTie.lean ====
module

public import proofs.«01_k».proof.Proof.InprojRefVal
public import proofs.«01_k».proof.Proof.InprojValue
public import proofs.«01_k».proof.Proof.InprojFinite

/-! The input projection's two programs side by side: on memories that agree on the arguments, each of the reference's ten results is
the kernel's — the queries, the keys and the mean keys where the mask holds. -/

@[expose] public section

set_option maxRecDepth 16384

noncomputable section

namespace Cert.Inproj

open Idealize.ShloMosaic Idealize.ShloMosaic.TcCoe Idealize.SL.Sem
open Cert.InprojRefIdeal.Inproj (proj proj_at padded convolved queries keys values means decays)
open _root_.Inproj (Args)
open Cert.InprojRefIdeal Cert.InprojRefIdeal.Gen

attribute [local instance] On_finite_heads.facts

variable (m : (ℓ : Loc InprojIdeal.nD InprojIdeal.τ InprojIdeal.sig) → Buf (Elt Ideal) ℓ)
  (m' : (ℓ : Loc InprojRefIdeal.nD InprojRefIdeal.τ InprojRefIdeal.sig) → Buf (Elt Ideal) ℓ) (c : Dev InprojIdeal.nD)

/-- The memories agree on the arguments. -/
def Agree : Prop :=
  m' (c.tc.loc InprojRefIdeal.main_arg0) = m (c.tc.loc InprojIdeal.main_arg0) ∧
  m' (c.tc.loc InprojRefIdeal.main_arg1) = m (c.tc.loc InprojIdeal.main_arg1) ∧
  m' (c.tc.loc InprojRefIdeal.main_arg2) = m (c.tc.loc InprojIdeal.main_arg2) ∧
  m' (c.tc.loc InprojRefIdeal.main_arg3) = m (c.tc.loc InprojIdeal.main_arg3) ∧
  m' (c.tc.loc InprojRefIdeal.main_arg4) = m (c.tc.loc InprojIdeal.main_arg4) ∧
  m' (c.tc.loc InprojRefIdeal.main_arg5) = m (c.tc.loc InprojIdeal.main_arg5) ∧
  m' (c.tc.loc InprojRefIdeal.main_arg6) = m (c.tc.loc InprojIdeal.main_arg6)

/-- The reference's projection. -/
abbrev refProj : FVec Ideal S4x8192x4624 .f32 :=
  proj (m' (c.tc.loc InprojRefIdeal.main_arg0)) (m' (c.tc.loc InprojRefIdeal.main_arg1)) (m' (c.tc.loc InprojRefIdeal.main_arg2))

variable {m m' c} (h : Agree m m' c)
include h

theorem projection (b : Fin 4) (s : Fin 8192) (x : Fin 4624) :
    refProj m' c (ix3 b s x) = (InprojIdeal.Inproj.args m c).p b.val s.val x.val := by
  obtain ⟨h0, h1, h2, h3, h4, h5, h6⟩ := h
  unfold refProj
  rw [h0, h1, h2]
  exact proj_at _ _ _ (m (c.tc.loc InprojIdeal.main_arg3)) (m (c.tc.loc InprojIdeal.main_arg4)) (m (c.tc.loc InprojIdeal.main_arg5))
    (m (c.tc.loc InprojIdeal.main_arg6)) b s x

/-- Where the mask holds, the arguments are finite. -/
theorem finite (hm : ∃ j, On_finite_heads.mask (m (c.tc.loc InprojIdeal.main_arg0)) (m (c.tc.loc InprojIdeal.main_arg1))
    (m (c.tc.loc InprojIdeal.main_arg2)) j = 1#1) : (InprojIdeal.Inproj.args m c).Finite :=
  On_finite_heads.finite _ _ _ hm _ rfl rfl rfl

theorem tie_conv : convolved (m' (c.tc.loc InprojRefIdeal.main_arg3)) (m' (c.tc.loc InprojRefIdeal.main_arg4)) (refProj m' c) = InprojIdeal.Value.G8 m c := by
  have hp := projection h
  obtain ⟨h0, h1, h2, h3, h4, h5, h6⟩ := h
  rw [h3, h4]
  funext i
  rw [eq_ix3 (n0 := 4) (n1 := 8192) (n2 := 512) i]
  exact (InprojRefIdeal.Inproj.convolved_at _ _ _ _ hp rfl rfl _ _ _).trans (InprojIdeal.Inproj.value8 m c _ _ _).symm

theorem tie_queries (i : S4x8192x512.Idx) (hm : (On_finite_heads.fn (F := Ideal) (m (c.tc.loc InprojIdeal.main_arg0)) (m (c.tc.loc InprojIdeal.main_arg1)) (m (c.tc.loc InprojIdeal.main_arg2)) (m (c.tc.loc InprojIdeal.main_arg3)) (m (c.tc.loc InprojIdeal.main_arg4)) (m (c.tc.loc InprojIdeal.main_arg5)) (m (c.tc.loc InprojIdeal.main_arg6))).2.1 i = 1#1) :
    queries (m' (c.tc.loc InprojRefIdeal.main_arg5)) (refProj m' c) i = InprojIdeal.Value.G9 m c i := by
  have hf := finite h (On_finite_heads.queries_mask _ _ _ _ _ _ _ _ hm)
  have hp := projection h
  obtain ⟨h0, h1, h2, h3, h4, h5, h6⟩ := h
  rw [h5, eq_ix3 (n0 := 4) (n1 := 8192) (n2 := 512) i]
  exact (InprojRefIdeal.Inproj.queries_at _ _ _ hp _ _ _).trans (InprojIdeal.Inproj.value9 m c hf _ _ _).symm

theorem tie_keys (i : S4x8192x512.Idx) (hm : (On_finite_heads.fn (F := Ideal) (m (c.tc.loc InprojIdeal.main_arg0)) (m (c.tc.loc InprojIdeal.main_arg1)) (m (c.tc.loc InprojIdeal.main_arg2)) (m (c.tc.loc InprojIdeal.main_arg3)) (m (c.tc.loc InprojIdeal.main_arg4)) (m (c.tc.loc InprojIdeal.main_arg5)) (m (c.tc.loc InprojIdeal.main_arg6))).2.2.1 i = 1#1) :
    keys (m' (c.tc.loc InprojRefIdeal.main_arg6)) (refProj m' c) i = InprojIdeal.Value.G10 m c i := by
  have hf := finite h (On_finite_heads.keys_mask _ _ _ _ _ _ _ _ hm)
  have hp := projection h
  obtain ⟨h0, h1, h2, h3, h4, h5, h6⟩ := h
  rw [h6, eq_ix3 (n0 := 4) (n1 := 8192) (n2 := 512) i]
  exact (InprojRefIdeal.Inproj.keys_at _ _ _ hp _ _ _).trans (InprojIdeal.Inproj.value10 m c hf _ _ _).symm

theorem tie_values : values (refProj m' c) = InprojIdeal.Value.G11 m c := by
  funext i
  rw [eq_ix3 (n0 := 4) (n1 := 512) (n2 := 8192) i]
  exact (InprojRefIdeal.Inproj.values_at _ _ (projection h) _ _ _).trans (InprojIdeal.Inproj.value11 m c _ _ _).symm

omit h in
theorem mean_ix (i : S4x32x1x512.Idx) : i = ix4 (i 0 : Fin 4) (i 1 : Fin 32) 0 (i 3 : Fin 512) := by
  have e2 : i 2 = (0 : Fin 1) := Subsingleton.elim (α := Fin 1) _ _
  funext a
  fin_cases a
  · rfl
  · rfl
  · exact e2
  · rfl

theorem tie_means (i : S4x32x1x512.Idx) (hm : (On_finite_heads.fn (F := Ideal) (m (c.tc.loc InprojIdeal.main_arg0)) (m (c.tc.loc InprojIdeal.main_arg1)) (m (c.tc.loc InprojIdeal.main_arg2)) (m (c.tc.loc InprojIdeal.main_arg3)) (m (c.tc.loc InprojIdeal.main_arg4)) (m (c.tc.loc InprojIdeal.main_arg5)) (m (c.tc.loc InprojIdeal.main_arg6))).2.2.2.2.1 i = 1#1) :
    means (m' (c.tc.loc InprojRefIdeal.main_arg6)) (refProj m' c) i = InprojIdeal.Value.G12 m c i := by
  have hf := finite h (On_finite_heads.means_mask _ _ _ _ _ _ _ _ hm)
  have hp := projection h
  obtain ⟨h0, h1, h2, h3, h4, h5, h6⟩ := h
  rw [h6, mean_ix i]
  exact (InprojRefIdeal.Inproj.means_at _ _ _ hp _ _ _).trans (InprojIdeal.Inproj.value12 m c hf _ _ _).symm

theorem tie_gq : extractStridedSlice S4x8192x256 ![0, 0, 3072] (refProj m' c) slices_S4x8192x4624_S4x8192x256_0_0_3072 =
    InprojIdeal.Value.G13 m c := by
  funext i
  rw [eq_ix3 (n0 := 4) (n1 := 8192) (n2 := 256) i]
  exact (InprojRefIdeal.Inproj.slice256_at _ _ (projection h) 3072 _ _ _ (i 2 : Fin 256) (by have h2 : (i 2).val < 256 := (i 2).isLt; omega)).trans
    (InprojIdeal.Inproj.value13 m c _ _ _).symm

theorem tie_gk : extractStridedSlice S4x8192x256 ![0, 0, 3328] (refProj m' c) slices_S4x8192x4624_S4x8192x256_0_0_3328 =
    InprojIdeal.Value.G14 m c := by
  funext i
  rw [eq_ix3 (n0 := 4) (n1 := 8192) (n2 := 256) i]
  exact (InprojRefIdeal.Inproj.slice256_at _ _ (projection h) 3328 _ _ _ (i 2 : Fin 256) (by have h2 : (i 2).val < 256 := (i 2).isLt; omega)).trans
    (InprojIdeal.Inproj.value14 m c _ _ _).symm

theorem tie_gv : extractStridedSlice S4x8192x512 ![0, 0, 3584] (refProj m' c) slices_S4x8192x4624_S4x8192x512_0_0_3584 =
    InprojIdeal.Value.G15 m c := by
  funext i
  rw [eq_ix3 (n0 := 4) (n1 := 8192) (n2 := 512) i]
  exact (InprojRefIdeal.Inproj.slice512_at _ _ (projection h) 3584 _ _ _ (i 2 : Fin 512) (by have h2 : (i 2).val < 512 := (i 2).isLt; omega)).trans
    (InprojIdeal.Inproj.value15 m c _ _ _).symm

theorem tie_gr : extractStridedSlice S4x8192x512 ![0, 0, 4096] (refProj m' c) slices_S4x8192x4624_S4x8192x512_0_0_4096 =
    InprojIdeal.Value.G16 m c := by
  funext i
  rw [eq_ix3 (n0 := 4) (n1 := 8192) (n2 := 512) i]
  exact (InprojRefIdeal.Inproj.slice512_at _ _ (projection h) 4096 _ _ _ (i 2 : Fin 512) (by have h2 : (i 2).val < 512 := (i 2).isLt; omega)).trans
    (InprojIdeal.Inproj.value16 m c _ _ _).symm

/-- A column past the weights' columns projects to 0. -/
theorem past (b s x : ℕ) (hx : 4624 ≤ x) : (InprojIdeal.Inproj.args m c).p b s x = 0 := by
  unfold Args.p
  refine Finset.sum_eq_zero fun k _ => ?_
  have e : (InprojIdeal.Inproj.args m c).w k.val x = 0 := dif_neg fun h => by omega
  rw [e, mul_zero]

theorem tie_gz : decays (refProj m' c) = InprojIdeal.Value.G17 m c := by
  funext i
  rw [eq_ix3 (n0 := 4) (n1 := 8192) (n2 := 128) i]
  refine (InprojRefIdeal.Inproj.decays_at _ _ (projection h) _ _ _).trans (Eq.trans ?_ (InprojIdeal.Inproj.value17 m c _ _ _).symm)
  by_cases hx : (i 2 : Fin 128).val < 16
  · exact if_pos hx
  · exact (if_neg hx).trans (past h _ _ _ (by omega)).symm

end Cert.Inproj
-- ==== Proof.MergeSpec.lean ====
module

public import proofs.«01_k».proof.Proof.GlaSpec

/-! The layer's merge as plain formulas over the extended reals, read at natural-number coordinates: both programs are shown to
compute them. The three branches' outputs are weighted by gates of the normed input and added, projected and added to the input;
the sum is normed once more. -/

@[expose] public section

noncomputable section

namespace Merge

open Idealize.ShloMosaic

/-- The merge's arguments, read at natural-number coordinates; `y n` is branch `n`'s output. -/
structure Args where
  x : ℕ → ℕ → EReal
  y : ℕ → ℕ → ℕ → EReal
  norm : ℕ → EReal
  wg : ℕ → ℕ → ℕ → EReal
  wb : ℕ → ℕ → ℕ → EReal
  wo : ℕ → ℕ → EReal
  norm2 : ℕ → EReal

/-- A row's norm with the weight `g`. -/
def normed (f g : ℕ → EReal) (k : ℕ) : EReal :=
  f k *
      Ideal.rsqrt (Ideal.div (∑ i : Fin 1024, f i.val * f i.val) (Ideal.ofBits .f32 0x44800000#32) +
        Ideal.ofBits .f32 0x358637BD#32) *
    g k

variable (A : Args)

/-- The normed input. -/
def Args.h (r k : ℕ) : EReal := normed (A.x r) A.norm k

/-- Branch `n`, gated. -/
def Args.term (n r x : ℕ) : EReal :=
  Ideal.logistic (∑ k : Fin 1024, A.h r k.val * A.wg n k.val x) * ∑ k : Fin 512, A.y n r k.val * A.wb n k.val x

/-- The branches together. -/
def Args.merged (r x : ℕ) : EReal := A.term 0 r x + A.term 1 r x + A.term 2 r x

/-- The layer's row after the merge. -/
def Args.xo (r x : ℕ) : EReal := A.x r x + ∑ k : Fin 1024, A.merged r k.val * A.wo k.val x

/-- Its norm. -/
def Args.h2 (r x : ℕ) : EReal := normed (A.xo r) A.norm2 x

end Merge

end
-- ==== Proof.MergeRefVal.lean ====
module

public import proofs.«01_k».proof.Proof.Gen.MergeRefIdeal.Run
public import proofs.«01_k».proof.Proof.MergeSpec
public import Idealize.ShloMosaic.Lib.Pipeline.ValueKit

/-! What the reference's operations compute, in the formulas of `Merge.Args`. -/

@[expose] public section

set_option maxRecDepth 16384

noncomputable section

namespace Cert.MergeRefIdeal.Merge

open Cert.MergeRefIdeal Cert.MergeRefIdeal.Gen Idealize.ShloMosaic Idealize.ShloMosaic.TcCoe Idealize.SL.Sem
open _root_.Merge (Args)
open _root_.Gla (at1 at2 at3 at1_of at2_of at3_of)

variable (a0 : FVec Ideal S32768x1024 .f32) (a1 a2 a3 : FVec Ideal S32768x512 .bf16) (a4 : FVec Ideal S1024 .f32)
  (a5 : FVec Ideal S3x1024x1024 .f32) (a6 : FVec Ideal S3x512x1024 .f32) (a7 : FVec Ideal S1024x1024 .f32) (a8 : FVec Ideal S1024 .f32)

/-- The merge's arguments, of the arrays. -/
def ofArrays : Args where
  x := at2 (a := 32768) (b := 1024) a0
  y := fun n => if n = 0 then at2 (a := 32768) (b := 512) a1 else if n = 1 then at2 (a := 32768) (b := 512) a2
    else at2 (a := 32768) (b := 512) a3
  norm := at1 (a := 1024) a4
  wg := at3 (a := 3) (b := 1024) (c := 1024) a5
  wb := at3 (a := 3) (b := 512) (c := 1024) a6
  wo := at2 (a := 1024) (b := 1024) a7
  norm2 := at1 (a := 1024) a8

/-! The reference's results, as operations on the arrays. -/

/-- The norm of the rows `X` with the weight `g`. -/
def normedRows (X : FVec Ideal S32768x1024 .f32) (g : FVec Ideal S1024 .f32) : FVec Ideal S32768x1024 .f32 :=
  mulf (mulf X (broadcastInDim S32768x1024 ![0, 1] bcast_S32768x1_S32768x1024_0_1 (Host.rsqrt (addf
    (Host.divf (broadcastInDim S32768x1 ![0] bcast_S32768_S32768x1_0
      (Host.reduceAdd (mulf X X) (constant S_ .f32 0x00000000#32) reducesTo_S32768x1024_S32768_d1 h_S_))
      (broadcastInDim S32768x1 ![] bcast_S_S32768x1 (constant S_ .f32 0x44800000#32)))
    (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

/-- A branch `Y`, projected by `B` and gated by the projection of `H` by `W`. -/
def gated (H : FVec Ideal S32768x1024 .f32) (W : FVec Ideal S1x1024x1024 .f32) (Y : FVec Ideal S32768x512 .bf16) (B : FVec Ideal S1x512x1024 .f32) :
    FVec Ideal S32768x1024 .f32 :=
  mulf (Host.divf (broadcastInDim S32768x1024 ![] bcast_S_S32768x1024 (constant S_ .f32 0x3F800000#32))
    (addf (broadcastInDim S32768x1024 ![] bcast_S_S32768x1024 (constant S_ .f32 0x3F800000#32))
      (Host.exp (Host.negf (Host.dotGeneral dot_S32768x1024_S1024x1024_S32768x1024_1_0_0_1_n_n none H
        (shapeCast _ W shapeCasts_S1x1024x1024_S1024x1024))))))
    (Host.dotGeneral dot_S32768x512_S512x1024_S32768x1024_1_0_0_1_n_n none (extf .f32 Y bitsLt_bf16_f32)
      (shapeCast _ B shapeCasts_S1x512x1024_S512x1024))

/-- The branches together. -/
def mergedRows : FVec Ideal S32768x1024 .f32 :=
  addf (addf (addf (broadcastInDim S32768x1024 ![] bcast_S_S32768x1024 (constant S_ .f32 0x00000000#32))
    (gated (normedRows a0 a4) (extractStridedSlice S1x1024x1024 ![0, 0, 0] a5 slices_S3x1024x1024_S1x1024x1024_0_0_0) a1
      (extractStridedSlice S1x512x1024 ![0, 0, 0] a6 slices_S3x512x1024_S1x512x1024_0_0_0)))
    (gated (normedRows a0 a4) (extractStridedSlice S1x1024x1024 ![1, 0, 0] a5 slices_S3x1024x1024_S1x1024x1024_1_0_0) a2
      (extractStridedSlice S1x512x1024 ![1, 0, 0] a6 slices_S3x512x1024_S1x512x1024_1_0_0)))
    (gated (normedRows a0 a4) (extractStridedSlice S1x1024x1024 ![2, 0, 0] a5 slices_S3x1024x1024_S1x1024x1024_2_0_0) a3
      (extractStridedSlice S1x512x1024 ![2, 0, 0] a6 slices_S3x512x1024_S1x512x1024_2_0_0))

/-- The rows after the merge. -/
def outRows : FVec Ideal S32768x1024 .f32 :=
  addf a0 (Host.dotGeneral dot_S32768x1024_S1024x1024_S32768x1024_1_0_0_1_n_n none (mergedRows a0 a1 a2 a3 a4 a5 a6) a7)

/-- Their norms, in rows of 128. -/
def laneRows : FVec Ideal S262144x128 .f32 :=
  shapeCast _ (normedRows (outRows a0 a1 a2 a3 a4 a5 a6 a7) a8) shapeCasts_S32768x1024_S262144x128

theorem normedRows_at (X : FVec Ideal S32768x1024 .f32) (g : FVec Ideal S1024 .f32) (f : ℕ → ℕ → EReal) (w : ℕ → EReal)
    (hX : ∀ (r : Fin 32768) (k : Fin 1024), X (ix2 r k) = f r.val k.val) (hg : ∀ k : Fin 1024, g (ix1 k) = w k.val) (r : Fin 32768) (k : Fin 1024) :
    normedRows X g (ix2 r k) = _root_.Merge.normed (f r.val) w k.val := by
  pointwise [normedRows, hX, hg]
  rfl

/-- A branch, gated. -/
theorem gated_at (A : Args) (n : ℕ) (H : FVec Ideal S32768x1024 .f32) (W : FVec Ideal S1x1024x1024 .f32) (Y : FVec Ideal S32768x512 .bf16)
    (B : FVec Ideal S1x512x1024 .f32) (hH : ∀ (r : Fin 32768) (k : Fin 1024), H (ix2 r k) = A.h r.val k.val)
    (hW : ∀ k x : Fin 1024, W (ix3 0 k x) = A.wg n k.val x.val) (hY : ∀ (r : Fin 32768) (k : Fin 512), Y (ix2 r k) = A.y n r.val k.val)
    (hB : ∀ (k : Fin 512) (x : Fin 1024), B (ix3 0 k x) = A.wb n k.val x.val) (r : Fin 32768) (x : Fin 1024) :
    gated H W Y B (ix2 r x) = A.term n r.val x.val := by
  pointwise [gated, hH, hW, hY, hB]
  rfl

theorem mergedRows_at (r : Fin 32768) (x : Fin 1024) :
    mergedRows a0 a1 a2 a3 a4 a5 a6 (ix2 r x) = (ofArrays a0 a1 a2 a3 a4 a5 a6 a7 a8).merged r.val x.val := by
  have hH : ∀ (r : Fin 32768) (k : Fin 1024), normedRows a0 a4 (ix2 r k) = (ofArrays a0 a1 a2 a3 a4 a5 a6 a7 a8).h r.val k.val :=
    normedRows_at a0 a4 _ _ (fun r k => (at2_of (a := 32768) (b := 1024) a0 r k).symm) (fun k => (at1_of (a := 1024) a4 k).symm)
  have e0 := gated_at (ofArrays a0 a1 a2 a3 a4 a5 a6 a7 a8) 0 _ (extractStridedSlice S1x1024x1024 ![0, 0, 0] a5 slices_S3x1024x1024_S1x1024x1024_0_0_0)
    a1 (extractStridedSlice S1x512x1024 ![0, 0, 0] a6 slices_S3x512x1024_S1x512x1024_0_0_0) hH
    (fun k x => Eq.trans (by pointwise) (at3_of (a := 3) (b := 1024) (c := 1024) a5 0 k x).symm)
    (fun r k => (at2_of (a := 32768) (b := 512) a1 r k).symm)
    (fun k x => Eq.trans (by pointwise) (at3_of (a := 3) (b := 512) (c := 1024) a6 0 k x).symm)
  have e1 := gated_at (ofArrays a0 a1 a2 a3 a4 a5 a6 a7 a8) 1 _ (extractStridedSlice S1x1024x1024 ![1, 0, 0] a5 slices_S3x1024x1024_S1x1024x1024_1_0_0)
    a2 (extractStridedSlice S1x512x1024 ![1, 0, 0] a6 slices_S3x512x1024_S1x512x1024_1_0_0) hH
    (fun k x => Eq.trans (by pointwise) (at3_of (a := 3) (b := 1024) (c := 1024) a5 1 k x).symm)
    (fun r k => (at2_of (a := 32768) (b := 512) a2 r k).symm)
    (fun k x => Eq.trans (by pointwise) (at3_of (a := 3) (b := 512) (c := 1024) a6 1 k x).symm)
  have e2 := gated_at (ofArrays a0 a1 a2 a3 a4 a5 a6 a7 a8) 2 _ (extractStridedSlice S1x1024x1024 ![2, 0, 0] a5 slices_S3x1024x1024_S1x1024x1024_2_0_0)
    a3 (extractStridedSlice S1x512x1024 ![2, 0, 0] a6 slices_S3x512x1024_S1x512x1024_2_0_0) hH
    (fun k x => Eq.trans (by pointwise) (at3_of (a := 3) (b := 1024) (c := 1024) a5 2 k x).symm)
    (fun r k => (at2_of (a := 32768) (b := 512) a3 r k).symm)
    (fun k x => Eq.trans (by pointwise) (at3_of (a := 3) (b := 512) (c := 1024) a6 2 k x).symm)
  unfold mergedRows
  generalize gated _ _ a1 _ = T0 at e0
  generalize gated _ _ a2 _ = T1 at e1
  generalize gated _ _ a3 _ = T2 at e2
  pointwise [e0, e1, e2]
  rfl

theorem outRows_at (r : Fin 32768) (x : Fin 1024) :
    outRows a0 a1 a2 a3 a4 a5 a6 a7 (ix2 r x) = (ofArrays a0 a1 a2 a3 a4 a5 a6 a7 a8).xo r.val x.val := by
  have hM := mergedRows_at a0 a1 a2 a3 a4 a5 a6 a7 a8
  unfold outRows
  generalize mergedRows a0 a1 a2 a3 a4 a5 a6 = M at hM
  pointwise [hM]
  refine congrArg₂ (· + ·) (at2_of (a := 32768) (b := 1024) a0 r x).symm (Finset.sum_congr rfl fun k _ => ?_)
  exact congrArg _ (at2_of (a := 1024) (b := 1024) a7 k x).symm

theorem laneRows_at (i : Fin 262144) (l : Fin 128) :
    laneRows a0 a1 a2 a3 a4 a5 a6 a7 a8 (ix2 i l) = (ofArrays a0 a1 a2 a3 a4 a5 a6 a7 a8).h2 (i.val / 8) (128 * (i.val % 8) + l.val) := by
  have hN : ∀ (r : Fin 32768) (k : Fin 1024), normedRows (outRows a0 a1 a2 a3 a4 a5 a6 a7) a8 (ix2 r k) =
      (ofArrays a0 a1 a2 a3 a4 a5 a6 a7 a8).h2 r.val k.val :=
    normedRows_at _ a8 _ _ (outRows_at a0 a1 a2 a3 a4 a5 a6 a7 a8) (fun k => (at1_of (a := 1024) a8 k).symm)
  unfold laneRows
  generalize normedRows (outRows a0 a1 a2 a3 a4 a5 a6 a7) a8 = N at hN
  pointwise [hN]
  rw [Nat.mul_comm 128]

end Cert.MergeRefIdeal.Merge

end
-- ==== Proof.MergeRun.lean ====
/-
The merge call's body, run once at any float values. `Mems` gathers the buffers the body is handed, `Ins` the contents of
its twelve inputs. A run (`Found`) is the list of stores each output's buffer ends with, together with the proof that the
body, started on the inputs' contents, ends holding the inputs unchanged and the outputs with those stores written. The
body branches once, on the first grid point, where it clears the running counts: `runFirst` is that point, `runLater` any
other.
-/
module

public import proofs.«01_k».proof.Proof.Gen.MergeIdeal.Frame
public import proofs.«01_k».proof.Proof.Gen.MergeIdeal.Skeleton

@[expose] public section

set_option maxRecDepth 16384

noncomputable section

namespace Cert.MergeIdeal.Whole

open Cert.MergeIdeal Cert.MergeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The buffers the body is handed, each a whole one: twelve inputs, four outputs, the running counts. -/
structure Mems where
  a1 : Memref sig .tc .vmem S512x1024 .f32
  h1 : a1.IsWhole
  a2 : Memref sig .tc .vmem S512x512 .bf16
  h2 : a2.IsWhole
  a3 : Memref sig .tc .vmem S512x512 .bf16
  h3 : a3.IsWhole
  a4 : Memref sig .tc .vmem S512x512 .bf16
  h4 : a4.IsWhole
  a5 : Memref sig .tc .vmem S1x1024 .f32
  h5 : a5.IsWhole
  a6 : Memref sig .tc .vmem S3x1024x1024 .bf16
  h6 : a6.IsWhole
  a7 : Memref sig .tc .vmem S3x512x1024 .bf16
  h7 : a7.IsWhole
  a8 : Memref sig .tc .vmem S1024x1024 .bf16
  h8 : a8.IsWhole
  a9 : Memref sig .tc .vmem S1x1024 .f32
  h9 : a9.IsWhole
  a10 : Memref sig .tc .vmem S1024x128 .bf16
  h10 : a10.IsWhole
  a11 : Memref sig .tc .vmem S1024x128 .bf16
  h11 : a11.IsWhole
  a12 : Memref sig .tc .vmem S1x128 .f32
  h12 : a12.IsWhole
  a13 : Memref sig .tc .vmem S512x1024 .f32
  h13 : a13.IsWhole
  a14 : Memref sig .tc .vmem S4096x128 .f32
  h14 : a14.IsWhole
  a15 : Memref sig .tc .vmem S512x8 .f32
  h15 : a15.IsWhole
  a16 : Memref sig .tc .vmem S1x128 .f32
  h16 : a16.IsWhole
  a17 : Memref sig .tc .vmem S1x128 .f32
  h17 : a17.IsWhole

/-- The contents of the twelve inputs. -/
structure Ins (F : FTy → Type) where
  x0 : Vec F S512x1024 .f32
  x1 : Vec F S512x512 .bf16
  x2 : Vec F S512x512 .bf16
  x3 : Vec F S512x512 .bf16
  x4 : Vec F S1x1024 .f32
  x5 : Vec F S3x1024x1024 .bf16
  x6 : Vec F S3x512x1024 .bf16
  x7 : Vec F S1024x1024 .bf16
  x8 : Vec F S1x1024 .f32
  x9 : Vec F S1024x128 .bf16
  x10 : Vec F S1024x128 .bf16
  x11 : Vec F S1x128 .f32

/-- The branch's condition: the grid coordinate is zero. -/
abbrev isFirst (i : grid0.Coords) : Prop :=
  (Scalar.cmpi .ne (Scalar.extui (Scalar.cmpi .eq (BitVec.ofNat 32 (i 0).val) 0#32)) 0#32) = 1#1

theorem isFirst_iff (t : Fin cfg0.N) : isFirst (grid0.coords t) ↔ t.val % 64 = 0 := by
  have ht : t.val < 64 := Nat.lt_of_lt_of_eq t.isLt N_0
  have e0 : (grid0.coords t 0).val = t.val / 1 % 64 := Pipeline.Grid.coords_val t 0 (by decide) rfl
  simp only [isFirst, e0]
  word_cmp

/-- The inputs' buffers at their contents. -/
def held (c : Dev nD) (M : Mems) (X : Ins F) : sProp 𝕄 :=
  iprop(owns (c : Thread nD τ) M.a1 fullShare X.x0 ∗ owns (c : Thread nD τ) M.a2 fullShare X.x1 ∗ owns (c : Thread nD τ) M.a3 fullShare X.x2 ∗ owns (c : Thread nD τ) M.a4 fullShare X.x3 ∗ owns (c : Thread nD τ) M.a5 fullShare X.x4 ∗ owns (c : Thread nD τ) M.a6 fullShare X.x5 ∗ owns (c : Thread nD τ) M.a7 fullShare X.x6 ∗ owns (c : Thread nD τ) M.a8 fullShare X.x7 ∗ owns (c : Thread nD τ) M.a9 fullShare X.x8 ∗ owns (c : Thread nD τ) M.a10 fullShare X.x9 ∗ owns (c : Thread nD τ) M.a11 fullShare X.x10 ∗ owns (c : Thread nD τ) M.a12 fullShare X.x11)

/-- A run of the body from the counts' buffer as `S` says: the stores found, and that the body makes exactly them. -/
abbrev Found (c : Dev nD) (i : grid0.Coords) (M : Mems) (X : Ins F) (S : sProp 𝕄) : Type :=
  Σ' (L12 : List (View.Piece (Elt F) S512x1024 .f32)) (L13 : List (View.Piece (Elt F) S4096x128 .f32))
    (L14 : List (View.Piece (Elt F) S512x8 .f32)) (L15 : List (View.Piece (Elt F) S1x128 .f32)),
    { LS : List (View.Piece (Elt F) S1x128 .f32) //
      ∀ (E : Set ℕ) (K : PUnit → sProp 𝕄),
        iprop(held c M X ∗ (∃ d, owns (c : Thread nD τ) M.a13 fullShare d) ∗ (∃ d, owns (c : Thread nD τ) M.a14 fullShare d)
            ∗ (∃ d, owns (c : Thread nD τ) M.a15 fullShare d) ∗ (∃ d, owns (c : Thread nD τ) M.a16 fullShare d) ∗ S
            ∗ (iprop(held c M X
                ∗ (∃ f, M.a13.view.loc (c : Thread nD τ) ↦[M.a13.view.set]{fullShare} M.a13.view.writes (Elt F) f L12)
                ∗ (∃ f, M.a14.view.loc (c : Thread nD τ) ↦[M.a14.view.set]{fullShare} M.a14.view.writes (Elt F) f L13)
                ∗ (∃ f, M.a15.view.loc (c : Thread nD τ) ↦[M.a15.view.set]{fullShare} M.a15.view.writes (Elt F) f L14)
                ∗ (∃ f, M.a16.view.loc (c : Thread nD τ) ↦[M.a16.view.set]{fullShare} M.a16.view.writes (Elt F) f L15)
                ∗ (∃ f, M.a17.view.loc (c : Thread nD τ) ↦[M.a17.view.set]{fullShare} M.a17.view.writes (Elt F) f LS)) -∗ K ⟨⟩))
          ⊢ wp frame (wpE (defs₀ (F := F)) Variants.none c none) E
              (cc0_merge_route i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17) K }

set_option maxHeartbeats 4000000 in
/-- The body at the first point: the counts' buffer may hold anything. -/
def runFirst (c : Dev nD) (i : grid0.Coords) (M : Mems) (hc : isFirst i) (X : Ins F) :
    Found c i M X iprop(∃ d, owns (c : Thread nD τ) M.a17 fullShare d) := by
  refine ⟨?_, ?_, ?_, ?_, ?_, fun E K => ?run⟩
  case run =>
    simp only [cc0_merge_route_eq_skeleton]; unfold cc0_merge_route_skel
    simp only [k0_part1_eq_skeleton, k0_part2_eq_skeleton, k0_part3_eq_skeleton, k0_part4_eq_skeleton,
      k0_part5_eq_skeleton, k0_part6_eq_skeleton]
    unfold held owns
    iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩⟩,
      ⟨%d12, %f12, -, H12⟩, ⟨%d13, %f13, -, H13⟩, ⟨%d14, %f14, -, H14⟩, ⟨%d15, %f15, -, H15⟩, ⟨%ds, %fs, -, HS⟩, Hk⟩
    obtain rfl := M.h1.eq_unread e0; obtain rfl := M.h2.eq_unread e1; obtain rfl := M.h3.eq_unread e2; obtain rfl := M.h4.eq_unread e3
    obtain rfl := M.h5.eq_unread e4; obtain rfl := M.h6.eq_unread e5; obtain rfl := M.h7.eq_unread e6; obtain rfl := M.h8.eq_unread e7
    obtain rfl := M.h9.eq_unread e8; obtain rfl := M.h10.eq_unread e9; obtain rfl := M.h11.eq_unread e10; obtain rfl := M.h12.eq_unread e11
    sl_exec (disch := first | sl_exact hc)
    sl_step
    iapply Hk
    isplitl [H0 H1 H2 H3 H4 H5 H6 H7 H8 H9 H10 H11]
    · isplitl [H0]; · iexists _; isplitr; (· ipureintro; exact M.h1.read_unread _); iexact H0
      isplitl [H1]; · iexists _; isplitr; (· ipureintro; exact M.h2.read_unread _); iexact H1
      isplitl [H2]; · iexists _; isplitr; (· ipureintro; exact M.h3.read_unread _); iexact H2
      isplitl [H3]; · iexists _; isplitr; (· ipureintro; exact M.h4.read_unread _); iexact H3
      isplitl [H4]; · iexists _; isplitr; (· ipureintro; exact M.h5.read_unread _); iexact H4
      isplitl [H5]; · iexists _; isplitr; (· ipureintro; exact M.h6.read_unread _); iexact H5
      isplitl [H6]; · iexists _; isplitr; (· ipureintro; exact M.h7.read_unread _); iexact H6
      isplitl [H7]; · iexists _; isplitr; (· ipureintro; exact M.h8.read_unread _); iexact H7
      isplitl [H8]; · iexists _; isplitr; (· ipureintro; exact M.h9.read_unread _); iexact H8
      isplitl [H9]; · iexists _; isplitr; (· ipureintro; exact M.h10.read_unread _); iexact H9
      isplitl [H10]; · iexists _; isplitr; (· ipureintro; exact M.h11.read_unread _); iexact H10
      iexists _; isplitr; (· ipureintro; exact M.h12.read_unread _); iexact H11
    isplitl [H12]; · iexists _; iexact H12
    isplitl [H13]; · iexists _; iexact H13
    isplitl [H14]; · iexists _; iexact H14
    isplitl [H15]; · iexists _; iexact H15
    iexists _; iexact HS

set_option maxHeartbeats 4000000 in
/-- The body at any other point: the counts' buffer holds `xs`. -/
def runLater (c : Dev nD) (i : grid0.Coords) (M : Mems) (hc : ¬isFirst i) (X : Ins F) (xs : Vec F S1x128 .f32) :
    Found c i M X (owns (c : Thread nD τ) M.a17 fullShare xs) := by
  refine ⟨?_, ?_, ?_, ?_, ?_, fun E K => ?run⟩
  case run =>
    simp only [cc0_merge_route_eq_skeleton]; unfold cc0_merge_route_skel
    simp only [k0_part1_eq_skeleton, k0_part2_eq_skeleton, k0_part3_eq_skeleton, k0_part4_eq_skeleton,
      k0_part5_eq_skeleton, k0_part6_eq_skeleton]
    unfold held owns
    iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩⟩,
      ⟨%d12, %f12, -, H12⟩, ⟨%d13, %f13, -, H13⟩, ⟨%d14, %f14, -, H14⟩, ⟨%d15, %f15, -, H15⟩, ⟨%fs, %es, HS⟩, Hk⟩
    obtain rfl := M.h1.eq_unread e0; obtain rfl := M.h2.eq_unread e1; obtain rfl := M.h3.eq_unread e2; obtain rfl := M.h4.eq_unread e3
    obtain rfl := M.h5.eq_unread e4; obtain rfl := M.h6.eq_unread e5; obtain rfl := M.h7.eq_unread e6; obtain rfl := M.h8.eq_unread e7
    obtain rfl := M.h9.eq_unread e8; obtain rfl := M.h10.eq_unread e9; obtain rfl := M.h11.eq_unread e10; obtain rfl := M.h12.eq_unread e11
    obtain rfl := M.h17.eq_unread es
    sl_exec (disch := first | sl_exact hc)
    sl_step
    iapply Hk
    isplitl [H0 H1 H2 H3 H4 H5 H6 H7 H8 H9 H10 H11]
    · isplitl [H0]; · iexists _; isplitr; (· ipureintro; exact M.h1.read_unread _); iexact H0
      isplitl [H1]; · iexists _; isplitr; (· ipureintro; exact M.h2.read_unread _); iexact H1
      isplitl [H2]; · iexists _; isplitr; (· ipureintro; exact M.h3.read_unread _); iexact H2
      isplitl [H3]; · iexists _; isplitr; (· ipureintro; exact M.h4.read_unread _); iexact H3
      isplitl [H4]; · iexists _; isplitr; (· ipureintro; exact M.h5.read_unread _); iexact H4
      isplitl [H5]; · iexists _; isplitr; (· ipureintro; exact M.h6.read_unread _); iexact H5
      isplitl [H6]; · iexists _; isplitr; (· ipureintro; exact M.h7.read_unread _); iexact H6
      isplitl [H7]; · iexists _; isplitr; (· ipureintro; exact M.h8.read_unread _); iexact H7
      isplitl [H8]; · iexists _; isplitr; (· ipureintro; exact M.h9.read_unread _); iexact H8
      isplitl [H9]; · iexists _; isplitr; (· ipureintro; exact M.h10.read_unread _); iexact H9
      isplitl [H10]; · iexists _; isplitr; (· ipureintro; exact M.h11.read_unread _); iexact H10
      iexists _; isplitr; (· ipureintro; exact M.h12.read_unread _); iexact H11
    isplitl [H12]; · iexists _; iexact H12
    isplitl [H13]; · iexists _; iexact H13
    isplitl [H14]; · iexists _; iexact H14
    isplitl [H15]; · iexists _; iexact H15
    iexists _; iexact HS

end Cert.MergeIdeal.Whole

end
-- ==== Proof.MergeFrame.lean ====
/-
The merge call's frame, from the runs of its body (MergeRun.lean). Each output's stores cover its buffer, so what the buffer
holds afterwards does not depend on what it held before; for the second norm's rows the stores are eight strided rectangles,
the j-th taking the rows that leave j over 8, and covering is that every row leaves one of those remainders. From there: what
the outputs and the running counts hold after each grid point, the pipeline's data, and the launch.
-/
module

public import proofs.«01_k».proof.Proof.MergeRun

@[expose] public section

set_option maxRecDepth 16384

noncomputable section

namespace Cert.MergeIdeal.Whole

open Cert.MergeIdeal Cert.MergeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The stores cover -/

/-- A rectangle of the second norm's buffer by its numbers: offset, size and stride of the rows, then of the lanes. -/
def numbers (p : View.Piece (Elt F) S4096x128 .f32) : List Nat :=
  [p.1.off 0, p.1.size 0, p.1.stride 0, p.1.off 1, p.1.size 1, p.1.stride 1]

/-- Eight rectangles, the j-th of every eighth row from row j, cover the buffer. -/
theorem cover_of_rows (L : List (View.Piece (Elt F) S4096x128 .f32))
    (h : L.map numbers = [[7, 512, 8, 0, 128, 1], [6, 512, 8, 0, 128, 1], [5, 512, 8, 0, 128, 1], [4, 512, 8, 0, 128, 1],
      [3, 512, 8, 0, 128, 1], [2, 512, 8, 0, 128, 1], [1, 512, 8, 0, 128, 1], [0, 512, 8, 0, 128, 1]])
    (y : S4096x128.Idx) : ∃ p ∈ L, y ∈ p.1.set := by
  have h0 : (y 0).val < 4096 := (y 0).isLt
  have h1 : (y 1).val < 128 := (y 1).isLt
  have hm : [(y 0).val % 8, 512, 8, 0, 128, 1] ∈ L.map numbers := by
    rw [h]
    have : (y 0).val % 8 < 8 := Nat.mod_lt _ (by decide)
    generalize (y 0).val % 8 = k at *
    simp only [List.mem_cons, List.cons.injEq, and_true, List.not_mem_nil, or_false]
    omega
  obtain ⟨p, hp, he⟩ := List.mem_map.mp hm
  simp only [numbers, List.cons.injEq, and_true] at he
  obtain ⟨e0, e1, e2, e3, e4, e5⟩ := he
  refine ⟨p, hp, (LoadRect.mem_set _).mpr fun a => ?_⟩
  match a with
  | ⟨0, _⟩ => exact ⟨(y 0).val / 8, by show _ < p.1.size 0; omega, by
      show (y 0).val = p.1.off 0 + p.1.stride 0 * _; rw [e0, e2]; omega⟩
  | ⟨1, _⟩ => exact ⟨(y 1).val, by show _ < p.1.size 1; omega, by
      show (y 1).val = p.1.off 1 + p.1.stride 1 * _; rw [e3, e5]; omega⟩

/-- Every output's stores, and the counts', cover the buffer. -/
def Covers {c : Dev nD} {i : grid0.Coords} {M : Mems} {X : Ins F} {S : sProp 𝕄} (R : Found c i M X S) : Prop :=
  (∀ y, ∃ p ∈ R.1, y ∈ p.1.set) ∧ (∀ y, ∃ p ∈ R.2.1, y ∈ p.1.set) ∧ (∀ y, ∃ p ∈ R.2.2.1, y ∈ p.1.set)
    ∧ (∀ y, ∃ p ∈ R.2.2.2.1, y ∈ p.1.set) ∧ (∀ y, ∃ p ∈ R.2.2.2.2.1, y ∈ p.1.set)

theorem coversFirst (c : Dev nD) (i : grid0.Coords) (M : Mems) (hc : isFirst i) (X : Ins F) :
    Covers (runFirst c i M hc X) :=
  ⟨View.cover_of_tiledL _ S512x1024.size (by sl_kernel_rfl), cover_of_rows _ (by sl_kernel_rfl),
    View.cover_of_tiledL _ S512x8.size (by sl_kernel_rfl), View.cover_of_tiledL _ S1x128.size (by sl_kernel_rfl),
    View.cover_of_tiledL _ S1x128.size (by sl_kernel_rfl)⟩

theorem coversLater (c : Dev nD) (i : grid0.Coords) (M : Mems) (hc : ¬isFirst i) (X : Ins F) (xs : Vec F S1x128 .f32) :
    Covers (runLater c i M hc X xs) :=
  ⟨View.cover_of_tiledL _ S512x1024.size (by sl_kernel_rfl), cover_of_rows _ (by sl_kernel_rfl),
    View.cover_of_tiledL _ S512x8.size (by sl_kernel_rfl), View.cover_of_tiledL _ S1x128.size (by sl_kernel_rfl),
    View.cover_of_tiledL _ S1x128.size (by sl_kernel_rfl)⟩

/-! ## What the body leaves -/

/-- The contents of the four outputs and of the counts. -/
structure Outs (F : FTy → Type) where
  xo : Vec F S512x1024 .f32
  h2 : Vec F S4096x128 .f32
  route : Vec F S512x8 .f32
  counts : Vec F S1x128 .f32
  seen : Vec F S1x128 .f32

/-- One buffer for each output, and the counts', through which the contents are read. -/
abbrev V12 : View sig .tc .vmem S512x1024 .f32 := (Memref.whole cc0_stg12_0 : Memref sig .tc .vmem S512x1024 .f32).view
abbrev V13 : View sig .tc .vmem S4096x128 .f32 := (Memref.whole cc0_stg13_0 : Memref sig .tc .vmem S4096x128 .f32).view
abbrev V14 : View sig .tc .vmem S512x8 .f32 := (Memref.whole cc0_stg14_0 : Memref sig .tc .vmem S512x8 .f32).view
abbrev V15 : View sig .tc .vmem S1x128 .f32 := (Memref.whole cc0_stg15_0 : Memref sig .tc .vmem S1x128 .f32).view
abbrev countsM : Memref sig .tc .vmem S1x128 .f32 := Memref.whole cc0_scratch0

/-- What a run leaves: its stores read back. -/
def Found.left {c : Dev nD} {i : grid0.Coords} {M : Mems} {X : Ins F} {S : sProp 𝕄} (R : Found c i M X S) : Outs F where
  xo := V12.read (Elt F) (V12.writes (Elt F) V12.junk R.1)
  h2 := V13.read (Elt F) (V13.writes (Elt F) V13.junk R.2.1)
  route := V14.read (Elt F) (V14.writes (Elt F) V14.junk R.2.2.1)
  counts := V15.read (Elt F) (V15.writes (Elt F) V15.junk R.2.2.2.1)
  seen := countsM.view.read (Elt F) (countsM.view.writes (Elt F) countsM.view.junk R.2.2.2.2.1)

/-- The outputs' buffers and the counts' at given contents. -/
def given (c : Dev nD) (M : Mems) (Y : Outs F) : sProp 𝕄 :=
  iprop(owns (c : Thread nD τ) M.a13 fullShare Y.xo ∗ owns (c : Thread nD τ) M.a14 fullShare Y.h2
    ∗ owns (c : Thread nD τ) M.a15 fullShare Y.route ∗ owns (c : Thread nD τ) M.a16 fullShare Y.counts
    ∗ owns (c : Thread nD τ) M.a17 fullShare Y.seen)

/-- A run whose stores cover leaves exactly `Found.left`, whatever the buffers held. -/
theorem Found.leaves {c : Dev nD} {i : grid0.Coords} {M : Mems} {X : Ins F} {S : sProp 𝕄} (R : Found c i M X S)
    (hR : Covers R) (E : Set ℕ) (K : PUnit → sProp 𝕄) :
    iprop(held c M X ∗ (∃ d, owns (c : Thread nD τ) M.a13 fullShare d) ∗ (∃ d, owns (c : Thread nD τ) M.a14 fullShare d)
        ∗ (∃ d, owns (c : Thread nD τ) M.a15 fullShare d) ∗ (∃ d, owns (c : Thread nD τ) M.a16 fullShare d) ∗ S
        ∗ (iprop(held c M X ∗ given c M (Found.left R)) -∗ K ⟨⟩))
      ⊢ wp frame (wpE (defs₀ (F := F)) Variants.none c none) E
          (cc0_merge_route i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17) K := by
  iintro ⟨HX, H12, H13, H14, H15, HS, Hk⟩
  iapply (R.2.2.2.2.2 E K)
  isplitl [HX]; · iexact HX
  isplitl [H12]; · iexact H12
  isplitl [H13]; · iexact H13
  isplitl [H14]; · iexact H14
  isplitl [H15]; · iexact H15
  isplitl [HS]; · iexact HS
  iintro ⟨HX, ⟨%e12, H12⟩, ⟨%e13, H13⟩, ⟨%e14, H14⟩, ⟨%e15, H15⟩, ⟨%es, HS⟩⟩
  iapply Hk
  isplitl [HX]; · iexact HX
  unfold given owns
  isplitl [H12]
  · iexists _; isplitr; swap; · iexact H12
    ipureintro; exact View.read_writes_of_cover _ _ V12 V12.junk R.1 hR.1
  isplitl [H13]
  · iexists _; isplitr; swap; · iexact H13
    ipureintro; exact View.read_writes_of_cover _ _ V13 V13.junk R.2.1 hR.2.1
  isplitl [H14]
  · iexists _; isplitr; swap; · iexact H14
    ipureintro; exact View.read_writes_of_cover _ _ V14 V14.junk R.2.2.1 hR.2.2.1
  isplitl [H15]
  · iexists _; isplitr; swap; · iexact H15
    ipureintro; exact View.read_writes_of_cover _ _ V15 V15.junk R.2.2.2.1 hR.2.2.2.1
  iexists _; isplitr; swap; · iexact HS
  ipureintro; exact View.read_writes_of_cover _ _ countsM.view countsM.view.junk R.2.2.2.2.1 hR.2.2.2.2

/-! ## The grid's points -/

/-- The buffers the pipeline hands the body at a point. -/
abbrev memsAt (t : Fin cfg0.N) : Mems where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := win0_5.stage (cfg0.slots t 5)
  h6 := hstage0_5 ((cfg0.slots t 5).cast nbuf0_5)
  a7 := win0_6.stage (cfg0.slots t 6)
  h7 := hstage0_6 ((cfg0.slots t 6).cast nbuf0_6)
  a8 := win0_7.stage (cfg0.slots t 7)
  h8 := hstage0_7 ((cfg0.slots t 7).cast nbuf0_7)
  a9 := win0_8.stage (cfg0.slots t 8)
  h9 := hstage0_8 ((cfg0.slots t 8).cast nbuf0_8)
  a10 := win0_9.stage (cfg0.slots t 9)
  h10 := hstage0_9 ((cfg0.slots t 9).cast nbuf0_9)
  a11 := win0_10.stage (cfg0.slots t 10)
  h11 := hstage0_10 ((cfg0.slots t 10).cast nbuf0_10)
  a12 := win0_11.stage (cfg0.slots t 11)
  h12 := hstage0_11 ((cfg0.slots t 11).cast nbuf0_11)
  a13 := win0_12.stage (cfg0.slots t 12)
  h13 := hstage0_12 ((cfg0.slots t 12).cast nbuf0_12)
  a14 := win0_13.stage (cfg0.slots t 13)
  h14 := hstage0_13 ((cfg0.slots t 13).cast nbuf0_13)
  a15 := win0_14.stage (cfg0.slots t 14)
  h15 := hstage0_14 ((cfg0.slots t 14).cast nbuf0_14)
  a16 := win0_15.stage (cfg0.slots t 15)
  h16 := hstage0_15 ((cfg0.slots t 15).cast nbuf0_15)
  a17 := countsM
  h17 := Memref.isWhole_whole _

variable (m : (ℓ : Loc nD τ sig) → Buf (Elt F) ℓ) (ρ : Dev nD → PrngReg)

/-- The inputs' blocks at a point. -/
abbrev insAt (c : Dev nD) (t : Fin cfg0.N) : Ins F where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t

/-- Only point 0 is the first. -/
theorem first_of_zero (t : Fin cfg0.N) (h : t.val = 0) : isFirst (grid0.coords t) := (isFirst_iff t).mpr (by rw [h])

theorem not_first (t : Fin cfg0.N) (h : t.val ≠ 0) : ¬isFirst (grid0.coords t) := fun hf => by
  have := (isFirst_iff t).mp hf
  have : t.val < 64 := Nat.lt_of_lt_of_eq t.isLt N_0
  omega

/-- What the outputs' buffers and the counts hold after each point. -/
def outsAt (c : Dev nD) : (n : ℕ) → n < cfg0.N → Outs F
  | 0, hn => Found.left (runFirst c (grid0.coords ⟨0, hn⟩) (memsAt ⟨0, hn⟩) (first_of_zero ⟨0, hn⟩ rfl) (insAt m c ⟨0, hn⟩))
  | n + 1, hn => Found.left (runLater c (grid0.coords ⟨n + 1, hn⟩) (memsAt ⟨n + 1, hn⟩)
      (not_first ⟨n + 1, hn⟩ (Nat.succ_ne_zero n)) (insAt m c ⟨n + 1, hn⟩) (outsAt c n (Nat.lt_of_succ_lt hn)).seen)

theorem outsAt_first (c : Dev nD) (t : Fin cfg0.N) (h : t.val = 0) :
    outsAt m c t.val t.isLt = Found.left (runFirst c (grid0.coords t) (memsAt t) (first_of_zero t h) (insAt m c t)) := by
  obtain ⟨n, hn⟩ := t
  cases n with
  | zero => rfl
  | succ n => exact absurd h (Nat.succ_ne_zero n)

theorem outsAt_later (c : Dev nD) (t : Fin cfg0.N) (h : t.val ≠ 0) :
    outsAt m c t.val t.isLt = Found.left (runLater c (grid0.coords t) (memsAt t) (not_first t h) (insAt m c t)
      (outsAt m c (t.val - 1) (Nat.lt_of_le_of_lt (Nat.sub_le _ _) t.isLt)).seen) := by
  obtain ⟨n, hn⟩ := t
  cases n with
  | zero => exact absurd rfl h
  | succ n => rfl

/-- Between points: the counts as the point before left them (anything before the first), the generator register at some
    state. -/
def Φat (c : Dev nD) : (n : ℕ) → n ≤ cfg0.N → sProp 𝕄
  | 0, _ => Pipeline.ΦA spec0 c
  | n + 1, hn => iprop(owns (c : Thread nD τ) countsM fullShare (outsAt m c n hn).seen ∗ (∃ r, prngReg c r))

theorem Φat_zero (c : Dev nD) (n : ℕ) (h : n ≤ cfg0.N) (hz : n = 0) : Φat m c n h = Pipeline.ΦA spec0 c := by
  subst hz; rfl

theorem Φat_pos (c : Dev nD) (n : ℕ) (h : n ≤ cfg0.N) (hz : n ≠ 0) :
    Φat m c n h = iprop(owns (c : Thread nD τ) countsM fullShare (outsAt m c (n - 1) (by omega)).seen ∗ (∃ r, prngReg c r)) := by
  cases n with
  | zero => exact absurd rfl hz
  | succ n => rfl

theorem ΦA_counts (c : Dev nD) : (Pipeline.ΦA spec0 c : sProp 𝕄)
    = iprop((∃ d, owns (c : Thread nD τ) countsM fullShare d) ∗ (∃ r, prngReg c r)) := by
  unfold Pipeline.ΦA; rw [scopedRest0_eq]; simp only [countsM, owns_whole]; try rfl

/-- The pipeline's data: the arrays as the region finds them, the inputs' blocks unchanged, the outputs as `outsAt` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt m c t.val t.isLt).xo
    | ⟨13, _⟩ => (outsAt m c t.val t.isLt).h2
    | ⟨14, _⟩ => (outsAt m c t.val t.isLt).route
    | ⟨15, _⟩ => (outsAt m c t.val t.isLt).counts
    | ⟨_ + 16, h⟩ => absurd h (Nat.not_lt.2 (Nat.le_add_left _ _))
  Φ t := Φat m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Φ_castSucc (c : Dev nD) (t : Fin cfg0.N) :
    (dats m 0 c).Φ t.castSucc = Φat m c t.val (Nat.le_of_lt t.isLt) := by
  dsimp only [dats]; exact Pipeline.Dat.Φ_castSucc (Φat m c) t

theorem after_xo (c : Dev nD) (t : Fin cfg0.N) : (dats m 0 c).after 12 t = (outsAt m c t.val t.isLt).xo := by
  dsimp only [dats]

theorem after_h2 (c : Dev nD) (t : Fin cfg0.N) : (dats m 0 c).after 13 t = (outsAt m c t.val t.isLt).h2 := by
  dsimp only [dats]

/-- An input's buffer holds its block when the body starts. -/
theorem before_in (c : Dev nD) (t : Fin cfg0.N) :
    (∀ d, (dats m 0 c).before 0 t d = iblk m c 0 t)
    ∧ (∀ d, (dats m 0 c).before 1 t d = iblk m c 1 t)
    ∧ (∀ d, (dats m 0 c).before 2 t d = iblk m c 2 t)
    ∧ (∀ d, (dats m 0 c).before 3 t d = iblk m c 3 t)
    ∧ (∀ d, (dats m 0 c).before 4 t d = iblk m c 4 t)
    ∧ (∀ d, (dats m 0 c).before 5 t d = iblk m c 5 t)
    ∧ (∀ d, (dats m 0 c).before 6 t d = iblk m c 6 t)
    ∧ (∀ d, (dats m 0 c).before 7 t d = iblk m c 7 t)
    ∧ (∀ d, (dats m 0 c).before 8 t d = iblk m c 8 t)
    ∧ (∀ d, (dats m 0 c).before 9 t d = iblk m c 9 t)
    ∧ (∀ d, (dats m 0 c).before 10 t d = iblk m c 10 t)
    ∧ (∀ d, (dats m 0 c).before 11 t d = iblk m c 11 t) :=
  ⟨before0_0_of m (dats m 0 c) (A_eq m c 0) (fun _ => by dsimp only [dats]) t,
    before0_1_of m (dats m 0 c) (A_eq m c 1) (fun _ => by dsimp only [dats]) t,
    before0_2_of m (dats m 0 c) (A_eq m c 2) (fun _ => by dsimp only [dats]) t,
    before0_3_of m (dats m 0 c) (A_eq m c 3) (fun _ => by dsimp only [dats]) t,
    before0_4_of m (dats m 0 c) (A_eq m c 4) (fun _ => by dsimp only [dats]) t,
    before0_5_of m (dats m 0 c) (A_eq m c 5) (fun _ => by dsimp only [dats]) t,
    before0_6_of m (dats m 0 c) (A_eq m c 6) (fun _ => by dsimp only [dats]) t,
    before0_7_of m (dats m 0 c) (A_eq m c 7) (fun _ => by dsimp only [dats]) t,
    before0_8_of m (dats m 0 c) (A_eq m c 8) (fun _ => by dsimp only [dats]) t,
    before0_9_of m (dats m 0 c) (A_eq m c 9) (fun _ => by dsimp only [dats]) t,
    before0_10_of m (dats m 0 c) (A_eq m c 10) (fun _ => by dsimp only [dats]) t,
    before0_11_of m (dats m 0 c) (A_eq m c 11) (fun _ => by dsimp only [dats]) t⟩

/-! ## The body's obligation -/

/-- What the body is called with at a point, the windows one by one. -/
def bodyPre (c : Dev nD) (t : Fin cfg0.N) : sProp 𝕄 :=
  iprop((dats m 0 c).Φ t.castSucc ∗ (dats m 0 c).owesAt () t.castSucc
    ∗ (∃ d, owns (c : Thread nD τ) (memsAt t).a1 fullShare ((dats m 0 c).before 0 t d))
    ∗ (∃ d, owns (c : Thread nD τ) (memsAt t).a2 fullShare ((dats m 0 c).before 1 t d))
    ∗ (∃ d, owns (c : Thread nD τ) (memsAt t).a3 fullShare ((dats m 0 c).before 2 t d))
    ∗ (∃ d, owns (c : Thread nD τ) (memsAt t).a4 fullShare ((dats m 0 c).before 3 t d))
    ∗ (∃ d, owns (c : Thread nD τ) (memsAt t).a5 fullShare ((dats m 0 c).before 4 t d))
    ∗ (∃ d, owns (c : Thread nD τ) (memsAt t).a6 fullShare ((dats m 0 c).before 5 t d))
    ∗ (∃ d, owns (c : Thread nD τ) (memsAt t).a7 fullShare ((dats m 0 c).before 6 t d))
    ∗ (∃ d, owns (c : Thread nD τ) (memsAt t).a8 fullShare ((dats m 0 c).before 7 t d))
    ∗ (∃ d, owns (c : Thread nD τ) (memsAt t).a9 fullShare ((dats m 0 c).before 8 t d))
    ∗ (∃ d, owns (c : Thread nD τ) (memsAt t).a10 fullShare ((dats m 0 c).before 9 t d))
    ∗ (∃ d, owns (c : Thread nD τ) (memsAt t).a11 fullShare ((dats m 0 c).before 10 t d))
    ∗ (∃ d, owns (c : Thread nD τ) (memsAt t).a12 fullShare ((dats m 0 c).before 11 t d))
    ∗ (∃ d, owns (c : Thread nD τ) (memsAt t).a13 fullShare ((dats m 0 c).before 12 t d))
    ∗ (∃ d, owns (c : Thread nD τ) (memsAt t).a14 fullShare ((dats m 0 c).before 13 t d))
    ∗ (∃ d, owns (c : Thread nD τ) (memsAt t).a15 fullShare ((dats m 0 c).before 14 t d))
    ∗ (∃ d, owns (c : Thread nD τ) (memsAt t).a16 fullShare ((dats m 0 c).before 15 t d)))

/-- What it returns. -/
def bodyPost (c : Dev nD) (t : Fin cfg0.N) : sProp 𝕄 :=
  iprop((dats m 0 c).Φ t.succ ∗ (dats m 0 c).owesAt () t.succ
    ∗ owns (c : Thread nD τ) (memsAt t).a1 fullShare ((dats m 0 c).after 0 t)
    ∗ owns (c : Thread nD τ) (memsAt t).a2 fullShare ((dats m 0 c).after 1 t)
    ∗ owns (c : Thread nD τ) (memsAt t).a3 fullShare ((dats m 0 c).after 2 t)
    ∗ owns (c : Thread nD τ) (memsAt t).a4 fullShare ((dats m 0 c).after 3 t)
    ∗ owns (c : Thread nD τ) (memsAt t).a5 fullShare ((dats m 0 c).after 4 t)
    ∗ owns (c : Thread nD τ) (memsAt t).a6 fullShare ((dats m 0 c).after 5 t)
    ∗ owns (c : Thread nD τ) (memsAt t).a7 fullShare ((dats m 0 c).after 6 t)
    ∗ owns (c : Thread nD τ) (memsAt t).a8 fullShare ((dats m 0 c).after 7 t)
    ∗ owns (c : Thread nD τ) (memsAt t).a9 fullShare ((dats m 0 c).after 8 t)
    ∗ owns (c : Thread nD τ) (memsAt t).a10 fullShare ((dats m 0 c).after 9 t)
    ∗ owns (c : Thread nD τ) (memsAt t).a11 fullShare ((dats m 0 c).after 10 t)
    ∗ owns (c : Thread nD τ) (memsAt t).a12 fullShare ((dats m 0 c).after 11 t)
    ∗ owns (c : Thread nD τ) (memsAt t).a13 fullShare ((dats m 0 c).after 12 t)
    ∗ owns (c : Thread nD τ) (memsAt t).a14 fullShare ((dats m 0 c).after 13 t)
    ∗ owns (c : Thread nD τ) (memsAt t).a15 fullShare ((dats m 0 c).after 14 t)
    ∗ owns (c : Thread nD τ) (memsAt t).a16 fullShare ((dats m 0 c).after 15 t))

/-- A point's triple from a run: the counts' buffer as `S` says before, the run's stores after. -/
theorem sound_of (c : Dev nD) (t : Fin cfg0.N) (S : sProp 𝕄) (R : Found c (grid0.coords t) (memsAt t) (insAt m c t) S)
    (hR : Covers R) (hout : outsAt m c t.val t.isLt = Found.left R)
    (hS : (dats m 0 c).Φ t.castSucc = iprop(S ∗ (∃ r, prngReg c r))) :
    bodyPre m c t ⊢ wp frame (wpE (defs₀ (F := F)) Variants.none c none) Set.univ (bodyAt0 t) (fun _ => bodyPost m c t) := by
  unfold bodyPre bodyPost
  obtain ⟨b0, b1, b2, b3, b4, b5, b6, b7, b8, b9, b10, b11⟩ := before_in m c t
  simp only [b0, b1, b2, b3, b4, b5, b6, b7, b8, b9, b10, b11]
  rw [show (dats m 0 c).owesAt () t.succ = (dats m 0 c).owesAt () t.castSucc from rfl, hS,
    show (dats m 0 c).Φ t.succ = iprop(owns (c : Thread nD τ) countsM fullShare (outsAt m c t.val t.isLt).seen ∗ (∃ r, prngReg c r)) from rfl]
  dsimp only [dats]
  rw [hout]
  have hrun := R.leaves hR Set.univ
  unfold held given at hrun
  dsimp only [memsAt, insAt] at hrun
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (hrun _)
  isplitl [H0 H1 H2 H3 H4 H5 H6 H7 H8 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [H12]; · iexists _; iexact H12
  isplitl [H13]; · iexists _; iexact H13
  isplitl [H14]; · iexists _; iexact H14
  isplitl [H15]; · iexists _; iexact H15
  isplitl [HS]; · iexact HS
  iintro ⟨⟨H0, H1, H2, H3, H4, H5, H6, H7, H8, H9, H10, H11⟩, H12, H13, H14, H15, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem sound_body (c : Dev nD) (t : Fin cfg0.N) :
    bodyPre m c t ⊢ wp frame (wpE (defs₀ (F := F)) Variants.none c none) Set.univ (bodyAt0 t) (fun _ => bodyPost m c t) := by
  by_cases h : t.val = 0
  · exact sound_of m c t _ _ (coversFirst c _ _ (first_of_zero t h) _) (outsAt_first m c t h)
      (by rw [Φ_castSucc, Φat_zero m c _ _ h, ΦA_counts])
  · exact sound_of m c t _ _ (coversLater c _ _ (not_first t h) _ _) (outsAt_later m c t h)
      (by rw [Φ_castSucc, Φat_pos m c _ _ h])

theorem table_row (t : Fin cfg0.N) : defs₀ (F := F) .tc cfg0.body (cfg0.bodyArgs t (cfg0.slots t)) = bodyAt0 t := by
  unfold defs₀; rw [Defs.onTc_tc]

theorem obligation (c : Dev nD) :
    BodyObligation (dats (F := F) m 0 c) (defs₀ (F := F)) Variants.none () Set.univ := fun t => by
  rw [bigSep_W0, bigSep_W0, table_row]
  exact triple_restated (sound_body m c t) rfl .rfl fun _ => .rfl

/-! ## The launch -/

theorem enters (c : Dev nD) : Pipeline.ΦA spec0 c ⊢ (dats m 0 c).Φ 0 := by
  rw [show (dats m 0 c).Φ 0 = Φat m c 0 (Nat.zero_le _) from rfl, Φat_zero m c 0 _ rfl]

theorem leaves (c : Dev nD) : (dats m 0 c).Φ (Fin.last cfg0.N) ⊢ Pipeline.ΦA spec0 c := by
  rw [show (dats m 0 c).Φ (Fin.last cfg0.N) = Φat m c (Fin.last cfg0.N).val (Nat.le_of_lt_succ (Fin.last cfg0.N).isLt) from rfl,
    Φat_pos m c _ _ (by rw [Fin.val_last]; have : cfg0.N = 64 := N_0; omega), ΦA_counts]
  iintro ⟨HS, Hg⟩
  isplitl [HS]
  · iexists _; iexact HS
  iexact Hg

set_option backward.isDefEq.respectTransparency.types false in
/-- The launch: every array of the pipeline ends at what the data says, every semaphore counter at zero. -/
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enters m) (hout := leaves m)

/-- Only the library's post, for the arrays' values. -/
theorem run_arrays : θ_run defs (onTc (τ := τ) (main (F := F))) (s₀ m ρ) (Pipeline.FramePost cfgs (dats m) 0 (V m)) :=
  (θ_run defs _ _).mono (fun _ h => h.1) (run_main m ρ)

end Cert.MergeIdeal.Whole

end
-- ==== Proof.MergeTiles.lean ====
module

public import proofs.«01_k».proof.Proof.MergeFrame
public import proofs.«01_k».proof.Proof.MergeSpec
public import Idealize.ShloMosaic.Lib.Pipeline.ValueKit

/-! What the merge call's body leaves in its first two outputs, at a tile of 512 rows: the tile's rows after the merge, and their norms
with each row of 1024 laid out as eight rows of 128. -/

@[expose] public section

set_option maxRecDepth 16384

noncomputable section

namespace Cert.MergeIdeal.Whole

open Cert.MergeIdeal Cert.MergeIdeal.Gen
open Idealize.ShloMosaic Idealize.ShloMosaic.TcCoe Idealize.ShloMosaic.Tactic
open Idealize.SL.Sem
open _root_.Merge (Args)

/-! The stores, as the body's operations on the inputs. -/

section stores

variable (X : Ins Ideal)

/-- A gate's matrix and a branch's matrix, loaded. -/
abbrev gateW (n : ℕ) (h : ∀ a, (![n, 0, 0] : Fin 3 → ℕ) a + (![1, 1024, 1024] : Fin 3 → ℕ) a ≤ S3x1024x1024.size a) : Vec Ideal S1x1024x1024 .bf16 :=
  View.ld X.x5 (Rect.unit ![n, 0, 0] ![1, 1024, 1024] h)

abbrev branchW (n : ℕ) (h : ∀ a, (![n, 0, 0] : Fin 3 → ℕ) a + (![1, 512, 1024] : Fin 3 → ℕ) a ≤ S3x512x1024.size a) : Vec Ideal S1x512x1024 .bf16 :=
  View.ld X.x6 (Rect.unit ![n, 0, 0] ![1, 512, 1024] h)

/-- The first two branches as the body computes them before the third, and the rows it stores. -/
def xoOf : FVec Ideal S512x1024 .f32 :=
  k0_pay6 X.x0 (k0_pay2 X.x0 X.x4)
    (k0_pay3 X.x0 X.x4 (gateW X 0 inb_S3x1024x1024_S1x1024x1024_0_0_0) X.x1 (branchW X 0 inb_S3x512x1024_S1x512x1024_0_0_0))
    (k0_pay4 X.x0 X.x4 (gateW X 1 inb_S3x1024x1024_S1x1024x1024_1_0_0)) X.x2
    (k0_pay5 (branchW X 1 inb_S3x512x1024_S1x512x1024_1_0_0)) (constant S512x1024 FTy.f32 0#32)
    (gateW X 2 inb_S3x1024x1024_S1x1024x1024_2_0_0) X.x3 (branchW X 2 inb_S3x512x1024_S1x512x1024_2_0_0) X.x7

/-- The norms of the rows it stores. -/
def h2Of : FVec Ideal S512x1024 .f32 :=
  k0_pay7 X.x0 (k0_pay2 X.x0 X.x4)
    (k0_pay3 X.x0 X.x4 (gateW X 0 inb_S3x1024x1024_S1x1024x1024_0_0_0) X.x1 (branchW X 0 inb_S3x512x1024_S1x512x1024_0_0_0))
    (k0_pay4 X.x0 X.x4 (gateW X 1 inb_S3x1024x1024_S1x1024x1024_1_0_0)) X.x2
    (k0_pay5 (branchW X 1 inb_S3x512x1024_S1x512x1024_1_0_0)) (constant S512x1024 FTy.f32 0#32)
    (gateW X 2 inb_S3x1024x1024_S1x1024x1024_2_0_0) X.x3 (branchW X 2 inb_S3x512x1024_S1x512x1024_2_0_0) X.x7 X.x8

variable (c : Dev nD) (i : grid0.Coords) (M : Mems)

theorem xo_first (hc : isFirst i) : (runFirst c i M hc X).left.xo = xoOf X := by
  unfold Found.left
  dsimp only
  frame_out
  rfl

theorem xo_later (hc : ¬isFirst i) (xs : Vec Ideal S1x128 .f32) : (runLater c i M hc X xs).left.xo = xoOf X := by
  unfold Found.left
  dsimp only
  frame_out
  rfl

/-- Rows of 1024 as rows of 128. -/
def rowsOf (P : FVec Ideal S512x1024 .f32) : Vec Ideal S4096x128 .f32 := fun y =>
  P (ix2 ⟨(y 0).val / 8, by have : (y 0).val < 4096 := (y 0).isLt; omega⟩
    ⟨128 * ((y 0).val % 8) + (y 1).val, by have : (y 1).val < 128 := (y 1).isLt; omega⟩)

/-- The j-th slice of 128 columns is what `rowsOf` holds in every eighth row from row j. -/
theorem slice_rows (P : FVec Ideal S512x1024 .f32) (j o : ℕ) (hj : j < 8) (ho : o = 128 * j) (hs : S512x1024.Slices ![0, o] S512x128)
    (x : S512x128.Idx) (y : S4096x128.Idx) (h0 : (y 0).val = j + 8 * (x 0).val) (h1 : (y 1).val = 0 + 1 * (x 1).val) :
    extractStridedSlice S512x128 ![0, o] P hs x = rowsOf P y := by
  refine congrArg P ?_
  funext a
  apply Fin.ext
  match a with
  | ⟨0, _⟩ =>
    show 0 + (x 0).val = (y 0).val / 8
    omega
  | ⟨1, _⟩ =>
    show o + (x 1).val = 128 * ((y 0).val % 8) + (y 1).val
    omega

theorem h2_first (hc : isFirst i) : (runFirst c i M hc X).left.h2 = rowsOf (h2Of X) := by
  funext y
  have hy := (coversFirst c i M hc X).2.1 y
  unfold Found.left
  dsimp only
  rw [View.read_writes_junk_eq_canon]
  refine View.canon_apply_of_pieces (rowsOf (h2Of X)) _ ?_ y hy
  clear hy y
  frame_out
  simp only [List.forall_mem_cons, List.not_mem_nil, false_imp_iff, implies_true, and_true]
  exact ⟨fun x => slice_rows (h2Of X) 7 896 (by decide) rfl slices_S512x1024_o0_896_S512x128 x _ rfl rfl,
    fun x => slice_rows (h2Of X) 6 768 (by decide) rfl slices_S512x1024_o0_768_S512x128 x _ rfl rfl,
    fun x => slice_rows (h2Of X) 5 640 (by decide) rfl slices_S512x1024_o0_640_S512x128 x _ rfl rfl,
    fun x => slice_rows (h2Of X) 4 512 (by decide) rfl slices_S512x1024_o0_512_S512x128 x _ rfl rfl,
    fun x => slice_rows (h2Of X) 3 384 (by decide) rfl slices_S512x1024_o0_384_S512x128 x _ rfl rfl,
    fun x => slice_rows (h2Of X) 2 256 (by decide) rfl slices_S512x1024_o0_256_S512x128 x _ rfl rfl,
    fun x => slice_rows (h2Of X) 1 128 (by decide) rfl slices_S512x1024_o0_128_S512x128 x _ rfl rfl,
    fun x => slice_rows (h2Of X) 0 0 (by decide) rfl slices_S512x1024_o0_0_S512x128 x _ rfl rfl⟩

theorem h2_later (hc : ¬isFirst i) (xs : Vec Ideal S1x128 .f32) : (runLater c i M hc X xs).left.h2 = rowsOf (h2Of X) := by
  funext y
  have hy := (coversLater c i M hc X xs).2.1 y
  unfold Found.left
  dsimp only
  rw [View.read_writes_junk_eq_canon]
  refine View.canon_apply_of_pieces (rowsOf (h2Of X)) _ ?_ y hy
  clear hy y
  frame_out
  simp only [List.forall_mem_cons, List.not_mem_nil, false_imp_iff, implies_true, and_true]
  exact ⟨fun x => slice_rows (h2Of X) 7 896 (by decide) rfl slices_S512x1024_o0_896_S512x128 x _ rfl rfl,
    fun x => slice_rows (h2Of X) 6 768 (by decide) rfl slices_S512x1024_o0_768_S512x128 x _ rfl rfl,
    fun x => slice_rows (h2Of X) 5 640 (by decide) rfl slices_S512x1024_o0_640_S512x128 x _ rfl rfl,
    fun x => slice_rows (h2Of X) 4 512 (by decide) rfl slices_S512x1024_o0_512_S512x128 x _ rfl rfl,
    fun x => slice_rows (h2Of X) 3 384 (by decide) rfl slices_S512x1024_o0_384_S512x128 x _ rfl rfl,
    fun x => slice_rows (h2Of X) 2 256 (by decide) rfl slices_S512x1024_o0_256_S512x128 x _ rfl rfl,
    fun x => slice_rows (h2Of X) 1 128 (by decide) rfl slices_S512x1024_o0_128_S512x128 x _ rfl rfl,
    fun x => slice_rows (h2Of X) 0 0 (by decide) rfl slices_S512x1024_o0_0_S512x128 x _ rfl rfl⟩

end stores

/-! The stores' values, on inputs that hold the arguments' entries at the 512 rows from row `s`. -/

variable (A : Args) (s : ℕ)

/-- The inputs hold the arguments' entries. -/
structure Holds (X : Ins Ideal) : Prop where
  x : ∀ (r : Fin 512) (k : Fin 1024), X.x0 (ix2 r k) = A.x (s + r.val) k.val
  y0 : ∀ r k : Fin 512, X.x1 (ix2 r k) = A.y 0 (s + r.val) k.val
  y1 : ∀ r k : Fin 512, X.x2 (ix2 r k) = A.y 1 (s + r.val) k.val
  y2 : ∀ r k : Fin 512, X.x3 (ix2 r k) = A.y 2 (s + r.val) k.val
  norm : ∀ k : Fin 1024, X.x4 (ix2 0 k) = A.norm k.val
  wg : ∀ (n : Fin 3) (k x : Fin 1024), X.x5 (ix3 n k x) = A.wg n.val k.val x.val
  wb : ∀ (n : Fin 3) (k : Fin 512) (x : Fin 1024), X.x6 (ix3 n k x) = A.wb n.val k.val x.val
  wo : ∀ k x : Fin 1024, X.x7 (ix2 k x) = A.wo k.val x.val
  norm2 : ∀ k : Fin 1024, X.x8 (ix2 0 k) = A.norm2 k.val

variable {A s} {X : Ins Ideal} (h : Holds A s X)
include h

theorem gateW_at (n : Fin 3) (hs) (k x : Fin 1024) : gateW X n.val hs (ix3 0 k x) = A.wg n.val k.val x.val := by
  refine Eq.trans (congrArg X.x5 (funext fun a => Fin.ext ?_)) (h.wg n k x)
  fin_cases a
  · rfl
  · exact (Nat.zero_add _).trans (Nat.one_mul _)
  · exact (Nat.zero_add _).trans (Nat.one_mul _)

theorem branchW_at (n : Fin 3) (hs) (k : Fin 512) (x : Fin 1024) : branchW X n.val hs (ix3 0 k x) = A.wb n.val k.val x.val := by
  refine Eq.trans (congrArg X.x6 (funext fun a => Fin.ext ?_)) (h.wb n k x)
  fin_cases a
  · rfl
  · exact (Nat.zero_add _).trans (Nat.one_mul _)
  · exact (Nat.zero_add _).trans (Nat.one_mul _)

/-- The normed input of a tile. -/
theorem h_at (r : Fin 512) (k : Fin 1024) : k0_pay2 X.x0 X.x4 (ix2 r k) = A.h (s + r.val) k.val := by
  pointwise [k0_pay2, h.x, h.norm]
  rfl

/-- The first branch, gated. -/
theorem first_at (W : Vec Ideal S1x1024x1024 .bf16) (B : Vec Ideal S1x512x1024 .bf16)
    (hW : ∀ k x : Fin 1024, W (ix3 0 k x) = A.wg 0 k.val x.val) (hB : ∀ (k : Fin 512) (x : Fin 1024), B (ix3 0 k x) = A.wb 0 k.val x.val)
    (r : Fin 512) (x : Fin 1024) : k0_pay3 X.x0 X.x4 W X.x1 B (ix2 r x) = A.term 0 (s + r.val) x.val := by
  have hH := h_at h
  unfold k0_pay3
  generalize k0_pay2 X.x0 X.x4 = H at hH
  pointwise [hH, hW, hB, h.y0]
  rfl

/-- The second branch's gate. -/
theorem gate_at (W : Vec Ideal S1x1024x1024 .bf16) (hW : ∀ k x : Fin 1024, W (ix3 0 k x) = A.wg 1 k.val x.val) (r : Fin 512) (x : Fin 1024) :
    k0_pay4 X.x0 X.x4 W (ix2 r x) = Ideal.logistic (∑ k : Fin 1024, A.h (s + r.val) k.val * A.wg 1 k.val x.val) := by
  have hH := h_at h
  unfold k0_pay4
  generalize k0_pay2 X.x0 X.x4 = H at hH
  pointwise [hH, hW]

theorem xoOf_at (r : Fin 512) (x : Fin 1024) : xoOf X (ix2 r x) = A.xo (s + r.val) x.val := by
  have hH := h_at h
  have h0 : ∀ (r : Fin 512) (x : Fin 1024), k0_pay3 X.x0 X.x4 (gateW X 0 inb_S3x1024x1024_S1x1024x1024_0_0_0) X.x1
      (branchW X 0 inb_S3x512x1024_S1x512x1024_0_0_0) (ix2 r x) = A.term 0 (s + r.val) x.val :=
    first_at h _ _ (gateW_at h 0 _) (branchW_at h 0 _)
  have h1 : ∀ (r : Fin 512) (x : Fin 1024), k0_pay4 X.x0 X.x4 (gateW X 1 inb_S3x1024x1024_S1x1024x1024_1_0_0) (ix2 r x) =
      Ideal.logistic (∑ k : Fin 1024, A.h (s + r.val) k.val * A.wg 1 k.val x.val) := gate_at h _ (gateW_at h 1 _)
  have b1 : ∀ (k : Fin 512) (x : Fin 1024), branchW X 1 inb_S3x512x1024_S1x512x1024_1_0_0 (ix3 0 k x) = A.wb 1 k.val x.val :=
    branchW_at h 1 _
  have g2 : ∀ k x : Fin 1024, gateW X 2 inb_S3x1024x1024_S1x1024x1024_2_0_0 (ix3 0 k x) = A.wg 2 k.val x.val := gateW_at h 2 _
  have b2 : ∀ (k : Fin 512) (x : Fin 1024), branchW X 2 inb_S3x512x1024_S1x512x1024_2_0_0 (ix3 0 k x) = A.wb 2 k.val x.val :=
    branchW_at h 2 _
  unfold xoOf
  generalize k0_pay2 X.x0 X.x4 = H at hH
  generalize k0_pay3 X.x0 X.x4 (gateW X 0 inb_S3x1024x1024_S1x1024x1024_0_0_0) X.x1 (branchW X 0 inb_S3x512x1024_S1x512x1024_0_0_0) = T at h0
  generalize k0_pay4 X.x0 X.x4 (gateW X 1 inb_S3x1024x1024_S1x1024x1024_1_0_0) = G at h1
  generalize gateW X 2 inb_S3x1024x1024_S1x1024x1024_2_0_0 = W2 at g2
  generalize branchW X 1 inb_S3x512x1024_S1x512x1024_1_0_0 = B1 at b1
  generalize branchW X 2 inb_S3x512x1024_S1x512x1024_2_0_0 = B2 at b2
  pointwise [k0_pay6, k0_pay5, hH, h0, h1, b1, g2, b2, h.x, h.y1, h.y2, h.wo]
  rfl

theorem h2Of_at (r : Fin 512) (x : Fin 1024) : h2Of X (ix2 r x) = A.h2 (s + r.val) x.val := by
  have hP : ∀ (r : Fin 512) (x : Fin 1024), xoOf X (ix2 r x) = A.xo (s + r.val) x.val := xoOf_at h
  unfold xoOf at hP
  unfold h2Of k0_pay7
  generalize k0_pay6 X.x0 _ _ _ _ _ _ _ _ _ _ = P at hP
  pointwise [hP, h.norm2]
  rfl

end Cert.MergeIdeal.Whole

end
-- ==== Proof.MergeBlocks.lean ====
module

public import proofs.«01_k».proof.Proof.MergeTiles
public import proofs.«01_k».proof.Proof.Gen.MergeIdeal.Frame
public import Idealize.ShloMosaic.Lib.Pipeline.ValueKit
public import Idealize.ShloMosaic.Lib.StableHlo.RunRead

/-! The merge call's blocks, in the merge's arguments — grid point `t` holds the 512 rows from row `512 * t`, and the whole of every
weight — and its first two results after the run. -/

@[expose] public section

set_option maxRecDepth 16384

noncomputable section

namespace Cert.MergeIdeal.Whole

open Cert.MergeIdeal Cert.MergeIdeal.Gen
open Idealize.ShloMosaic Idealize.ShloMosaic.TcCoe Idealize.ShloMosaic.Tactic
open Idealize.SL.Sem
open _root_.Merge (Args)
open _root_.Gla (at1 at2 at3 at1_of at2_of at3_of)

variable (m : (ℓ : Loc nD τ sig) → Buf (Elt Ideal) ℓ) (c : Dev nD)

/-- The merge's arguments, of the memory the run starts from. -/
def args : Args where
  x := at2 (a := 32768) (b := 1024) (m ((c.tc : Thread nD τ).loc main_arg0))
  y := fun n => if n = 0 then at2 (a := 32768) (b := 512) (m ((c.tc : Thread nD τ).loc main_arg1))
    else if n = 1 then at2 (a := 32768) (b := 512) (m ((c.tc : Thread nD τ).loc main_arg2))
    else at2 (a := 32768) (b := 512) (m ((c.tc : Thread nD τ).loc main_arg3))
  norm := at1 (a := 1024) (m ((c.tc : Thread nD τ).loc main_arg4))
  wg := at3 (a := 3) (b := 1024) (c := 1024) (m ((c.tc : Thread nD τ).loc main_arg5))
  wb := at3 (a := 3) (b := 512) (c := 1024) (m ((c.tc : Thread nD τ).loc main_arg6))
  wo := at2 (a := 1024) (b := 1024) (m ((c.tc : Thread nD τ).loc main_arg7))
  norm2 := at1 (a := 1024) (m ((c.tc : Thread nD τ).loc main_arg8))

theorem idx_rows : ∀ t : Fin cfg0.N, win0_0.index t = ![t.val, 0] ∧ win0_1.index t = ![t.val, 0] ∧ win0_2.index t = ![t.val, 0]
    ∧ win0_3.index t = ![t.val, 0] ∧ win0_12.index t = ![t.val, 0] ∧ win0_13.index t = ![t.val, 0] :=
  (by decide +kernel : ∀ t : Fin grid0.N, _)

theorem idx_whole : ∀ t : Fin cfg0.N, win0_4.index t = ![0, 0] ∧ win0_5.index t = ![0, 0, 0] ∧ win0_6.index t = ![0, 0, 0]
    ∧ win0_7.index t = ![0, 0] ∧ win0_8.index t = ![0, 0] :=
  (by decide +kernel : ∀ t : Fin grid0.N, _)

theorem point_lt (t : Fin cfg0.N) : t.val < 64 := lt_of_lt_of_eq t.isLt (show cfg0.N = 64 from N_0)

/-! The weights as @main prepares them for the kernel. -/

theorem V_norm : (V m c (Pipeline.arrRef spec0 4) : FVec Ideal S1x1024 .f32) =
    broadcastInDim S1x1024 ![1] bcast_S1024_S1x1024_1 (show FVec Ideal S1024 .f32 from m ((c.tc : Thread nD τ).loc main_arg4)) := by
  change StableHlo.after ([hostOps0, hostOps0_1, hostOps0_2, hostOps0_3, hostOps0_4].flatten) (fun b => m (c, b)) (Proc.tc.devRef main_v9) = _
  simp only [List.flatten_cons, List.flatten_nil, List.append_nil, hostOps0, hostOps0_1, hostOps0_2, hostOps0_3, hostOps0_4,
    List.cons_append, List.nil_append]
  after_reads_simp
  try rfl

theorem V_wg : (V m c (Pipeline.arrRef spec0 5) : FVec Ideal S3x1024x1024 .bf16) =
    truncf .bf16 (show FVec Ideal S3x1024x1024 .f32 from m ((c.tc : Thread nD τ).loc main_arg5)) bitsLt_bf16_f32 := by
  change StableHlo.after ([hostOps0, hostOps0_1, hostOps0_2, hostOps0_3, hostOps0_4].flatten) (fun b => m (c, b)) (Proc.tc.devRef main_v10) = _
  simp only [List.flatten_cons, List.flatten_nil, List.append_nil, hostOps0, hostOps0_1, hostOps0_2, hostOps0_3, hostOps0_4,
    List.cons_append, List.nil_append]
  after_reads_simp
  try rfl

theorem V_wb : (V m c (Pipeline.arrRef spec0 6) : FVec Ideal S3x512x1024 .bf16) =
    truncf .bf16 (show FVec Ideal S3x512x1024 .f32 from m ((c.tc : Thread nD τ).loc main_arg6)) bitsLt_bf16_f32 := by
  change StableHlo.after ([hostOps0, hostOps0_1, hostOps0_2, hostOps0_3, hostOps0_4].flatten) (fun b => m (c, b)) (Proc.tc.devRef main_v11) = _
  simp only [List.flatten_cons, List.flatten_nil, List.append_nil, hostOps0, hostOps0_1, hostOps0_2, hostOps0_3, hostOps0_4,
    List.cons_append, List.nil_append]
  after_reads_simp
  try rfl

theorem V_wo : (V m c (Pipeline.arrRef spec0 7) : FVec Ideal S1024x1024 .bf16) =
    truncf .bf16 (show FVec Ideal S1024x1024 .f32 from m ((c.tc : Thread nD τ).loc main_arg7)) bitsLt_bf16_f32 := by
  change StableHlo.after ([hostOps0, hostOps0_1, hostOps0_2, hostOps0_3, hostOps0_4].flatten) (fun b => m (c, b)) (Proc.tc.devRef main_v12) = _
  simp only [List.flatten_cons, List.flatten_nil, List.append_nil, hostOps0, hostOps0_1, hostOps0_2, hostOps0_3, hostOps0_4,
    List.cons_append, List.nil_append]
  after_reads_simp
  try rfl

theorem V_norm2 : (V m c (Pipeline.arrRef spec0 8) : FVec Ideal S1x1024 .f32) =
    broadcastInDim S1x1024 ![1] bcast_S1024_S1x1024_1 (show FVec Ideal S1024 .f32 from m ((c.tc : Thread nD τ).loc main_arg8)) := by
  change StableHlo.after ([hostOps0, hostOps0_1, hostOps0_2, hostOps0_3, hostOps0_4].flatten) (fun b => m (c, b)) (Proc.tc.devRef main_v13) = _
  simp only [List.flatten_cons, List.flatten_nil, List.append_nil, hostOps0, hostOps0_1, hostOps0_2, hostOps0_3, hostOps0_4,
    List.cons_append, List.nil_append]
  after_reads_simp
  try rfl

/-! The blocks. -/

variable (t : Fin cfg0.N)

theorem blk_x (r : Fin 512) (k : Fin 1024) : (iblk m c 0 t : Vec Ideal S512x1024 .f32) (ix2 r k) = (args m c).x (512 * t.val + r.val) k.val := by
  have ht := point_lt t
  refine Eq.trans ?_ (at2_of (a := 32768) (b := 1024) (m ((c.tc : Thread nD τ).loc main_arg0)) ⟨512 * t.val + r.val, by omega⟩ k).symm
  blk_point [iblk, V, idx_rows t]

theorem blk_y0 (r k : Fin 512) : (iblk m c 1 t : Vec Ideal S512x512 .bf16) (ix2 r k) = (args m c).y 0 (512 * t.val + r.val) k.val := by
  have ht := point_lt t
  refine Eq.trans ?_ (at2_of (a := 32768) (b := 512) (m ((c.tc : Thread nD τ).loc main_arg1)) ⟨512 * t.val + r.val, by omega⟩ k).symm
  blk_point [iblk, V, idx_rows t]

theorem blk_y1 (r k : Fin 512) : (iblk m c 2 t : Vec Ideal S512x512 .bf16) (ix2 r k) = (args m c).y 1 (512 * t.val + r.val) k.val := by
  have ht := point_lt t
  refine Eq.trans ?_ (at2_of (a := 32768) (b := 512) (m ((c.tc : Thread nD τ).loc main_arg2)) ⟨512 * t.val + r.val, by omega⟩ k).symm
  blk_point [iblk, V, idx_rows t]

theorem blk_y2 (r k : Fin 512) : (iblk m c 3 t : Vec Ideal S512x512 .bf16) (ix2 r k) = (args m c).y 2 (512 * t.val + r.val) k.val := by
  have ht := point_lt t
  refine Eq.trans ?_ (at2_of (a := 32768) (b := 512) (m ((c.tc : Thread nD τ).loc main_arg3)) ⟨512 * t.val + r.val, by omega⟩ k).symm
  blk_point [iblk, V, idx_rows t]

theorem blk_norm (k : Fin 1024) : (iblk m c 4 t : Vec Ideal S1x1024 .f32) (ix2 0 k) = (args m c).norm k.val := by
  have e : ((cfg0.win 4).blk t).view.emb (ix2 0 k) = ix2 0 k := by blk_ext [idx_whole t]
  unfold iblk
  change V m c (Pipeline.arrRef spec0 4) (((cfg0.win 4).blk t).view.emb (ix2 0 k)) = _
  rw [e, V_norm]
  refine Eq.trans ?_ (at1_of (a := 1024) (m ((c.tc : Thread nD τ).loc main_arg4)) k).symm
  pointwise

theorem blk_wg (n : Fin 3) (k : Fin 1024) (x : Fin 1024) : (iblk m c 5 t : Vec Ideal S3x1024x1024 .bf16) (ix3 n k x) =
    (args m c).wg n.val k.val x.val := by
  have e : ((cfg0.win 5).blk t).view.emb (ix3 n k x) = ix3 n k x := by blk_ext [idx_whole t]
  unfold iblk
  change V m c (Pipeline.arrRef spec0 5) (((cfg0.win 5).blk t).view.emb (ix3 n k x)) = _
  rw [e, V_wg]
  refine Eq.trans ?_ (at3_of (a := 3) (b := 1024) (c := 1024) (m ((c.tc : Thread nD τ).loc main_arg5)) n k x).symm
  pointwise

theorem blk_wb (n : Fin 3) (k : Fin 512) (x : Fin 1024) : (iblk m c 6 t : Vec Ideal S3x512x1024 .bf16) (ix3 n k x) =
    (args m c).wb n.val k.val x.val := by
  have e : ((cfg0.win 6).blk t).view.emb (ix3 n k x) = ix3 n k x := by blk_ext [idx_whole t]
  unfold iblk
  change V m c (Pipeline.arrRef spec0 6) (((cfg0.win 6).blk t).view.emb (ix3 n k x)) = _
  rw [e, V_wb]
  refine Eq.trans ?_ (at3_of (a := 3) (b := 512) (c := 1024) (m ((c.tc : Thread nD τ).loc main_arg6)) n k x).symm
  pointwise

theorem blk_wo (k x : Fin 1024) : (iblk m c 7 t : Vec Ideal S1024x1024 .bf16) (ix2 k x) = (args m c).wo k.val x.val := by
  have e : ((cfg0.win 7).blk t).view.emb (ix2 k x) = ix2 k x := by blk_ext [idx_whole t]
  unfold iblk
  change V m c (Pipeline.arrRef spec0 7) (((cfg0.win 7).blk t).view.emb (ix2 k x)) = _
  rw [e, V_wo]
  refine Eq.trans ?_ (at2_of (a := 1024) (b := 1024) (m ((c.tc : Thread nD τ).loc main_arg7)) k x).symm
  pointwise

theorem blk_norm2 (k : Fin 1024) : (iblk m c 8 t : Vec Ideal S1x1024 .f32) (ix2 0 k) = (args m c).norm2 k.val := by
  have e : ((cfg0.win 8).blk t).view.emb (ix2 0 k) = ix2 0 k := by blk_ext [idx_whole t]
  unfold iblk
  change V m c (Pipeline.arrRef spec0 8) (((cfg0.win 8).blk t).view.emb (ix2 0 k)) = _
  rw [e, V_norm2]
  refine Eq.trans ?_ (at1_of (a := 1024) (m ((c.tc : Thread nD τ).loc main_arg8)) k).symm
  pointwise

theorem holds : Holds (args m c) (512 * t.val) (insAt m c t) where
  x := blk_x m c t
  y0 := blk_y0 m c t
  y1 := blk_y1 m c t
  y2 := blk_y2 m c t
  norm := blk_norm m c t
  wg := blk_wg m c t
  wb := blk_wb m c t
  wo := blk_wo m c t
  norm2 := blk_norm2 m c t

/-! What each point leaves, and the two results after the run. -/

theorem left_xo : (outsAt m c t.val t.isLt).xo = xoOf (insAt m c t) := by
  by_cases h : t.val = 0
  · rw [outsAt_first m c t h]
    exact xo_first _ _ _ _ _
  · rw [outsAt_later m c t h]
    exact xo_later _ _ _ _ _ _

theorem left_h2 : (outsAt m c t.val t.isLt).h2 = rowsOf (h2Of (insAt m c t)) := by
  by_cases h : t.val = 0
  · rw [outsAt_first m c t h]
    exact h2_first _ _ _ _ _
  · rw [outsAt_later m c t h]
    exact h2_later _ _ _ _ _ _

/-- The rows after the merge. -/
def xoArr : FVec Ideal S32768x1024 .f32 := fun i => (args m c).xo (i 0).val (i 1).val

/-- Their norms, in rows of 128. -/
def h2Arr : FVec Ideal S262144x128 .f32 := fun i => (args m c).h2 ((i 0).val / 8) (128 * ((i 0).val % 8) + (i 1).val)

theorem out_xo : (dats m 0 c).arrAt 12 cfg0.N = xoArr m c := by
  refine (dats m 0 c).arrAt_eq_of_covers 12 _ (by decide +kernel) (fun t hf y => ?_)
  blk_simp
  rw [after_xo, left_xo]
  refine (congrArg _ (eq_ix2 (n0 := 512) (n1 := 1024) y)).trans ((xoOf_at (holds m c t) (y 0 : Fin 512) (y 1 : Fin 1024)).trans ?_)
  unfold xoArr
  blk_simp [idx_rows t]
  rw [Nat.mul_comm 512]

theorem out_h2 : (dats m 0 c).arrAt 13 cfg0.N = h2Arr m c := by
  refine (dats m 0 c).arrAt_eq_of_covers 13 _ (by decide +kernel) (fun t hf y => ?_)
  blk_simp
  rw [after_h2, left_h2]
  refine (h2Of_at (holds m c t) _ _).trans ?_
  unfold h2Arr
  blk_simp [idx_rows t]
  exact congrArg₂ (args m c).h2 (by dsimp only; omega) (by dsimp only; omega)

end Cert.MergeIdeal.Whole

end
-- ==== Proof.MergeTie.lean ====
module

public import proofs.«01_k».proof.Proof.MergeRefVal
public import proofs.«01_k».proof.Proof.MergeBlocks

/-! The merge's two programs side by side: on memories that agree on the arguments, the reference's results are the kernel's. -/

@[expose] public section

set_option maxRecDepth 16384

noncomputable section

namespace Cert.Merge

open Idealize.ShloMosaic Idealize.ShloMosaic.TcCoe Idealize.SL.Sem
open Cert.MergeRefIdeal.Merge (outRows outRows_at laneRows laneRows_at)
open Cert.MergeRefIdeal Cert.MergeRefIdeal.Gen

variable (m : (ℓ : Loc MergeIdeal.nD MergeIdeal.τ MergeIdeal.sig) → Buf (Elt Ideal) ℓ)
  (m' : (ℓ : Loc MergeRefIdeal.nD MergeRefIdeal.τ MergeRefIdeal.sig) → Buf (Elt Ideal) ℓ) (c : Dev MergeIdeal.nD)

/-- The memories agree on the arguments the two results depend on. -/
def Agree : Prop :=
  m' (c.tc.loc MergeRefIdeal.main_arg0) = m (c.tc.loc MergeIdeal.main_arg0) ∧
  m' (c.tc.loc MergeRefIdeal.main_arg1) = m (c.tc.loc MergeIdeal.main_arg1) ∧
  m' (c.tc.loc MergeRefIdeal.main_arg2) = m (c.tc.loc MergeIdeal.main_arg2) ∧
  m' (c.tc.loc MergeRefIdeal.main_arg3) = m (c.tc.loc MergeIdeal.main_arg3) ∧
  m' (c.tc.loc MergeRefIdeal.main_arg4) = m (c.tc.loc MergeIdeal.main_arg4) ∧
  m' (c.tc.loc MergeRefIdeal.main_arg5) = m (c.tc.loc MergeIdeal.main_arg5) ∧
  m' (c.tc.loc MergeRefIdeal.main_arg6) = m (c.tc.loc MergeIdeal.main_arg6) ∧
  m' (c.tc.loc MergeRefIdeal.main_arg7) = m (c.tc.loc MergeIdeal.main_arg7) ∧
  m' (c.tc.loc MergeRefIdeal.main_arg8) = m (c.tc.loc MergeIdeal.main_arg8)

variable {m m' c} (h : Agree m m' c)
include h

theorem tie_xo : MergeRefIdeal.Value.res_out0 m' c = MergeIdeal.Whole.xoArr m c := by
  obtain ⟨h0, h1, h2, h3, h4, h5, h6, h7, h8⟩ := h
  change outRows (m' (c.tc.loc MergeRefIdeal.main_arg0)) (m' (c.tc.loc MergeRefIdeal.main_arg1)) (m' (c.tc.loc MergeRefIdeal.main_arg2))
    (m' (c.tc.loc MergeRefIdeal.main_arg3)) (m' (c.tc.loc MergeRefIdeal.main_arg4)) (m' (c.tc.loc MergeRefIdeal.main_arg5))
    (m' (c.tc.loc MergeRefIdeal.main_arg6)) (m' (c.tc.loc MergeRefIdeal.main_arg7)) = _
  rw [h0, h1, h2, h3, h4, h5, h6, h7]
  funext i
  rw [eq_ix2 (n0 := 32768) (n1 := 1024) i]
  exact outRows_at _ _ _ _ _ _ _ _ (m (c.tc.loc MergeIdeal.main_arg8)) _ _

theorem tie_h2 : MergeRefIdeal.Value.res_out1 m' c = MergeIdeal.Whole.h2Arr m c := by
  obtain ⟨h0, h1, h2, h3, h4, h5, h6, h7, h8⟩ := h
  change laneRows (m' (c.tc.loc MergeRefIdeal.main_arg0)) (m' (c.tc.loc MergeRefIdeal.main_arg1)) (m' (c.tc.loc MergeRefIdeal.main_arg2))
    (m' (c.tc.loc MergeRefIdeal.main_arg3)) (m' (c.tc.loc MergeRefIdeal.main_arg4)) (m' (c.tc.loc MergeRefIdeal.main_arg5))
    (m' (c.tc.loc MergeRefIdeal.main_arg6)) (m' (c.tc.loc MergeRefIdeal.main_arg7)) (m' (c.tc.loc MergeRefIdeal.main_arg8)) = _
  rw [h0, h1, h2, h3, h4, h5, h6, h7, h8]
  funext i
  rw [eq_ix2 (n0 := 262144) (n1 := 128) i]
  exact laneRows_at _ _ _ _ _ _ _ _ _ _ _

end Cert.Merge

end
-- ==== Proof.SelectKernel.lean ====
module

public import proofs.«01_k».proof.Proof.Gen.SelectIdeal.Value
public import Idealize.ShloMosaic.Lib.Pipeline.ValueKit
public import Idealize.ShloMosaic.Lib.StableHlo.RunRead
public import Idealize.ShloMosaic.Lib.KernelVsHost

/-! The second array that the block choice leaves: each head's keys, followed by the number of the position's own block as a row of
zeros with a single one. -/

@[expose] public section

set_option maxRecDepth 16384

noncomputable section

namespace Select

open Idealize.ShloMosaic Idealize.ShloMosaic.TcCoe

/-- Column `x` of a row: the head's 64 keys, then the one-hot row of the own block `own`. -/
def row (key : ℕ → Ideal .f32) (own x : ℕ) : Ideal .f32 :=
  if x < 64 then key x else if x - 64 = own then 1 else 0

end Select

namespace Cert.SelectIdeal.Select

open Cert.SelectIdeal Cert.SelectIdeal.Gen Cert.SelectIdeal.Value
open Idealize.ShloMosaic Idealize.ShloMosaic.TcCoe Idealize.SL.Sem
open _root_.Select (row)

/-- The test on the column's number, on words. -/
theorem lt64 : ∀ x : Fin 128, IntOp.cmpi .slt (BitVec.ofNat 32 x.val) 64#32 = BitVec.ofBool (decide (x.val < 64)) := by decide +kernel

theorem own_eq : ∀ (x : Fin 128) (n : Fin 32), 64 ≤ x.val →
    IntOp.cmpi .eq (BitVec.ofNat 32 x.val - 64#32) (BitVec.ofNat 32 n.val) = BitVec.ofBool (decide (x.val - 64 = n.val)) := by decide +kernel

theorem onehot_at (i : grid0.Coords) (r : Fin 256) (x : Fin 128) (hx : 64 ≤ x.val) :
    k0_pay5 (F := Ideal) i (ix2 r x) = if x.val - 64 = (i 1).val then 1 else 0 := by
  have h := own_eq x (i 1) hx
  pointwise [k0_pay5]
  refine (congrArg (Scalar.select · (1 : Ideal .f32) 0) h).trans ?_
  by_cases hc : x.val - 64 = (i 1).val
  · rw [decide_eq_true hc, if_pos hc]
    rfl
  · rw [decide_eq_false hc, if_neg hc]
    rfl

theorem even_at (i : grid0.Coords) (w : FVec Ideal S256x128 .f32) (key : ℕ → Ideal .f32) (r : Fin 256) (x : Fin 128)
    (hw : x.val < 64 → w (ix2 r x) = key x.val) :
    k0_pay22 (F := Ideal) (iota .tc S256x128 32 [1] iota_S256x128_d1_w32) (k0_pay5 i) w (ix4 0 0 r x) = row key (i 1).val x.val := by
  pointwise [k0_pay22]
  rw [lt64 x]
  unfold row
  by_cases hx : x.val < 64
  · rw [if_pos hx, decide_eq_true hx]
    exact hw hx
  · rw [if_neg hx, decide_eq_false hx]
    exact onehot_at i r x (by omega)

theorem odd_at (i : grid0.Coords) (w : FVec Ideal S256x128 .f32) (key : ℕ → Ideal .f32) (r : Fin 256) (x : Fin 128)
    (hw : ∀ hx : x.val < 64, w (ix2 r ⟨64 + x.val, by omega⟩) = key x.val) :
    k0_pay36 (F := Ideal) (iota .tc S256x128 32 [1] iota_S256x128_d1_w32) (k0_pay5 i) w (ix4 0 0 r x) = row key (i 1).val x.val := by
  pointwise [k0_pay36]
  rw [lt64 x]
  unfold row
  by_cases hx : x.val < 64
  · rw [if_pos hx, decide_eq_true hx]
    refine Eq.trans ?_ (hw hx)
    exact congrArg (fun n => w (ix2 r n)) (Fin.ext (by dsimp only; omega))
  · rw [if_neg hx, decide_eq_false hx]
    exact onehot_at i r x (by omega)

/-- A head's keys in the block. -/
abbrev headKeys (x1 : Vec Ideal S1x256x512 .bf16) (y : S1x8x256x128.Idx) (n : ℕ) : Ideal .f32 :=
  if h : 64 * (y 1).val + n < 512 then x1 (ix3 0 (y 2 : Fin 256) ⟨64 * (y 1).val + n, h⟩) else 0

theorem piece_ix (v : S1x1x256x128.Idx) : v = ix4 0 0 (v 2 : Fin 256) (v 3 : Fin 128) := by
  have e0 : v 0 = (0 : Fin 1) := Subsingleton.elim (α := Fin 1) _ _
  have e1 : v 1 = (0 : Fin 1) := Subsingleton.elim (α := Fin 1) _ _
  funext a
  fin_cases a
  · exact e0
  · exact e1
  · rfl
  · rfl

/-- The 128 columns of pair `p` of heads. -/
theorem pair_at (x1 : Vec Ideal S1x256x512 .bf16) (o : ℕ) (inb) (r : Fin 256) (x : Fin 128) (ho : o + x.val < 512) :
    k0_pay7 (F := Ideal) (View.ld x1 (Rect.unit (s := S1x256x512) ![0, 0, o] S1x256x128.size inb)) (ix2 r x) = x1 (ix3 0 r ⟨o + x.val, ho⟩) := by
  pointwise [k0_pay7]

/-- The piece of an even head, and of an odd one. -/
theorem even_piece (i : grid0.Coords) (x1 : Vec Ideal S1x256x512 .bf16) (v : S1x1x256x128.Idx) (y : S1x8x256x128.Idx) (p o : ℕ) {inb}
    (ho : o = 128 * p) (h1 : (y 1).val = 2 * p) (h2 : (y 2).val = (v 2).val) (h3 : (y 3).val = (v 3).val) :
    k0_pay22 (F := Ideal) (iota .tc S256x128 32 [1] iota_S256x128_d1_w32) (k0_pay5 i)
      (k0_pay7 (View.ld x1 (Rect.unit (s := S1x256x512) ![0, 0, o] S1x256x128.size inb))) v = row (headKeys x1 y) (i 1).val (y 3).val := by
  have hy : (y 1).val < 8 := (y 1).isLt
  have e2 : (v 2 : Fin 256) = (y 2 : Fin 256) := Fin.ext h2.symm
  rw [piece_ix v, h3]
  refine even_at i _ _ _ _ fun hx => ?_
  have hl : 64 * (y 1).val + (v 3).val < 512 := by omega
  refine (pair_at x1 o _ _ _ (by omega)).trans (Eq.trans ?_ (dif_pos hl).symm)
  rw [e2]
  exact congrArg (fun n => x1 (ix3 0 (y 2 : Fin 256) n)) (Fin.ext (by dsimp only; omega))

theorem odd_piece (i : grid0.Coords) (x1 : Vec Ideal S1x256x512 .bf16) (v : S1x1x256x128.Idx) (y : S1x8x256x128.Idx) (p o : ℕ) {inb}
    (ho : o = 128 * p) (h1 : (y 1).val = 2 * p + 1) (h2 : (y 2).val = (v 2).val) (h3 : (y 3).val = (v 3).val) :
    k0_pay36 (F := Ideal) (iota .tc S256x128 32 [1] iota_S256x128_d1_w32) (k0_pay5 i)
      (k0_pay7 (View.ld x1 (Rect.unit (s := S1x256x512) ![0, 0, o] S1x256x128.size inb))) v = row (headKeys x1 y) (i 1).val (y 3).val := by
  have hy : (y 1).val < 8 := (y 1).isLt
  have e2 : (v 2 : Fin 256) = (y 2 : Fin 256) := Fin.ext h2.symm
  rw [piece_ix v, h3]
  refine odd_at i _ _ _ _ fun hx => ?_
  have hl : 64 * (y 1).val + (v 3).val < 512 := by omega
  refine (pair_at x1 o _ _ _ (by dsimp only; omega)).trans (Eq.trans ?_ (dif_pos hl).symm)
  rw [e2]
  exact congrArg (fun n => x1 (ix3 0 (y 2 : Fin 256) n)) (Fin.ext (by dsimp only; omega))

/-- A block of the array, from the block of the keys. -/
theorem block_at (i : grid0.Coords) (x0 x1 : Vec Ideal S1x256x512 .bf16) (x2 : Vec Ideal S1x32x512 .f32) (y : S1x8x256x128.Idx) :
    out0_4 i x0 x1 x2 y = row (headKeys x1 y) (i 1).val (y 3).val := by
  unfold_out out0_4
  canon_tiles v z
  case piece0 => exact odd_piece i x1 v y 3 _ rfl (by omega) (by omega) (by omega)
  case piece1 => exact even_piece i x1 v y 3 _ rfl (by omega) (by omega) (by omega)
  case piece2 => exact odd_piece i x1 v y 2 _ rfl (by omega) (by omega) (by omega)
  case piece3 => exact even_piece i x1 v y 2 _ rfl (by omega) (by omega) (by omega)
  case piece4 => exact odd_piece i x1 v y 1 _ rfl (by omega) (by omega) (by omega)
  case piece5 => exact even_piece i x1 v y 1 _ rfl (by omega) (by omega) (by omega)
  case piece6 => exact odd_piece i x1 v y 0 _ rfl (by omega) (by omega) (by omega)
  case piece7 => exact even_piece i x1 v y 0 _ rfl (by omega) (by omega) (by omega)

variable (m : (ℓ : Loc nD τ sig) → Buf (Elt Ideal) ℓ) (c : Dev nD)

theorem idx_blocks : ∀ t : Fin cfg0.N, win0_1.index t = ![t.val / 32, t.val % 32, 0] ∧ win0_4.index t = ![t.val / 32, 0, t.val % 32, 0]
    ∧ (grid0.coords t 1).val = t.val % 32 :=
  (by decide +kernel : ∀ t : Fin grid0.N, _)

theorem point_lt (t : Fin cfg0.N) : t.val < 128 := lt_of_lt_of_eq t.isLt (show cfg0.N = 128 from N_0)

theorem blk_keys (t : Fin cfg0.N) (r : Fin 256) (x : Fin 512) : (iblk m c 1 t : Vec Ideal S1x256x512 .bf16) (ix3 0 r x) =
    (m ((c.tc : Thread nD τ).loc main_arg1) : Vec Ideal S4x8192x512 .bf16)
      (ix3 (⟨t.val / 32, by have := point_lt t; omega⟩ : Fin 4) (⟨256 * (t.val % 32) + r.val, by omega⟩ : Fin 8192) x) := by
  have ht := point_lt t
  blk_point [iblk, V, idx_blocks t]

/-- The array after the run. -/
def joined (k : (⟨3, ![4, 8192, 512]⟩ : Shape).Idx → Ideal .f32) : (⟨4, ![4, 8, 8192, 128]⟩ : Shape).Idx → Ideal .f32 := fun i =>
  row (fun n => if h : 64 * (i 1).val + n < 512 then k (ix3 (i 0 : Fin 4) (i 2 : Fin 8192) ⟨64 * (i 1).val + n, h⟩) else 0)
    ((i 2).val / 256) (i 3).val

theorem out_keys : (dats m 0 c).arrAt 4 cfg0.N = joined (m ((c.tc : Thread nD τ).loc main_arg1)) := by
  refine (dats m 0 c).arrAt_eq_of_covers 4 _ (by decide +kernel) (fun t hf y => ?_)
  blk_simp
  rw [after0_4]
  refine (block_at _ _ _ _ y).trans ?_
  unfold joined
  rw [(idx_blocks t).2.2]
  blk_simp [idx_blocks t]
  have ht := point_lt t
  have y0 : (y 0).val < 1 := (y 0).isLt
  have y2 : (y 2).val < 256 := (y 2).isLt
  refine congrArg₂ (fun key own => row key own (y 3).val) (funext fun n => ?_) (by omega)
  by_cases h : 64 * (y 1).val + n < 512
  · refine (dif_pos h).trans (Eq.trans ?_ (dif_pos h).symm)
    refine (blk_keys m c t _ _).trans ?_
    refine congrArg (m ((c.tc : Thread nD τ).loc main_arg1)) ?_
    blk_ext [idx_blocks t]
  · unfold headKeys
    rw [dif_neg h, dif_neg h]

end Cert.SelectIdeal.Select

end
-- ==== Proof.SelectRefVal.lean ====
module

public import proofs.«01_k».proof.Proof.Gen.SelectRefIdeal.Run
public import proofs.«01_k».proof.Proof.SelectKernel
public import Idealize.ShloMosaic.Lib.Pipeline.Value

/-! The reference of the block choice's second array, at an index. -/

@[expose] public section

set_option maxRecDepth 16384

noncomputable section

namespace Cert.SelectRefIdeal.Select

open Cert.SelectRefIdeal Cert.SelectRefIdeal.Gen
open Idealize.ShloMosaic Idealize.ShloMosaic.TcCoe Idealize.SL.Sem
open _root_.Select (row)

/-- The positions' own blocks: each position's number divided by 256, rounded down. -/
def ownId : IVec S8192 32 :=
  select
    (andi
      (cmpi .ne (signi (iotaInDim S8192 32 0)) (broadcastInDim S8192 ![] bcast_S_S8192 (signi (constantI S_ 32 256#32))))
      (cmpi .ne (Host.remsi (iotaInDim S8192 32 0) (broadcastInDim S8192 ![] bcast_S_S8192 (constantI S_ 32 256#32)))
        (broadcastInDim S8192 ![] bcast_S_S8192 (constantI S_ 32 0#32))))
    (subi (Host.divsi (iotaInDim S8192 32 0) (broadcastInDim S8192 ![] bcast_S_S8192 (constantI S_ 32 256#32)))
      (broadcastInDim S8192 ![] bcast_S_S8192 (constantI S_ 32 1#32)))
    (Host.divsi (iotaInDim S8192 32 0) (broadcastInDim S8192 ![] bcast_S_S8192 (constantI S_ 32 256#32)))

theorem ownId_at : ∀ s : Fin 8192, ownId (ix1 s) = BitVec.ofNat 32 (s.val / 256) := by
  intro s
  pointwise [ownId]
  revert s
  decide +kernel

theorem same : ∀ a b : Fin 32, IntOp.cmpi .eq (BitVec.ofNat 32 a.val) (BitVec.ofNat 32 b.val) = BitVec.ofBool (decide (b.val = a.val)) := by
  decide +kernel

/-- The three parts of a row. -/
def keys (k : FVec Ideal S4x8192x512 .bf16) : FVec Ideal S4x8x8192x64 .f32 :=
  transpose S4x8x8192x64 [0, 2, 1, 3] (shapeCast _ (extf .f32 k bitsLt_bf16_f32) shapeCasts_S4x8192x512_S4x8192x8x64)
    transposes_S4x8192x8x64_S4x8x8192x64_0_2_1_3

def onehot : FVec Ideal S4x8x8192x32 .f32 :=
  broadcastInDim S4x8x8192x32 ![2, 3] bcast_S8192x32_S4x8x8192x32_2_3
    (select (cmpi .eq (broadcastInDim S8192x32 ![0, 1] bcast_S8192x1_S8192x32_0_1 (broadcastInDim S8192x1 ![0] bcast_S8192_S8192x1_0 ownId))
      (broadcastInDim S8192x32 ![0, 1] bcast_S1x32_S8192x32_0_1 (broadcastInDim S1x32 ![1] bcast_S32_S1x32_1 (iotaInDim S32 32 0))))
      (broadcastInDim S8192x32 ![] bcast_S_S8192x32 (constant S_ .f32 0x3F800000#32))
      (broadcastInDim S8192x32 ![] bcast_S_S8192x32 (constant S_ .f32 0x00000000#32)))

def rest : FVec Ideal S4x8x8192x32 .f32 := broadcastInDim S4x8x8192x32 ![] bcast_S_S4x8x8192x32 (constant S_ .f32 0x00000000#32)

def result (k : FVec Ideal S4x8192x512 .bf16) : FVec Ideal S4x8x8192x128 .bf16 :=
  truncf .bf16 (concatenate S4x8x8192x128 3 [⟨S4x8x8192x64, keys k⟩, ⟨S4x8x8192x32, onehot⟩, ⟨S4x8x8192x32, rest⟩]
    concatenates_S4x8x8192x64_S4x8x8192x32_S4x8x8192x32_S4x8x8192x128_d3 : FVec Ideal S4x8x8192x128 .f32) bitsLt_bf16_f32

theorem keys_at (k : FVec Ideal S4x8192x512 .bf16) (b : Fin 4) (h : Fin 8) (s : Fin 8192) (x : Fin 64) :
    keys k (ix4 b h s x) = k (ix3 b s ⟨64 * h.val + x.val, by omega⟩) := by
  pointwise [keys]
  exact congrArg (fun n => k (ix3 b s n)) (Fin.ext (by dsimp only; omega))

theorem onehot_at (b : Fin 4) (h : Fin 8) (s : Fin 8192) (x : Fin 32) :
    onehot (ix4 b h s x) = if x.val = s.val / 256 then 1 else 0 := by
  have e := ownId_at s
  pointwise [onehot]
  refine (congrArg (Scalar.select · (1 : Ideal .f32) 0) ((congrArg (IntOp.cmpi .eq · _) e).trans (same ⟨s.val / 256, by omega⟩ x))).trans ?_
  by_cases hc : x.val = s.val / 256
  · rw [if_pos hc]
    exact congrArg (Scalar.select · (1 : Ideal .f32) 0) (congrArg BitVec.ofBool (decide_eq_true hc))
  · rw [if_neg hc]
    exact congrArg (Scalar.select · (1 : Ideal .f32) 0) (congrArg BitVec.ofBool (decide_eq_false hc))

theorem rest_at (i : S4x8x8192x32.Idx) : rest i = 0 := by
  pointwise [rest]

theorem result_at (k : FVec Ideal S4x8192x512 .bf16) (b : Fin 4) (h : Fin 8) (s : Fin 8192) (x : Fin 128) :
    result k (ix4 b h s x) = Cert.SelectIdeal.Select.joined k (ix4 b h s x) := by
  pointwise [result]
  refine Eq.trans ?_ (show row (fun n => if h' : 64 * h.val + n < 512 then k (ix3 b s ⟨64 * h.val + n, h'⟩) else 0) (s.val / 256) x.val =
    Cert.SelectIdeal.Select.joined k (ix4 b h s x) from rfl)
  unfold row
  have hs : s.val / 256 < 32 := by omega
  by_cases hx : x.val < 64
  · rw [dif_pos hx, if_pos hx]
    exact (keys_at k b h s ⟨x.val, hx⟩).trans
      (dif_pos (c := 64 * h.val + x.val < 512) (t := fun h' => k (ix3 b s ⟨64 * h.val + x.val, h'⟩)) (e := fun _ => 0) (by omega)).symm
  · rw [dif_neg hx, if_neg hx]
    by_cases hy : x.val - 64 < 32
    · rw [dif_pos hy]
      exact onehot_at b h s ⟨x.val - 64, hy⟩
    · rw [dif_neg hy]
      exact (rest_at _).trans (if_neg (by omega)).symm

/-- The reference's array is the kernel's. -/
theorem result_eq (k : FVec Ideal S4x8192x512 .bf16) : result k = Cert.SelectIdeal.Select.joined k := by
  funext i
  obtain ⟨b, h, s, x, rfl⟩ : ∃ (b : Fin 4) (h : Fin 8) (s : Fin 8192) (x : Fin 128), i = ix4 b h s x :=
    ⟨i 0, i 1, i 2, i 3, eq_ix4 (n0 := 4) (n1 := 8) (n2 := 8192) (n3 := 128) i⟩
  exact result_at k b h s x

end Cert.SelectRefIdeal.Select

end
-- ==== Proof.lean ====
/- The claims. The linear attention's and the input projection's frames are their generated ones and their values are read off their
   generated runs; the merge call's run is proved in `Proof/MergeFrame.lean`, for any float values, and both its frames and its value
   come from it; the references' frames and values are their generated runs'. `Proof/GlaTie.lean`, `Proof/InprojTie.lean` and
   `Proof/MergeTie.lean` put the two programs' results side by side. The block choice's frames are its generated ones; its second array is
   read in `Proof/SelectKernel.lean`, and its reference's in `Proof/SelectRefVal.lean`. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.GlaTie
public import proofs.«01_k».proof.Proof.Gen.Inproj.Frame
public import proofs.«01_k».proof.Proof.Gen.InprojIdeal.Value
public import proofs.«01_k».proof.Proof.Gen.InprojRefIdeal.Run
public import proofs.«01_k».proof.Proof.InprojTie
public import proofs.«01_k».proof.Proof.Gen.Merge
public import proofs.«01_k».proof.Proof.MergeTie
public import proofs.«01_k».proof.Proof.Gen.Select.Frame
public import proofs.«01_k».proof.Proof.Gen.SelectIdeal.Value
public import proofs.«01_k».proof.Proof.Gen.SelectRefIdeal.Run
public import proofs.«01_k».proof.Proof.SelectRefVal
public import Idealize.ShloMosaic.Lib.Claim
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  exact Cert.Gla.tie m m' c (hagree c)

theorem quiescent_InprojRefIdeal : quiescent_InprojRefIdeal := fun m ρ _ =>
  (θ_run Cert.InprojRefIdeal.defs _ _).mono (fun r h => ⟨fun c => (h c).2.2.2.2.2.2.2.2.2.2, sem_eq_zero_of_no_sems (by decide) r.2⟩)
    (Cert.InprojRefIdeal.Value.run (F := Ideal) m ρ)

/-- Outside the mask, nothing is said of the queries, the keys and the mean keys. -/
theorem algebraic_InprojIdeal_InprojRefIdeal_on_finite_heads :
    @algebraic_InprojIdeal_InprojRefIdeal_on_finite_heads Cert.InprojIdeal.Gen.facts Cert.InprojRefIdeal.Gen.facts Cert.On_finite_heads.facts := by
  intro m ρ m' ρ' _ hagree
  refine ⟨Cert.InprojIdeal.Value.G8 m, Cert.InprojIdeal.Value.G9 m, Cert.InprojIdeal.Value.G10 m, Cert.InprojIdeal.Value.G11 m,
    Cert.InprojIdeal.Value.G12 m, Cert.InprojIdeal.Value.G13 m, Cert.InprojIdeal.Value.G14 m, Cert.InprojIdeal.Value.G15 m,
    Cert.InprojIdeal.Value.G16 m, Cert.InprojIdeal.Value.G17 m, ?_, ?_⟩
  · refine (θ_run Cert.InprojIdeal.defs _ _).mono (fun _ h c => ?_) (Cert.InprojIdeal.Value.run (F := Ideal) m ρ)
    exact ⟨fun i _ => congrFun (h c).1 i,
      fun i _ => congrFun (h c).2.1 i,
      fun i _ => congrFun (h c).2.2.1 i,
      fun i _ => congrFun (h c).2.2.2.1 i,
      fun i _ => congrFun (h c).2.2.2.2.1 i,
      fun i _ => congrFun (h c).2.2.2.2.2.1 i,
      fun i _ => congrFun (h c).2.2.2.2.2.2.1 i,
      fun i _ => congrFun (h c).2.2.2.2.2.2.2.1 i,
      fun i _ => congrFun (h c).2.2.2.2.2.2.2.2.1 i,
      fun i _ => congrFun (h c).2.2.2.2.2.2.2.2.2.1 i,
      (h c).2.2.2.2.2.2.2.2.2.2⟩
  · refine (θ_run Cert.InprojRefIdeal.defs _ _).mono (fun _ h c => ?_) (Cert.InprojRefIdeal.Value.run (F := Ideal) m' ρ')
    exact ⟨fun i _ => (congrFun (h c).1 i).trans (congrFun (Cert.Inproj.tie_conv (hagree c)) i),
      fun i hi => (congrFun (h c).2.1 i).trans (Cert.Inproj.tie_queries (hagree c) i hi),
      fun i hi => (congrFun (h c).2.2.1 i).trans (Cert.Inproj.tie_keys (hagree c) i hi),
      fun i _ => (congrFun (h c).2.2.2.1 i).trans (congrFun (Cert.Inproj.tie_values (hagree c)) i),
      fun i hi => (congrFun (h c).2.2.2.2.1 i).trans (Cert.Inproj.tie_means (hagree c) i hi),
      fun i _ => (congrFun (h c).2.2.2.2.2.1 i).trans (congrFun (Cert.Inproj.tie_gq (hagree c)) i),
      fun i _ => (congrFun (h c).2.2.2.2.2.2.1 i).trans (congrFun (Cert.Inproj.tie_gk (hagree c)) i),
      fun i _ => (congrFun (h c).2.2.2.2.2.2.2.1 i).trans (congrFun (Cert.Inproj.tie_gv (hagree c)) i),
      fun i _ => (congrFun (h c).2.2.2.2.2.2.2.2.1 i).trans (congrFun (Cert.Inproj.tie_gr (hagree c)) i),
      fun i _ => (congrFun (h c).2.2.2.2.2.2.2.2.2.1 i).trans (congrFun (Cert.Inproj.tie_gz (hagree c)) i),
      (h c).2.2.2.2.2.2.2.2.2.2⟩

/-! The merge call. -/

/-- Its semaphores end at zero, for any float values. -/
theorem merge_sems {F : FTy → Type} [FloatOps F] (m : (ℓ : Loc Cert.MergeIdeal.nD Cert.MergeIdeal.τ Cert.MergeIdeal.sig) → Buf (Elt F) ℓ)
    (ρ : Dev Cert.MergeIdeal.nD → PrngReg) :
    θ_run Cert.MergeIdeal.defs (onTc (τ := Cert.MergeIdeal.τ) (Cert.MergeIdeal.main (F := F))) ⟨m, fun _ => 0, ρ⟩
      (fun r => r.2.sem = fun _ => 0) :=
  (θ_run Cert.MergeIdeal.defs _ _).mono (fun _ h => h.2) (Cert.MergeIdeal.Whole.run_main m ρ)

theorem quiescent_MergeIdeal : quiescent_MergeIdeal := fun m ρ _ =>
  θ_run_and (Cert.MergeIdeal.Gen.frame_of m ρ (Cert.MergeIdeal.Whole.dats m) (Cert.MergeIdeal.Whole.A_eq m) (Cert.MergeIdeal.Whole.run_arrays m ρ))
    (merge_sems m ρ)

/-- The program before its idealization has the same text, so its frame is the idealized program's over the hardware's
floats: the two statements are the same by computation. -/
theorem quiescent_Merge : quiescent_Merge := fun m ρ _ => by
  refine Eq.mp ?_ (θ_run_and (Cert.MergeIdeal.Gen.frame_of (F := Bits) m ρ (Cert.MergeIdeal.Whole.dats m)
    (Cert.MergeIdeal.Whole.A_eq m) (Cert.MergeIdeal.Whole.run_arrays m ρ)) (merge_sems (F := Bits) m ρ))
  sl_kernel_rfl

theorem quiescent_MergeRefIdeal : quiescent_MergeRefIdeal := fun m ρ _ =>
  (θ_run Cert.MergeRefIdeal.defs _ _).mono (fun r h => ⟨fun c => (h c).2.2, sem_eq_zero_of_no_sems (by decide) r.2⟩)
    (Cert.MergeRefIdeal.Value.run (F := Ideal) m ρ)

theorem algebraic_MergeIdeal_MergeRefIdeal : algebraic_MergeIdeal_MergeRefIdeal := by
  intro m ρ m' ρ' _ hagree
  refine ⟨Cert.MergeIdeal.Whole.xoArr m, Cert.MergeIdeal.Whole.h2Arr m, ?_, ?_⟩
  · refine (θ_run Cert.MergeIdeal.defs _ _).mono (fun _ h c => ?_) (θ_run_and (Cert.MergeIdeal.Whole.run_arrays m ρ)
      (Cert.MergeIdeal.Gen.frame_of m ρ (Cert.MergeIdeal.Whole.dats m) (Cert.MergeIdeal.Whole.A_eq m) (Cert.MergeIdeal.Whole.run_arrays m ρ)))
    exact ⟨((h.1 c).1 12).trans (Cert.MergeIdeal.Whole.out_xo m c), ((h.1 c).1 13).trans (Cert.MergeIdeal.Whole.out_h2 m c), h.2 c⟩
  · refine (θ_run Cert.MergeRefIdeal.defs _ _).mono (fun _ h c => ?_) (Cert.MergeRefIdeal.Value.run (F := Ideal) m' ρ')
    have hg : Cert.Merge.Agree m m' c :=
      ⟨(hagree c).1, (hagree c).2.1, (hagree c).2.2.1, (hagree c).2.2.2.1, (hagree c).2.2.2.2.1, (hagree c).2.2.2.2.2.1,
        (hagree c).2.2.2.2.2.2.1, (hagree c).2.2.2.2.2.2.2.1, (hagree c).2.2.2.2.2.2.2.2.1⟩
    exact ⟨(h c).1.trans (Cert.Merge.tie_xo hg), (h c).2.1.trans (Cert.Merge.tie_h2 hg), (h c).2.2⟩

/-! The block choice. -/

theorem quiescent_SelectRefIdeal : quiescent_SelectRefIdeal := fun m ρ _ =>
  (θ_run Cert.SelectRefIdeal.defs _ _).mono (fun r h => ⟨fun c => (h c).2, sem_eq_zero_of_no_sems (by decide) r.2⟩)
    (Cert.SelectRefIdeal.Value.run (F := Ideal) m ρ)

theorem algebraic_SelectIdeal_SelectRefIdeal : algebraic_SelectIdeal_SelectRefIdeal := by
  intro m ρ m' ρ' _ hagree
  refine ⟨fun c => Cert.SelectIdeal.Select.joined (m ((c.tc : Thread Cert.SelectIdeal.nD Cert.SelectIdeal.τ).loc Cert.SelectIdeal.main_arg1)), ?_, ?_⟩
  · exact (θ_run Cert.SelectIdeal.defs _ _).mono (fun _ h c => ⟨(h c).2.1.trans (Cert.SelectIdeal.Select.out_keys m c), (h c).2.2⟩)
      (Cert.SelectIdeal.Value.run_blocks m ρ)
  · refine (θ_run Cert.SelectRefIdeal.defs _ _).mono (fun _ h c => ⟨?_, (h c).2⟩) (Cert.SelectRefIdeal.Value.run (F := Ideal) m' ρ')
    exact ((h c).1.trans (Cert.SelectRefIdeal.Select.result_eq _)).trans (congrArg Cert.SelectIdeal.Select.joined (hagree c).2.1)

theorem claim : Cert.Claim := ⟨Cert.Kernel.Gen.facts, Cert.KernelIdeal.Gen.facts, Cert.ReferenceIdeal.Gen.facts, Cert.Inproj.Gen.facts,
  Cert.InprojIdeal.Gen.facts, Cert.InprojRefIdeal.Gen.facts, Cert.Merge.Gen.facts, Cert.MergeIdeal.Gen.facts, Cert.MergeRefIdeal.Gen.facts,
  Cert.Select.Gen.facts, Cert.SelectIdeal.Gen.facts, Cert.SelectRefIdeal.Gen.facts,
  Cert.On_finite_heads.facts,
  fun m ρ _ => Cert.Kernel.Gen.frame m ρ, fun m ρ _ => Cert.KernelIdeal.Gen.frame m ρ, quiescent_ReferenceIdeal,
  fun m ρ _ => Cert.Inproj.Gen.frame m ρ, fun m ρ _ => Cert.InprojIdeal.Gen.frame m ρ, quiescent_InprojRefIdeal,
  quiescent_Merge, quiescent_MergeIdeal, quiescent_MergeRefIdeal,
  fun m ρ _ => Cert.Select.Gen.frame m ρ, fun m ρ _ => Cert.SelectIdeal.Gen.frame m ρ, quiescent_SelectRefIdeal,
  (trivial : preserves_Kernel_KernelIdeal), algebraic_KernelIdeal_ReferenceIdeal,
  (trivial : preserves_Inproj_InprojIdeal), algebraic_InprojIdeal_InprojRefIdeal_on_finite_heads,
  (trivial : preserves_Merge_MergeIdeal), algebraic_MergeIdeal_MergeRefIdeal,
  (trivial : preserves_Select_SelectIdeal), algebraic_SelectIdeal_SelectRefIdeal⟩

end Cert.Proof

end
